-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 4096]⟩ ⟨3, ![2, 8192, 4096]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = Layout.blockN ⟨2, ![4096, 4096]⟩ ⟨2, ![8192, 4096]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S4096 : Shape := ⟨1, ![4096]⟩
abbrev S4x4 : Shape := ⟨2, ![4, 4]⟩
abbrev S16 : Shape := ⟨1, ![16]⟩
abbrev S2x4096x4096 : Shape := ⟨3, ![2, 4096, 4096]⟩
abbrev S1x4096 : Shape := ⟨2, ![1, 4096]⟩
abbrev S_ : Shape := ⟨0, ![]⟩
abbrev S1x1 : Shape := ⟨2, ![1, 1]⟩
abbrev S1 : Shape := ⟨1, ![1]⟩
abbrev S6 : Shape := ⟨1, ![6]⟩
abbrev S4096x4096 : Shape := ⟨2, ![4096, 4096]⟩
abbrev S256x4096 : Shape := ⟨2, ![256, 4096]⟩
abbrev S2x128x4096 : Shape := ⟨3, ![2, 128, 4096]⟩
abbrev S32x128x4096 : Shape := ⟨3, ![32, 128, 4096]⟩
abbrev S2 : Shape := ⟨1, ![2]⟩
abbrev S15 : Shape := ⟨1, ![15]⟩
abbrev S32 : Shape := ⟨1, ![32]⟩
abbrev S1x256x4096 : Shape := ⟨3, ![1, 256, 4096]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩

abbrev nBuf : Space → Nat
  | .hbm => 74
  | .vmem => 6
  | .smem => 1
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S4x4, .i32⟩
  | .hbm, ⟨3, _⟩ => ⟨S16, .i32⟩
  | .hbm, ⟨4, _⟩ => ⟨S16, .i32⟩
  | .hbm, ⟨5, _⟩ => ⟨S16, .i32⟩
  | .hbm, ⟨6, _⟩ => ⟨S16, .i32⟩
  | .hbm, ⟨7, _⟩ => ⟨S2x4096x4096, .f32⟩
  | .hbm, ⟨8, _⟩ => ⟨S1x4096, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x1, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S1, .i32⟩
  | .hbm, ⟨69, _⟩ => ⟨S1, .i32⟩
  | .hbm, ⟨70, _⟩ => ⟨S1, .i32⟩
  | .hbm, ⟨71, _⟩ => ⟨S1, .i32⟩
  | .hbm, ⟨72, _⟩ => ⟨S1, .i32⟩
  | .hbm, ⟨73, _⟩ => ⟨S4096x4096, .bf16⟩
  | .local _ .vmem, ⟨0, _⟩ => ⟨S1x4096, .f32⟩
  | .local _ .vmem, ⟨1, _⟩ => ⟨S256x4096, .f32⟩
  | .local _ .vmem, ⟨2, _⟩ => ⟨S256x4096, .f32⟩
  | .local _ .vmem, ⟨3, _⟩ => ⟨S2x128x4096, .bf16⟩
  | .local _ .vmem, ⟨4, _⟩ => ⟨S2x128x4096, .bf16⟩
  | .local _ .vmem, ⟨5, _⟩ => ⟨S32x128x4096, .bf16⟩
  | .local _ .smem, ⟨0, _⟩ => ⟨S6, .i32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 2 101 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_c_4 : Ref sig .tc := ⟨.hbm, 9, rfl⟩
abbrev main_c_5 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_6 : Ref sig .tc := ⟨.hbm, 15, rfl⟩
abbrev main_c_7 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_8 : Ref sig .tc := ⟨.hbm, 21, rfl⟩
abbrev main_c_9 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_10 : Ref sig .tc := ⟨.hbm, 27, rfl⟩
abbrev main_v15 : Ref sig .tc := ⟨.hbm, 28, rfl⟩
abbrev main_c_11 : Ref sig .tc := ⟨.hbm, 29, rfl⟩
abbrev main_v16 : Ref sig .tc := ⟨.hbm, 30, rfl⟩
abbrev main_v17 : Ref sig .tc := ⟨.hbm, 31, rfl⟩
abbrev main_c_12 : Ref sig .tc := ⟨.hbm, 32, rfl⟩
abbrev main_v18 : Ref sig .tc := ⟨.hbm, 33, rfl⟩
abbrev main_c_13 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_14 : Ref sig .tc := ⟨.hbm, 39, rfl⟩
abbrev main_v23 : Ref sig .tc := ⟨.hbm, 40, rfl⟩
abbrev main_c_15 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_16 : Ref sig .tc := ⟨.hbm, 46, rfl⟩
abbrev main_v28 : Ref sig .tc := ⟨.hbm, 47, rfl⟩
abbrev main_c_17 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_18 : Ref sig .tc := ⟨.hbm, 53, rfl⟩
abbrev main_v33 : Ref sig .tc := ⟨.hbm, 54, rfl⟩
abbrev main_c_19 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_20 : Ref sig .tc := ⟨.hbm, 60, rfl⟩
abbrev main_v38 : Ref sig .tc := ⟨.hbm, 61, rfl⟩
abbrev main_c_21 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v50 : Ref sig .tc := ⟨.hbm, 73, rfl⟩
abbrev main_v49 : Ref sig .tc := ⟨.smem, 0, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := ⟨1, ![1], ![false]⟩

abbrev pre0 : Pipeline.Prefetch sig := ⟨1, ![main_v49.idx], fun | 0 => main_v49.names | ⟨_ + 1, h⟩ => absurd h (Nat.not_lt.2 (Nat.le_add_left _ _)), fun | 0 => rfl | ⟨_ + 1, h⟩ => absurd h (Nat.not_lt.2 (Nat.le_add_left _ _))⟩

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c16_i32_4 : BitVec 32 := 16#32
  let v17 : BitVec 32 := Scalar.muli v10 c16_i32_4
  let v18 : BitVec 32 := Scalar.addi c0_i32 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v19 : BitVec 32 := Scalar.muli v5 c4_i32_5
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v21 : BitVec 32 := Scalar.muli v8 c1_i32_6
  let v22 : BitVec 32 := Scalar.addi v20 v21
  v22.toNat
def k0_dev2 (d0 : Dev nD) (v11 : BitVec 32) (v12 : BitVec 32) : Nat :=
  let c0_i32_9 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_8 : BitVec 32 := 16#32
  let v23 : BitVec 32 := Scalar.muli v2 c16_i32_8
  let v24 : BitVec 32 := Scalar.addi c0_i32_9 v23
  let c4_i32_10 : BitVec 32 := 4#32
  let v25 : BitVec 32 := Scalar.muli v11 c4_i32_10
  let v26 : BitVec 32 := Scalar.addi v24 v25
  let c1_i32_11 : BitVec 32 := 1#32
  let v27 : BitVec 32 := Scalar.muli v12 c1_i32_11
  let v28 : BitVec 32 := Scalar.addi v26 v27
  v28.toNat

def k0_dev3 (d0 : Dev nD) (v13 : BitVec 32) (v14 : BitVec 32) : Nat :=
  let c0_i32_14 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_13 : BitVec 32 := 16#32
  let v29 : BitVec 32 := Scalar.muli v2 c16_i32_13
  let v30 : BitVec 32 := Scalar.addi c0_i32_14 v29
  let c4_i32_15 : BitVec 32 := 4#32
  let v31 : BitVec 32 := Scalar.muli v13 c4_i32_15
  let v32 : BitVec 32 := Scalar.addi v30 v31
  let c1_i32_16 : BitVec 32 := 1#32
  let v33 : BitVec 32 := Scalar.muli v14 c1_i32_16
  let v34 : BitVec 32 := Scalar.addi v32 v33
  v34.toNat

def k0_off1 (d0 : Dev nD) (v9 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v15 : BitVec 32 := Scalar.muli v9 c256_i32
  let c0_i32_19 : BitVec 32 := 0#32
  ![v2.toNat, v15.toNat, 0]

def k0_off2 (d0 : Dev nD) (v9 : BitVec 32) : Fin 3 → Nat :=
  let c1_i32_17 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v35 : BitVec 32 := Scalar.subi c1_i32_17 v2
  let c256_i32 : BitVec 32 := 256#32
  let v15 : BitVec 32 := Scalar.muli v9 c256_i32
  let c0_i32_21 : BitVec 32 := 0#32
  ![v35.toNat, v15.toNat, 0]
def k0_dev4 (d0 : Dev nD) : Nat :=
  let c0_i32_33 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c16_i32_32 : BitVec 32 := 16#32
  let v53 : BitVec 32 := Scalar.muli v10 c16_i32_32
  let v54 : BitVec 32 := Scalar.addi c0_i32_33 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v55 : BitVec 32 := Scalar.muli v5 c4_i32_34
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v57 : BitVec 32 := Scalar.muli v8 c1_i32_35
  let v58 : BitVec 32 := Scalar.addi v56 v57
  v58.toNat
def k0_dev5 (d0 : Dev nD) : Nat :=
  let c0_i32_49 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c16_i32_48 : BitVec 32 := 16#32
  let v72 : BitVec 32 := Scalar.muli v10 c16_i32_48
  let v73 : BitVec 32 := Scalar.addi c0_i32_49 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v74 : BitVec 32 := Scalar.muli v5 c4_i32_50
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v76 : BitVec 32 := Scalar.muli v8 c1_i32_51
  let v77 : BitVec 32 := Scalar.addi v75 v76
  v77.toNat
def k0_off3 (v9 : BitVec 32) (c0_i32_80 : BitVec 32) : Fin 3 → Nat :=
  let c2_i32_79 : BitVec 32 := 2#32
  let v123 : BitVec 32 := Scalar.muli c2_i32_79 v9
  let v124 : BitVec 32 := Scalar.addi v123 c0_i32_80
  let v125 : Index := Scalar.indexCast v124
  let c0_81 : Index := 0#32
  let c0_82 : Index := 0#32
  ![v125.toNat, 0, 0]
def k0_off4 (v9 : BitVec 32) (c16_i32_83 : BitVec 32) (c0_i32_86 : BitVec 32) : Fin 1 → Nat :=
  let c2_i32_85 : BitVec 32 := 2#32
  let v129 : BitVec 32 := Scalar.addi v9 c16_i32_83
  let c16_i32_84 : BitVec 32 := 16#32
  let v130 : BitVec 32 := Scalar.remsi v129 c16_i32_84
  let v131 : BitVec 32 := Scalar.muli c2_i32_85 v130
  let v132 : BitVec 32 := Scalar.addi v131 c0_i32_86
  ![v132.toNat]
def k0_off4_at (r : Fin 32) : BitVec 32 × BitVec 32 :=
  if r.val < 16 then
    if r.val < 8 then
      if r.val < 4 then
        if r.val < 2 then
          if r.val < 1 then
            (16#32, 0#32)
          else
            (16#32, 1#32)
        else
          if r.val < 3 then
            (15#32, 0#32)
          else
            (17#32, 0#32)
      else
        if r.val < 6 then
          if r.val < 5 then
            (15#32, 1#32)
          else
            (17#32, 1#32)
        else
          if r.val < 7 then
            (14#32, 0#32)
          else
            (18#32, 0#32)
    else
      if r.val < 12 then
        if r.val < 10 then
          if r.val < 9 then
            (14#32, 1#32)
          else
            (18#32, 1#32)
        else
          if r.val < 11 then
            (13#32, 0#32)
          else
            (19#32, 0#32)
      else
        if r.val < 14 then
          if r.val < 13 then
            (13#32, 1#32)
          else
            (19#32, 1#32)
        else
          if r.val < 15 then
            (12#32, 0#32)
          else
            (20#32, 0#32)
  else
    if r.val < 24 then
      if r.val < 20 then
        if r.val < 18 then
          if r.val < 17 then
            (12#32, 1#32)
          else
            (20#32, 1#32)
        else
          if r.val < 19 then
            (11#32, 0#32)
          else
            (21#32, 0#32)
      else
        if r.val < 22 then
          if r.val < 21 then
            (11#32, 1#32)
          else
            (21#32, 1#32)
        else
          if r.val < 23 then
            (10#32, 0#32)
          else
            (22#32, 0#32)
    else
      if r.val < 28 then
        if r.val < 26 then
          if r.val < 25 then
            (10#32, 1#32)
          else
            (22#32, 1#32)
        else
          if r.val < 27 then
            (9#32, 0#32)
          else
            (23#32, 0#32)
      else
        if r.val < 30 then
          if r.val < 29 then
            (9#32, 1#32)
          else
            (23#32, 1#32)
        else
          if r.val < 31 then
            (8#32, 0#32)
          else
            (24#32, 1#32)
def k0_off5 (v9 : BitVec 32) (c16_i32_83 : BitVec 32) (c0_i32_86 : BitVec 32) : Fin 3 → Nat :=
  let c2_i32_85 : BitVec 32 := 2#32
  let v129 : BitVec 32 := Scalar.addi v9 c16_i32_83
  let c16_i32_84 : BitVec 32 := 16#32
  let v130 : BitVec 32 := Scalar.remsi v129 c16_i32_84
  let v131 : BitVec 32 := Scalar.muli c2_i32_85 v130
  let v132 : BitVec 32 := Scalar.addi v131 c0_i32_86
  let c0_i32_92 : BitVec 32 := 0#32
  let c0_i32_93 : BitVec 32 := 0#32
  ![v132.toNat, 0, 0]
def k0_off5_at (r : Fin 32) : BitVec 32 × BitVec 32 :=
  if r.val < 16 then
    if r.val < 8 then
      if r.val < 4 then
        if r.val < 2 then
          if r.val < 1 then
            (16#32, 0#32)
          else
            (16#32, 1#32)
        else
          if r.val < 3 then
            (15#32, 0#32)
          else
            (17#32, 0#32)
      else
        if r.val < 6 then
          if r.val < 5 then
            (15#32, 1#32)
          else
            (17#32, 1#32)
        else
          if r.val < 7 then
            (14#32, 0#32)
          else
            (18#32, 0#32)
    else
      if r.val < 12 then
        if r.val < 10 then
          if r.val < 9 then
            (14#32, 1#32)
          else
            (18#32, 1#32)
        else
          if r.val < 11 then
            (13#32, 0#32)
          else
            (19#32, 0#32)
      else
        if r.val < 14 then
          if r.val < 13 then
            (13#32, 1#32)
          else
            (19#32, 1#32)
        else
          if r.val < 15 then
            (12#32, 0#32)
          else
            (20#32, 0#32)
  else
    if r.val < 24 then
      if r.val < 20 then
        if r.val < 18 then
          if r.val < 17 then
            (12#32, 1#32)
          else
            (20#32, 1#32)
        else
          if r.val < 19 then
            (11#32, 0#32)
          else
            (21#32, 0#32)
      else
        if r.val < 22 then
          if r.val < 21 then
            (11#32, 1#32)
          else
            (21#32, 1#32)
        else
          if r.val < 23 then
            (10#32, 0#32)
          else
            (22#32, 0#32)
    else
      if r.val < 28 then
        if r.val < 26 then
          if r.val < 25 then
            (10#32, 1#32)
          else
            (22#32, 1#32)
        else
          if r.val < 27 then
            (9#32, 0#32)
          else
            (23#32, 0#32)
      else
        if r.val < 30 then
          if r.val < 29 then
            (9#32, 1#32)
          else
            (23#32, 1#32)
        else
          if r.val < 31 then
            (8#32, 0#32)
          else
            (24#32, 1#32)
def k0_dev6 (d0 : Dev nD) (v11 : BitVec 32) (v12 : BitVec 32) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_88 : BitVec 32 := 16#32
  let v133 : BitVec 32 := Scalar.muli v2 c16_i32_88
  let v134 : BitVec 32 := Scalar.addi c0_i32_89 v133
  let c4_i32_90 : BitVec 32 := 4#32
  let v135 : BitVec 32 := Scalar.muli v11 c4_i32_90
  let v136 : BitVec 32 := Scalar.addi v134 v135
  let c1_i32_91 : BitVec 32 := 1#32
  let v137 : BitVec 32 := Scalar.muli v12 c1_i32_91
  let v138 : BitVec 32 := Scalar.addi v136 v137
  v138.toNat
def k0_dev7 (d0 : Dev nD) (v13 : BitVec 32) (v14 : BitVec 32) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v151 : BitVec 32 := Scalar.muli v2 c16_i32_101
  let v152 : BitVec 32 := Scalar.addi c0_i32_102 v151
  let c4_i32_103 : BitVec 32 := 4#32
  let v153 : BitVec 32 := Scalar.muli v13 c4_i32_103
  let v154 : BitVec 32 := Scalar.addi v152 v153
  let c1_i32_104 : BitVec 32 := 1#32
  let v155 : BitVec 32 := Scalar.muli v14 c1_i32_104
  let v156 : BitVec 32 := Scalar.addi v154 v155
  v156.toNat
def k0_off6 (v9 : BitVec 32) (c16_i32_113 : BitVec 32) (c0_i32_116 : BitVec 32) : Fin 2 → Nat :=
  let v169 : BitVec 32 := Scalar.addi v9 c16_i32_113
  let c16_i32_114 : BitVec 32 := 16#32
  let v170 : BitVec 32 := Scalar.remsi v169 c16_i32_114
  let c256_i32_115 : BitVec 32 := 256#32
  let v171 : BitVec 32 := Scalar.muli v170 c256_i32_115
  let v172 : BitVec 32 := Scalar.addi v171 c0_i32_116
  let c0_i32_117 : BitVec 32 := 0#32
  ![v172.toNat, 0]
def k0_off6_at (r : Fin 32) : BitVec 32 × BitVec 32 :=
  if r.val < 16 then
    if r.val < 8 then
      if r.val < 4 then
        if r.val < 2 then
          if r.val < 1 then
            (16#32, 0#32)
          else
            (16#32, 128#32)
        else
          if r.val < 3 then
            (15#32, 0#32)
          else
            (17#32, 0#32)
      else
        if r.val < 6 then
          if r.val < 5 then
            (15#32, 128#32)
          else
            (17#32, 128#32)
        else
          if r.val < 7 then
            (14#32, 0#32)
          else
            (18#32, 0#32)
    else
      if r.val < 12 then
        if r.val < 10 then
          if r.val < 9 then
            (14#32, 128#32)
          else
            (18#32, 128#32)
        else
          if r.val < 11 then
            (13#32, 0#32)
          else
            (19#32, 0#32)
      else
        if r.val < 14 then
          if r.val < 13 then
            (13#32, 128#32)
          else
            (19#32, 128#32)
        else
          if r.val < 15 then
            (12#32, 0#32)
          else
            (20#32, 0#32)
  else
    if r.val < 24 then
      if r.val < 20 then
        if r.val < 18 then
          if r.val < 17 then
            (12#32, 128#32)
          else
            (20#32, 128#32)
        else
          if r.val < 19 then
            (11#32, 0#32)
          else
            (21#32, 0#32)
      else
        if r.val < 22 then
          if r.val < 21 then
            (11#32, 128#32)
          else
            (21#32, 128#32)
        else
          if r.val < 23 then
            (10#32, 0#32)
          else
            (22#32, 0#32)
    else
      if r.val < 28 then
        if r.val < 26 then
          if r.val < 25 then
            (10#32, 128#32)
          else
            (22#32, 128#32)
        else
          if r.val < 27 then
            (9#32, 0#32)
          else
            (23#32, 0#32)
      else
        if r.val < 30 then
          if r.val < 29 then
            (9#32, 128#32)
          else
            (23#32, 128#32)
        else
          if r.val < 31 then
            (8#32, 0#32)
          else
            (24#32, 128#32)

def k0_chk3 (d0 : Dev nD) (v9 : BitVec 32) : Prop :=
  (∀ a, (k0_off1 d0 v9) a + S1x256x4096.size a ≤ S2x4096x4096.size a) ∧
  (∀ a, (k0_off2 d0 v9) a + S1x256x4096.size a ≤ S2x4096x4096.size a) ∧
  (∀ (r : Fin 2), ∀ a, (k0_off3 v9 (BitVec.ofNat 32 r.val)) a + S1x128x4096.size a ≤ S32x128x4096.size a) ∧
  (∀ (r : Fin 2), ∀ (hinb : ∀ a, (k0_off3 v9 (BitVec.ofNat 32 r.val)) a + S1x128x4096.size a ≤ S32x128x4096.size a), (Rect.unit (s := S32x128x4096) (k0_off3 v9 (BitVec.ofNat 32 r.val)) S1x128x4096.size hinb).PackedRows (EltTy.packing .bf16)) ∧
  (∀ (r : Fin 32), ∀ a, (k0_off4 v9 (k0_off4_at r).1 (k0_off4_at r).2) a + S1.size a ≤ S32.size a) ∧
  (∀ (r : Fin 32), ∀ a, (k0_off5 v9 (k0_off5_at r).1 (k0_off5_at r).2) a + S1x128x4096.size a ≤ S32x128x4096.size a) ∧
  (∀ (r : Fin 32), ∀ (hinb : ∀ a, (k0_off5 v9 (k0_off5_at r).1 (k0_off5_at r).2) a + S1x128x4096.size a ≤ S32x128x4096.size a), (Rect.unit (s := S32x128x4096) (k0_off5 v9 (k0_off5_at r).1 (k0_off5_at r).2) S1x128x4096.size hinb).WholeWords (EltTy.packing .bf16)) ∧
  (∀ (r : Fin 32), ∀ a, (k0_off6 v9 (k0_off6_at r).1 (k0_off6_at r).2) a + S128x4096.size a ≤ S4096x4096.size a) ∧
  (∀ (r : Fin 32), ∀ (hinb : ∀ a, (k0_off6 v9 (k0_off6_at r).1 (k0_off6_at r).2) a + S128x4096.size a ≤ S4096x4096.size a), (Rect.unit (s := S4096x4096) (k0_off6 v9 (k0_off6_at r).1 (k0_off6_at r).2) S128x4096.size hinb).WholeWords (EltTy.packing .bf16))
theorem k0_off1_inb : ∀ (d0 : Dev nD) (v9 : BitVec 32) (k0_hw3 : k0_chk3 d0 v9), ∀ a, (k0_off1 d0 v9) a + S1x256x4096.size a ≤ S2x4096x4096.size a := fun d0 v9 k0_hw3 => k0_hw3.1
theorem k0_off2_inb : ∀ (d0 : Dev nD) (v9 : BitVec 32) (k0_hw3 : k0_chk3 d0 v9), ∀ a, (k0_off2 d0 v9) a + S1x256x4096.size a ≤ S2x4096x4096.size a := fun d0 v9 k0_hw3 => k0_hw3.2.1
theorem k0_off3_inb : ∀ (d0 : Dev nD) (v9 : BitVec 32) (k0_hw3 : k0_chk3 d0 v9), ∀ (r : Fin 2), ∀ a, (k0_off3 v9 (BitVec.ofNat 32 r.val)) a + S1x128x4096.size a ≤ S32x128x4096.size a := fun d0 v9 k0_hw3 r => k0_hw3.2.2.1 r
theorem k0_off3_packedbf16 : ∀ (d0 : Dev nD) (v9 : BitVec 32) (k0_hw3 : k0_chk3 d0 v9), ∀ (r : Fin 2), (Rect.unit (s := S32x128x4096) (k0_off3 v9 (BitVec.ofNat 32 r.val)) S1x128x4096.size (k0_off3_inb d0 v9 k0_hw3 r)).PackedRows (EltTy.packing .bf16) := fun d0 v9 k0_hw3 r => k0_hw3.2.2.2.1 r (k0_off3_inb d0 v9 k0_hw3 r)
theorem k0_off4_inb : ∀ (d0 : Dev nD) (v9 : BitVec 32) (k0_hw3 : k0_chk3 d0 v9), ∀ (r : Fin 32), ∀ a, (k0_off4 v9 (k0_off4_at r).1 (k0_off4_at r).2) a + S1.size a ≤ S32.size a := fun d0 v9 k0_hw3 r => k0_hw3.2.2.2.2.1 r
theorem k0_off5_inb : ∀ (d0 : Dev nD) (v9 : BitVec 32) (k0_hw3 : k0_chk3 d0 v9), ∀ (r : Fin 32), ∀ a, (k0_off5 v9 (k0_off5_at r).1 (k0_off5_at r).2) a + S1x128x4096.size a ≤ S32x128x4096.size a := fun d0 v9 k0_hw3 r => k0_hw3.2.2.2.2.2.1 r
theorem k0_off5_wordsbf16 : ∀ (d0 : Dev nD) (v9 : BitVec 32) (k0_hw3 : k0_chk3 d0 v9), ∀ (r : Fin 32), (Rect.unit (s := S32x128x4096) (k0_off5 v9 (k0_off5_at r).1 (k0_off5_at r).2) S1x128x4096.size (k0_off5_inb d0 v9 k0_hw3 r)).WholeWords (EltTy.packing .bf16) := fun d0 v9 k0_hw3 r => k0_hw3.2.2.2.2.2.2.1 r (k0_off5_inb d0 v9 k0_hw3 r)
theorem k0_off6_inb : ∀ (d0 : Dev nD) (v9 : BitVec 32) (k0_hw3 : k0_chk3 d0 v9), ∀ (r : Fin 32), ∀ a, (k0_off6 v9 (k0_off6_at r).1 (k0_off6_at r).2) a + S128x4096.size a ≤ S4096x4096.size a := fun d0 v9 k0_hw3 r => k0_hw3.2.2.2.2.2.2.2.1 r
theorem k0_off6_wordsbf16 : ∀ (d0 : Dev nD) (v9 : BitVec 32) (k0_hw3 : k0_chk3 d0 v9), ∀ (r : Fin 32), (Rect.unit (s := S4096x4096) (k0_off6 v9 (k0_off6_at r).1 (k0_off6_at r).2) S128x4096.size (k0_off6_inb d0 v9 k0_hw3 r)).WholeWords (EltTy.packing .bf16) := fun d0 v9 k0_hw3 r => k0_hw3.2.2.2.2.2.2.2.2 r (k0_off6_inb d0 v9 k0_hw3 r)

def k0_dev8 (d0 : Dev nD) (v11 : BitVec 32) (v12 : BitVec 32) : Nat :=
  let c0_i32_152 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_151 : BitVec 32 := 16#32
  let v221 : BitVec 32 := Scalar.muli v2 c16_i32_151
  let v222 : BitVec 32 := Scalar.addi c0_i32_152 v221
  let c4_i32_153 : BitVec 32 := 4#32
  let v223 : BitVec 32 := Scalar.muli v11 c4_i32_153
  let v224 : BitVec 32 := Scalar.addi v222 v223
  let c1_i32_154 : BitVec 32 := 1#32
  let v225 : BitVec 32 := Scalar.muli v12 c1_i32_154
  let v226 : BitVec 32 := Scalar.addi v224 v225
  v226.toNat
def k0_dev9 (d0 : Dev nD) (v13 : BitVec 32) (v14 : BitVec 32) : Nat :=
  let c0_i32_165 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_164 : BitVec 32 := 16#32
  let v239 : BitVec 32 := Scalar.muli v2 c16_i32_164
  let v240 : BitVec 32 := Scalar.addi c0_i32_165 v239
  let c4_i32_166 : BitVec 32 := 4#32
  let v241 : BitVec 32 := Scalar.muli v13 c4_i32_166
  let v242 : BitVec 32 := Scalar.addi v240 v241
  let c1_i32_167 : BitVec 32 := 1#32
  let v243 : BitVec 32 := Scalar.muli v14 c1_i32_167
  let v244 : BitVec 32 := Scalar.addi v242 v243
  v244.toNat
def k0_dev10 (d0 : Dev nD) (v11 : BitVec 32) (v12 : BitVec 32) : Nat :=
  let c0_i32_260 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_259 : BitVec 32 := 16#32
  let v360 : BitVec 32 := Scalar.muli v2 c16_i32_259
  let v361 : BitVec 32 := Scalar.addi c0_i32_260 v360
  let c4_i32_261 : BitVec 32 := 4#32
  let v362 : BitVec 32 := Scalar.muli v11 c4_i32_261
  let v363 : BitVec 32 := Scalar.addi v361 v362
  let c1_i32_262 : BitVec 32 := 1#32
  let v364 : BitVec 32 := Scalar.muli v12 c1_i32_262
  let v365 : BitVec 32 := Scalar.addi v363 v364
  v365.toNat
def k0_dev11 (d0 : Dev nD) (v13 : BitVec 32) (v14 : BitVec 32) : Nat :=
  let c0_i32_273 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_272 : BitVec 32 := 16#32
  let v378 : BitVec 32 := Scalar.muli v2 c16_i32_272
  let v379 : BitVec 32 := Scalar.addi c0_i32_273 v378
  let c4_i32_274 : BitVec 32 := 4#32
  let v380 : BitVec 32 := Scalar.muli v13 c4_i32_274
  let v381 : BitVec 32 := Scalar.addi v379 v380
  let c1_i32_275 : BitVec 32 := 1#32
  let v382 : BitVec 32 := Scalar.muli v14 c1_i32_275
  let v383 : BitVec 32 := Scalar.addi v381 v382
  v383.toNat
def k0_dev12 (d0 : Dev nD) (v11 : BitVec 32) (v12 : BitVec 32) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v454 : BitVec 32 := Scalar.muli v2 c16_i32_331
  let v455 : BitVec 32 := Scalar.addi c0_i32_332 v454
  let c4_i32_333 : BitVec 32 := 4#32
  let v456 : BitVec 32 := Scalar.muli v11 c4_i32_333
  let v457 : BitVec 32 := Scalar.addi v455 v456
  let c1_i32_334 : BitVec 32 := 1#32
  let v458 : BitVec 32 := Scalar.muli v12 c1_i32_334
  let v459 : BitVec 32 := Scalar.addi v457 v458
  v459.toNat
def k0_dev13 (d0 : Dev nD) (v13 : BitVec 32) (v14 : BitVec 32) : Nat :=
  let c0_i32_345 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_344 : BitVec 32 := 16#32
  let v472 : BitVec 32 := Scalar.muli v2 c16_i32_344
  let v473 : BitVec 32 := Scalar.addi c0_i32_345 v472
  let c4_i32_346 : BitVec 32 := 4#32
  let v474 : BitVec 32 := Scalar.muli v13 c4_i32_346
  let v475 : BitVec 32 := Scalar.addi v473 v474
  let c1_i32_347 : BitVec 32 := 1#32
  let v476 : BitVec 32 := Scalar.muli v14 c1_i32_347
  let v477 : BitVec 32 := Scalar.addi v475 v476
  v477.toNat
def k0_dev14 (d0 : Dev nD) (v11 : BitVec 32) (v12 : BitVec 32) : Nat :=
  let c0_i32_406 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_405 : BitVec 32 := 16#32
  let v548 : BitVec 32 := Scalar.muli v2 c16_i32_405
  let v549 : BitVec 32 := Scalar.addi c0_i32_406 v548
  let c4_i32_407 : BitVec 32 := 4#32
  let v550 : BitVec 32 := Scalar.muli v11 c4_i32_407
  let v551 : BitVec 32 := Scalar.addi v549 v550
  let c1_i32_408 : BitVec 32 := 1#32
  let v552 : BitVec 32 := Scalar.muli v12 c1_i32_408
  let v553 : BitVec 32 := Scalar.addi v551 v552
  v553.toNat
def k0_dev15 (d0 : Dev nD) (v13 : BitVec 32) (v14 : BitVec 32) : Nat :=
  let c0_i32_419 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_418 : BitVec 32 := 16#32
  let v566 : BitVec 32 := Scalar.muli v2 c16_i32_418
  let v567 : BitVec 32 := Scalar.addi c0_i32_419 v566
  let c4_i32_420 : BitVec 32 := 4#32
  let v568 : BitVec 32 := Scalar.muli v13 c4_i32_420
  let v569 : BitVec 32 := Scalar.addi v567 v568
  let c1_i32_421 : BitVec 32 := 1#32
  let v570 : BitVec 32 := Scalar.muli v14 c1_i32_421
  let v571 : BitVec 32 := Scalar.addi v569 v570
  v571.toNat
def k0_dev16 (d0 : Dev nD) (v11 : BitVec 32) (v12 : BitVec 32) : Nat :=
  let c0_i32_477 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_476 : BitVec 32 := 16#32
  let v642 : BitVec 32 := Scalar.muli v2 c16_i32_476
  let v643 : BitVec 32 := Scalar.addi c0_i32_477 v642
  let c4_i32_478 : BitVec 32 := 4#32
  let v644 : BitVec 32 := Scalar.muli v11 c4_i32_478
  let v645 : BitVec 32 := Scalar.addi v643 v644
  let c1_i32_479 : BitVec 32 := 1#32
  let v646 : BitVec 32 := Scalar.muli v12 c1_i32_479
  let v647 : BitVec 32 := Scalar.addi v645 v646
  v647.toNat
def k0_dev17 (d0 : Dev nD) (v13 : BitVec 32) (v14 : BitVec 32) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_489 : BitVec 32 := 16#32
  let v660 : BitVec 32 := Scalar.muli v2 c16_i32_489
  let v661 : BitVec 32 := Scalar.addi c0_i32_490 v660
  let c4_i32_491 : BitVec 32 := 4#32
  let v662 : BitVec 32 := Scalar.muli v13 c4_i32_491
  let v663 : BitVec 32 := Scalar.addi v661 v662
  let c1_i32_492 : BitVec 32 := 1#32
  let v664 : BitVec 32 := Scalar.muli v14 c1_i32_492
  let v665 : BitVec 32 := Scalar.addi v663 v664
  v665.toNat
def k0_dev18 (d0 : Dev nD) (v11 : BitVec 32) (v12 : BitVec 32) : Nat :=
  let c0_i32_550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_549 : BitVec 32 := 16#32
  let v736 : BitVec 32 := Scalar.muli v2 c16_i32_549
  let v737 : BitVec 32 := Scalar.addi c0_i32_550 v736
  let c4_i32_551 : BitVec 32 := 4#32
  let v738 : BitVec 32 := Scalar.muli v11 c4_i32_551
  let v739 : BitVec 32 := Scalar.addi v737 v738
  let c1_i32_552 : BitVec 32 := 1#32
  let v740 : BitVec 32 := Scalar.muli v12 c1_i32_552
  let v741 : BitVec 32 := Scalar.addi v739 v740
  v741.toNat
def k0_dev19 (d0 : Dev nD) (v13 : BitVec 32) (v14 : BitVec 32) : Nat :=
  let c0_i32_563 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_562 : BitVec 32 := 16#32
  let v754 : BitVec 32 := Scalar.muli v2 c16_i32_562
  let v755 : BitVec 32 := Scalar.addi c0_i32_563 v754
  let c4_i32_564 : BitVec 32 := 4#32
  let v756 : BitVec 32 := Scalar.muli v13 c4_i32_564
  let v757 : BitVec 32 := Scalar.addi v755 v756
  let c1_i32_565 : BitVec 32 := 1#32
  let v758 : BitVec 32 := Scalar.muli v14 c1_i32_565
  let v759 : BitVec 32 := Scalar.addi v757 v758
  v759.toNat
def k0_dev20 (d0 : Dev nD) (v11 : BitVec 32) (v12 : BitVec 32) : Nat :=
  let c0_i32_621 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_620 : BitVec 32 := 16#32
  let v830 : BitVec 32 := Scalar.muli v2 c16_i32_620
  let v831 : BitVec 32 := Scalar.addi c0_i32_621 v830
  let c4_i32_622 : BitVec 32 := 4#32
  let v832 : BitVec 32 := Scalar.muli v11 c4_i32_622
  let v833 : BitVec 32 := Scalar.addi v831 v832
  let c1_i32_623 : BitVec 32 := 1#32
  let v834 : BitVec 32 := Scalar.muli v12 c1_i32_623
  let v835 : BitVec 32 := Scalar.addi v833 v834
  v835.toNat
def k0_dev21 (d0 : Dev nD) (v13 : BitVec 32) (v14 : BitVec 32) : Nat :=
  let c0_i32_634 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_633 : BitVec 32 := 16#32
  let v848 : BitVec 32 := Scalar.muli v2 c16_i32_633
  let v849 : BitVec 32 := Scalar.addi c0_i32_634 v848
  let c4_i32_635 : BitVec 32 := 4#32
  let v850 : BitVec 32 := Scalar.muli v13 c4_i32_635
  let v851 : BitVec 32 := Scalar.addi v849 v850
  let c1_i32_636 : BitVec 32 := 1#32
  let v852 : BitVec 32 := Scalar.muli v14 c1_i32_636
  let v853 : BitVec 32 := Scalar.addi v851 v852
  v853.toNat
def k0_dev22 (d0 : Dev nD) (v11 : BitVec 32) (v12 : BitVec 32) : Nat :=
  let c0_i32_694 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_693 : BitVec 32 := 16#32
  let v924 : BitVec 32 := Scalar.muli v2 c16_i32_693
  let v925 : BitVec 32 := Scalar.addi c0_i32_694 v924
  let c4_i32_695 : BitVec 32 := 4#32
  let v926 : BitVec 32 := Scalar.muli v11 c4_i32_695
  let v927 : BitVec 32 := Scalar.addi v925 v926
  let c1_i32_696 : BitVec 32 := 1#32
  let v928 : BitVec 32 := Scalar.muli v12 c1_i32_696
  let v929 : BitVec 32 := Scalar.addi v927 v928
  v929.toNat
def k0_dev23 (d0 : Dev nD) (v13 : BitVec 32) (v14 : BitVec 32) : Nat :=
  let c0_i32_707 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_706 : BitVec 32 := 16#32
  let v942 : BitVec 32 := Scalar.muli v2 c16_i32_706
  let v943 : BitVec 32 := Scalar.addi c0_i32_707 v942
  let c4_i32_708 : BitVec 32 := 4#32
  let v944 : BitVec 32 := Scalar.muli v13 c4_i32_708
  let v945 : BitVec 32 := Scalar.addi v943 v944
  let c1_i32_709 : BitVec 32 := 1#32
  let v946 : BitVec 32 := Scalar.muli v14 c1_i32_709
  let v947 : BitVec 32 := Scalar.addi v945 v946
  v947.toNat
def k0_dev24 (d0 : Dev nD) (v11 : BitVec 32) (v12 : BitVec 32) : Nat :=
  let c0_i32_765 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_764 : BitVec 32 := 16#32
  let v1018 : BitVec 32 := Scalar.muli v2 c16_i32_764
  let v1019 : BitVec 32 := Scalar.addi c0_i32_765 v1018
  let c4_i32_766 : BitVec 32 := 4#32
  let v1020 : BitVec 32 := Scalar.muli v11 c4_i32_766
  let v1021 : BitVec 32 := Scalar.addi v1019 v1020
  let c1_i32_767 : BitVec 32 := 1#32
  let v1022 : BitVec 32 := Scalar.muli v12 c1_i32_767
  let v1023 : BitVec 32 := Scalar.addi v1021 v1022
  v1023.toNat
def k0_dev25 (d0 : Dev nD) (v13 : BitVec 32) (v14 : BitVec 32) : Nat :=
  let c0_i32_778 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_777 : BitVec 32 := 16#32
  let v1036 : BitVec 32 := Scalar.muli v2 c16_i32_777
  let v1037 : BitVec 32 := Scalar.addi c0_i32_778 v1036
  let c4_i32_779 : BitVec 32 := 4#32
  let v1038 : BitVec 32 := Scalar.muli v13 c4_i32_779
  let v1039 : BitVec 32 := Scalar.addi v1037 v1038
  let c1_i32_780 : BitVec 32 := 1#32
  let v1040 : BitVec 32 := Scalar.muli v14 c1_i32_780
  let v1041 : BitVec 32 := Scalar.addi v1039 v1040
  v1041.toNat
def k0_dev26 (d0 : Dev nD) (v11 : BitVec 32) (v12 : BitVec 32) : Nat :=
  let c0_i32_838 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_837 : BitVec 32 := 16#32
  let v1112 : BitVec 32 := Scalar.muli v2 c16_i32_837
  let v1113 : BitVec 32 := Scalar.addi c0_i32_838 v1112
  let c4_i32_839 : BitVec 32 := 4#32
  let v1114 : BitVec 32 := Scalar.muli v11 c4_i32_839
  let v1115 : BitVec 32 := Scalar.addi v1113 v1114
  let c1_i32_840 : BitVec 32 := 1#32
  let v1116 : BitVec 32 := Scalar.muli v12 c1_i32_840
  let v1117 : BitVec 32 := Scalar.addi v1115 v1116
  v1117.toNat
def k0_dev27 (d0 : Dev nD) (v13 : BitVec 32) (v14 : BitVec 32) : Nat :=
  let c0_i32_851 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_850 : BitVec 32 := 16#32
  let v1130 : BitVec 32 := Scalar.muli v2 c16_i32_850
  let v1131 : BitVec 32 := Scalar.addi c0_i32_851 v1130
  let c4_i32_852 : BitVec 32 := 4#32
  let v1132 : BitVec 32 := Scalar.muli v13 c4_i32_852
  let v1133 : BitVec 32 := Scalar.addi v1131 v1132
  let c1_i32_853 : BitVec 32 := 1#32
  let v1134 : BitVec 32 := Scalar.muli v14 c1_i32_853
  let v1135 : BitVec 32 := Scalar.addi v1133 v1134
  v1135.toNat
def k0_dev28 (d0 : Dev nD) (v11 : BitVec 32) (v12 : BitVec 32) : Nat :=
  let c0_i32_911 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_910 : BitVec 32 := 16#32
  let v1206 : BitVec 32 := Scalar.muli v2 c16_i32_910
  let v1207 : BitVec 32 := Scalar.addi c0_i32_911 v1206
  let c4_i32_912 : BitVec 32 := 4#32
  let v1208 : BitVec 32 := Scalar.muli v11 c4_i32_912
  let v1209 : BitVec 32 := Scalar.addi v1207 v1208
  let c1_i32_913 : BitVec 32 := 1#32
  let v1210 : BitVec 32 := Scalar.muli v12 c1_i32_913
  let v1211 : BitVec 32 := Scalar.addi v1209 v1210
  v1211.toNat
def k0_dev29 (d0 : Dev nD) (v13 : BitVec 32) (v14 : BitVec 32) : Nat :=
  let c0_i32_924 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_923 : BitVec 32 := 16#32
  let v1224 : BitVec 32 := Scalar.muli v2 c16_i32_923
  let v1225 : BitVec 32 := Scalar.addi c0_i32_924 v1224
  let c4_i32_925 : BitVec 32 := 4#32
  let v1226 : BitVec 32 := Scalar.muli v13 c4_i32_925
  let v1227 : BitVec 32 := Scalar.addi v1225 v1226
  let c1_i32_926 : BitVec 32 := 1#32
  let v1228 : BitVec 32 := Scalar.muli v14 c1_i32_926
  let v1229 : BitVec 32 := Scalar.addi v1227 v1228
  v1229.toNat
def k0_dev30 (d0 : Dev nD) (v11 : BitVec 32) (v12 : BitVec 32) : Nat :=
  let c0_i32_985 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_984 : BitVec 32 := 16#32
  let v1300 : BitVec 32 := Scalar.muli v2 c16_i32_984
  let v1301 : BitVec 32 := Scalar.addi c0_i32_985 v1300
  let c4_i32_986 : BitVec 32 := 4#32
  let v1302 : BitVec 32 := Scalar.muli v11 c4_i32_986
  let v1303 : BitVec 32 := Scalar.addi v1301 v1302
  let c1_i32_987 : BitVec 32 := 1#32
  let v1304 : BitVec 32 := Scalar.muli v12 c1_i32_987
  let v1305 : BitVec 32 := Scalar.addi v1303 v1304
  v1305.toNat
def k0_dev31 (d0 : Dev nD) (v13 : BitVec 32) (v14 : BitVec 32) : Nat :=
  let c0_i32_998 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_997 : BitVec 32 := 16#32
  let v1318 : BitVec 32 := Scalar.muli v2 c16_i32_997
  let v1319 : BitVec 32 := Scalar.addi c0_i32_998 v1318
  let c4_i32_999 : BitVec 32 := 4#32
  let v1320 : BitVec 32 := Scalar.muli v13 c4_i32_999
  let v1321 : BitVec 32 := Scalar.addi v1319 v1320
  let c1_i32_1000 : BitVec 32 := 1#32
  let v1322 : BitVec 32 := Scalar.muli v14 c1_i32_1000
  let v1323 : BitVec 32 := Scalar.addi v1321 v1322
  v1323.toNat
def k0_dev32 (d0 : Dev nD) (v11 : BitVec 32) (v12 : BitVec 32) : Nat :=
  let c0_i32_1058 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1057 : BitVec 32 := 16#32
  let v1394 : BitVec 32 := Scalar.muli v2 c16_i32_1057
  let v1395 : BitVec 32 := Scalar.addi c0_i32_1058 v1394
  let c4_i32_1059 : BitVec 32 := 4#32
  let v1396 : BitVec 32 := Scalar.muli v11 c4_i32_1059
  let v1397 : BitVec 32 := Scalar.addi v1395 v1396
  let c1_i32_1060 : BitVec 32 := 1#32
  let v1398 : BitVec 32 := Scalar.muli v12 c1_i32_1060
  let v1399 : BitVec 32 := Scalar.addi v1397 v1398
  v1399.toNat
def k0_dev33 (d0 : Dev nD) (v13 : BitVec 32) (v14 : BitVec 32) : Nat :=
  let c0_i32_1071 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1070 : BitVec 32 := 16#32
  let v1412 : BitVec 32 := Scalar.muli v2 c16_i32_1070
  let v1413 : BitVec 32 := Scalar.addi c0_i32_1071 v1412
  let c4_i32_1072 : BitVec 32 := 4#32
  let v1414 : BitVec 32 := Scalar.muli v13 c4_i32_1072
  let v1415 : BitVec 32 := Scalar.addi v1413 v1414
  let c1_i32_1073 : BitVec 32 := 1#32
  let v1416 : BitVec 32 := Scalar.muli v14 c1_i32_1073
  let v1417 : BitVec 32 := Scalar.addi v1415 v1416
  v1417.toNat
def k0_dev34 (d0 : Dev nD) (v11 : BitVec 32) (v12 : BitVec 32) : Nat :=
  let c0_i32_1132 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1131 : BitVec 32 := 16#32
  let v1488 : BitVec 32 := Scalar.muli v2 c16_i32_1131
  let v1489 : BitVec 32 := Scalar.addi c0_i32_1132 v1488
  let c4_i32_1133 : BitVec 32 := 4#32
  let v1490 : BitVec 32 := Scalar.muli v11 c4_i32_1133
  let v1491 : BitVec 32 := Scalar.addi v1489 v1490
  let c1_i32_1134 : BitVec 32 := 1#32
  let v1492 : BitVec 32 := Scalar.muli v12 c1_i32_1134
  let v1493 : BitVec 32 := Scalar.addi v1491 v1492
  v1493.toNat
def k0_dev35 (d0 : Dev nD) (v13 : BitVec 32) (v14 : BitVec 32) : Nat :=
  let c0_i32_1145 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1144 : BitVec 32 := 16#32
  let v1506 : BitVec 32 := Scalar.muli v2 c16_i32_1144
  let v1507 : BitVec 32 := Scalar.addi c0_i32_1145 v1506
  let c4_i32_1146 : BitVec 32 := 4#32
  let v1508 : BitVec 32 := Scalar.muli v13 c4_i32_1146
  let v1509 : BitVec 32 := Scalar.addi v1507 v1508
  let c1_i32_1147 : BitVec 32 := 1#32
  let v1510 : BitVec 32 := Scalar.muli v14 c1_i32_1147
  let v1511 : BitVec 32 := Scalar.addi v1509 v1510
  v1511.toNat
def k0_dev36 (d0 : Dev nD) : Nat :=
  let c0_i32_1726_r0 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c16_i32_1725_r0 : BitVec 32 := 16#32
  let v2077_r0 : BitVec 32 := Scalar.muli v10 c16_i32_1725_r0
  let v2078_r0 : BitVec 32 := Scalar.addi c0_i32_1726_r0 v2077_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1727_r0 : BitVec 32 := 4#32
  let v2079_r0 : BitVec 32 := Scalar.muli v5 c4_i32_1727_r0
  let v2080_r0 : BitVec 32 := Scalar.addi v2078_r0 v2079_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1728_r0 : BitVec 32 := 1#32
  let v2081_r0 : BitVec 32 := Scalar.muli v8 c1_i32_1728_r0
  let v2082_r0 : BitVec 32 := Scalar.addi v2080_r0 v2081_r0
  v2082_r0.toNat
def k0_dev37 (d0 : Dev nD) (v11 : BitVec 32) (v12 : BitVec 32) : Nat :=
  let c0_i32_1731_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1730_r0 : BitVec 32 := 16#32
  let v2083_r0 : BitVec 32 := Scalar.muli v2 c16_i32_1730_r0
  let v2084_r0 : BitVec 32 := Scalar.addi c0_i32_1731_r0 v2083_r0
  let c4_i32_1732_r0 : BitVec 32 := 4#32
  let v2085_r0 : BitVec 32 := Scalar.muli v11 c4_i32_1732_r0
  let v2086_r0 : BitVec 32 := Scalar.addi v2084_r0 v2085_r0
  let c1_i32_1733_r0 : BitVec 32 := 1#32
  let v2087_r0 : BitVec 32 := Scalar.muli v12 c1_i32_1733_r0
  let v2088_r0 : BitVec 32 := Scalar.addi v2086_r0 v2087_r0
  v2088_r0.toNat

def k0_chk1 (d0 : Dev nD) (v11 : BitVec 32) (v12 : BitVec 32) : Prop :=
  ((k0_dev2 d0 v11 v12) < nD) ∧
  ((k0_dev6 d0 v11 v12) < nD) ∧
  ((k0_dev8 d0 v11 v12) < nD) ∧
  ((k0_dev10 d0 v11 v12) < nD) ∧
  ((k0_dev12 d0 v11 v12) < nD) ∧
  ((k0_dev14 d0 v11 v12) < nD) ∧
  ((k0_dev16 d0 v11 v12) < nD) ∧
  ((k0_dev18 d0 v11 v12) < nD) ∧
  ((k0_dev20 d0 v11 v12) < nD) ∧
  ((k0_dev22 d0 v11 v12) < nD) ∧
  ((k0_dev24 d0 v11 v12) < nD) ∧
  ((k0_dev26 d0 v11 v12) < nD) ∧
  ((k0_dev28 d0 v11 v12) < nD) ∧
  ((k0_dev30 d0 v11 v12) < nD) ∧
  ((k0_dev32 d0 v11 v12) < nD) ∧
  ((k0_dev34 d0 v11 v12) < nD) ∧
  ((k0_dev37 d0 v11 v12) < nD)
theorem k0_dev2_lt : ∀ (d0 : Dev nD) (v11 : BitVec 32) (v12 : BitVec 32) (k0_hw1 : k0_chk1 d0 v11 v12), (k0_dev2 d0 v11 v12) < nD := fun d0 v11 v12 k0_hw1 => k0_hw1.1
theorem k0_dev6_lt : ∀ (d0 : Dev nD) (v11 : BitVec 32) (v12 : BitVec 32) (k0_hw1 : k0_chk1 d0 v11 v12), (k0_dev6 d0 v11 v12) < nD := fun d0 v11 v12 k0_hw1 => k0_hw1.2.1
theorem k0_dev8_lt : ∀ (d0 : Dev nD) (v11 : BitVec 32) (v12 : BitVec 32) (k0_hw1 : k0_chk1 d0 v11 v12), (k0_dev8 d0 v11 v12) < nD := fun d0 v11 v12 k0_hw1 => k0_hw1.2.2.1
theorem k0_dev10_lt : ∀ (d0 : Dev nD) (v11 : BitVec 32) (v12 : BitVec 32) (k0_hw1 : k0_chk1 d0 v11 v12), (k0_dev10 d0 v11 v12) < nD := fun d0 v11 v12 k0_hw1 => k0_hw1.2.2.2.1
theorem k0_dev12_lt : ∀ (d0 : Dev nD) (v11 : BitVec 32) (v12 : BitVec 32) (k0_hw1 : k0_chk1 d0 v11 v12), (k0_dev12 d0 v11 v12) < nD := fun d0 v11 v12 k0_hw1 => k0_hw1.2.2.2.2.1
theorem k0_dev14_lt : ∀ (d0 : Dev nD) (v11 : BitVec 32) (v12 : BitVec 32) (k0_hw1 : k0_chk1 d0 v11 v12), (k0_dev14 d0 v11 v12) < nD := fun d0 v11 v12 k0_hw1 => k0_hw1.2.2.2.2.2.1
theorem k0_dev16_lt : ∀ (d0 : Dev nD) (v11 : BitVec 32) (v12 : BitVec 32) (k0_hw1 : k0_chk1 d0 v11 v12), (k0_dev16 d0 v11 v12) < nD := fun d0 v11 v12 k0_hw1 => k0_hw1.2.2.2.2.2.2.1
theorem k0_dev18_lt : ∀ (d0 : Dev nD) (v11 : BitVec 32) (v12 : BitVec 32) (k0_hw1 : k0_chk1 d0 v11 v12), (k0_dev18 d0 v11 v12) < nD := fun d0 v11 v12 k0_hw1 => k0_hw1.2.2.2.2.2.2.2.1
theorem k0_dev20_lt : ∀ (d0 : Dev nD) (v11 : BitVec 32) (v12 : BitVec 32) (k0_hw1 : k0_chk1 d0 v11 v12), (k0_dev20 d0 v11 v12) < nD := fun d0 v11 v12 k0_hw1 => k0_hw1.2.2.2.2.2.2.2.2.1
theorem k0_dev22_lt : ∀ (d0 : Dev nD) (v11 : BitVec 32) (v12 : BitVec 32) (k0_hw1 : k0_chk1 d0 v11 v12), (k0_dev22 d0 v11 v12) < nD := fun d0 v11 v12 k0_hw1 => k0_hw1.2.2.2.2.2.2.2.2.2.1
theorem k0_dev24_lt : ∀ (d0 : Dev nD) (v11 : BitVec 32) (v12 : BitVec 32) (k0_hw1 : k0_chk1 d0 v11 v12), (k0_dev24 d0 v11 v12) < nD := fun d0 v11 v12 k0_hw1 => k0_hw1.2.2.2.2.2.2.2.2.2.2.1
theorem k0_dev26_lt : ∀ (d0 : Dev nD) (v11 : BitVec 32) (v12 : BitVec 32) (k0_hw1 : k0_chk1 d0 v11 v12), (k0_dev26 d0 v11 v12) < nD := fun d0 v11 v12 k0_hw1 => k0_hw1.2.2.2.2.2.2.2.2.2.2.2.1
theorem k0_dev28_lt : ∀ (d0 : Dev nD) (v11 : BitVec 32) (v12 : BitVec 32) (k0_hw1 : k0_chk1 d0 v11 v12), (k0_dev28 d0 v11 v12) < nD := fun d0 v11 v12 k0_hw1 => k0_hw1.2.2.2.2.2.2.2.2.2.2.2.2.1
theorem k0_dev30_lt : ∀ (d0 : Dev nD) (v11 : BitVec 32) (v12 : BitVec 32) (k0_hw1 : k0_chk1 d0 v11 v12), (k0_dev30 d0 v11 v12) < nD := fun d0 v11 v12 k0_hw1 => k0_hw1.2.2.2.2.2.2.2.2.2.2.2.2.2.1
theorem k0_dev32_lt : ∀ (d0 : Dev nD) (v11 : BitVec 32) (v12 : BitVec 32) (k0_hw1 : k0_chk1 d0 v11 v12), (k0_dev32 d0 v11 v12) < nD := fun d0 v11 v12 k0_hw1 => k0_hw1.2.2.2.2.2.2.2.2.2.2.2.2.2.2.1
theorem k0_dev34_lt : ∀ (d0 : Dev nD) (v11 : BitVec 32) (v12 : BitVec 32) (k0_hw1 : k0_chk1 d0 v11 v12), (k0_dev34 d0 v11 v12) < nD := fun d0 v11 v12 k0_hw1 => k0_hw1.2.2.2.2.2.2.2.2.2.2.2.2.2.2.2.1
theorem k0_dev37_lt : ∀ (d0 : Dev nD) (v11 : BitVec 32) (v12 : BitVec 32) (k0_hw1 : k0_chk1 d0 v11 v12), (k0_dev37 d0 v11 v12) < nD := fun d0 v11 v12 k0_hw1 => k0_hw1.2.2.2.2.2.2.2.2.2.2.2.2.2.2.2.2

def k0_dev38 (d0 : Dev nD) (v13 : BitVec 32) (v14 : BitVec 32) : Nat :=
  let c0_i32_1736_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1735_r0 : BitVec 32 := 16#32
  let v2089_r0 : BitVec 32 := Scalar.muli v2 c16_i32_1735_r0
  let v2090_r0 : BitVec 32 := Scalar.addi c0_i32_1736_r0 v2089_r0
  let c4_i32_1737_r0 : BitVec 32 := 4#32
  let v2091_r0 : BitVec 32 := Scalar.muli v13 c4_i32_1737_r0
  let v2092_r0 : BitVec 32 := Scalar.addi v2090_r0 v2091_r0
  let c1_i32_1738_r0 : BitVec 32 := 1#32
  let v2093_r0 : BitVec 32 := Scalar.muli v14 c1_i32_1738_r0
  let v2094_r0 : BitVec 32 := Scalar.addi v2092_r0 v2093_r0
  v2094_r0.toNat

def k0_chk2 (d0 : Dev nD) (v13 : BitVec 32) (v14 : BitVec 32) : Prop :=
  ((k0_dev3 d0 v13 v14) < nD) ∧
  ((k0_dev7 d0 v13 v14) < nD) ∧
  ((k0_dev9 d0 v13 v14) < nD) ∧
  ((k0_dev11 d0 v13 v14) < nD) ∧
  ((k0_dev13 d0 v13 v14) < nD) ∧
  ((k0_dev15 d0 v13 v14) < nD) ∧
  ((k0_dev17 d0 v13 v14) < nD) ∧
  ((k0_dev19 d0 v13 v14) < nD) ∧
  ((k0_dev21 d0 v13 v14) < nD) ∧
  ((k0_dev23 d0 v13 v14) < nD) ∧
  ((k0_dev25 d0 v13 v14) < nD) ∧
  ((k0_dev27 d0 v13 v14) < nD) ∧
  ((k0_dev29 d0 v13 v14) < nD) ∧
  ((k0_dev31 d0 v13 v14) < nD) ∧
  ((k0_dev33 d0 v13 v14) < nD) ∧
  ((k0_dev35 d0 v13 v14) < nD) ∧
  ((k0_dev38 d0 v13 v14) < nD)
theorem k0_dev3_lt : ∀ (d0 : Dev nD) (v13 : BitVec 32) (v14 : BitVec 32) (k0_hw2 : k0_chk2 d0 v13 v14), (k0_dev3 d0 v13 v14) < nD := fun d0 v13 v14 k0_hw2 => k0_hw2.1
theorem k0_dev7_lt : ∀ (d0 : Dev nD) (v13 : BitVec 32) (v14 : BitVec 32) (k0_hw2 : k0_chk2 d0 v13 v14), (k0_dev7 d0 v13 v14) < nD := fun d0 v13 v14 k0_hw2 => k0_hw2.2.1
theorem k0_dev9_lt : ∀ (d0 : Dev nD) (v13 : BitVec 32) (v14 : BitVec 32) (k0_hw2 : k0_chk2 d0 v13 v14), (k0_dev9 d0 v13 v14) < nD := fun d0 v13 v14 k0_hw2 => k0_hw2.2.2.1
theorem k0_dev11_lt : ∀ (d0 : Dev nD) (v13 : BitVec 32) (v14 : BitVec 32) (k0_hw2 : k0_chk2 d0 v13 v14), (k0_dev11 d0 v13 v14) < nD := fun d0 v13 v14 k0_hw2 => k0_hw2.2.2.2.1
theorem k0_dev13_lt : ∀ (d0 : Dev nD) (v13 : BitVec 32) (v14 : BitVec 32) (k0_hw2 : k0_chk2 d0 v13 v14), (k0_dev13 d0 v13 v14) < nD := fun d0 v13 v14 k0_hw2 => k0_hw2.2.2.2.2.1
theorem k0_dev15_lt : ∀ (d0 : Dev nD) (v13 : BitVec 32) (v14 : BitVec 32) (k0_hw2 : k0_chk2 d0 v13 v14), (k0_dev15 d0 v13 v14) < nD := fun d0 v13 v14 k0_hw2 => k0_hw2.2.2.2.2.2.1
theorem k0_dev17_lt : ∀ (d0 : Dev nD) (v13 : BitVec 32) (v14 : BitVec 32) (k0_hw2 : k0_chk2 d0 v13 v14), (k0_dev17 d0 v13 v14) < nD := fun d0 v13 v14 k0_hw2 => k0_hw2.2.2.2.2.2.2.1
theorem k0_dev19_lt : ∀ (d0 : Dev nD) (v13 : BitVec 32) (v14 : BitVec 32) (k0_hw2 : k0_chk2 d0 v13 v14), (k0_dev19 d0 v13 v14) < nD := fun d0 v13 v14 k0_hw2 => k0_hw2.2.2.2.2.2.2.2.1
theorem k0_dev21_lt : ∀ (d0 : Dev nD) (v13 : BitVec 32) (v14 : BitVec 32) (k0_hw2 : k0_chk2 d0 v13 v14), (k0_dev21 d0 v13 v14) < nD := fun d0 v13 v14 k0_hw2 => k0_hw2.2.2.2.2.2.2.2.2.1
theorem k0_dev23_lt : ∀ (d0 : Dev nD) (v13 : BitVec 32) (v14 : BitVec 32) (k0_hw2 : k0_chk2 d0 v13 v14), (k0_dev23 d0 v13 v14) < nD := fun d0 v13 v14 k0_hw2 => k0_hw2.2.2.2.2.2.2.2.2.2.1
theorem k0_dev25_lt : ∀ (d0 : Dev nD) (v13 : BitVec 32) (v14 : BitVec 32) (k0_hw2 : k0_chk2 d0 v13 v14), (k0_dev25 d0 v13 v14) < nD := fun d0 v13 v14 k0_hw2 => k0_hw2.2.2.2.2.2.2.2.2.2.2.1
theorem k0_dev27_lt : ∀ (d0 : Dev nD) (v13 : BitVec 32) (v14 : BitVec 32) (k0_hw2 : k0_chk2 d0 v13 v14), (k0_dev27 d0 v13 v14) < nD := fun d0 v13 v14 k0_hw2 => k0_hw2.2.2.2.2.2.2.2.2.2.2.2.1
theorem k0_dev29_lt : ∀ (d0 : Dev nD) (v13 : BitVec 32) (v14 : BitVec 32) (k0_hw2 : k0_chk2 d0 v13 v14), (k0_dev29 d0 v13 v14) < nD := fun d0 v13 v14 k0_hw2 => k0_hw2.2.2.2.2.2.2.2.2.2.2.2.2.1
theorem k0_dev31_lt : ∀ (d0 : Dev nD) (v13 : BitVec 32) (v14 : BitVec 32) (k0_hw2 : k0_chk2 d0 v13 v14), (k0_dev31 d0 v13 v14) < nD := fun d0 v13 v14 k0_hw2 => k0_hw2.2.2.2.2.2.2.2.2.2.2.2.2.2.1
theorem k0_dev33_lt : ∀ (d0 : Dev nD) (v13 : BitVec 32) (v14 : BitVec 32) (k0_hw2 : k0_chk2 d0 v13 v14), (k0_dev33 d0 v13 v14) < nD := fun d0 v13 v14 k0_hw2 => k0_hw2.2.2.2.2.2.2.2.2.2.2.2.2.2.2.1
theorem k0_dev35_lt : ∀ (d0 : Dev nD) (v13 : BitVec 32) (v14 : BitVec 32) (k0_hw2 : k0_chk2 d0 v13 v14), (k0_dev35 d0 v13 v14) < nD := fun d0 v13 v14 k0_hw2 => k0_hw2.2.2.2.2.2.2.2.2.2.2.2.2.2.2.2.1
theorem k0_dev38_lt : ∀ (d0 : Dev nD) (v13 : BitVec 32) (v14 : BitVec 32) (k0_hw2 : k0_chk2 d0 v13 v14), (k0_dev38 d0 v13 v14) < nD := fun d0 v13 v14 k0_hw2 => k0_hw2.2.2.2.2.2.2.2.2.2.2.2.2.2.2.2.2

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== ReferenceIdeal.lean ====
abbrev S2x8192x4096 : Shape := ⟨3, ![2, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Topo.lean ====
/- The ring the kernel walks, as small tables: where a device sits, who its neighbours are, which slot of the
   ring buffer an access means, and the closed forms of the generated offsets and device numbers. -/
module

public import proofs.«01_k».proof.Proof.Gen.KernelIdeal
public import proofs.«01_k».proof.Proof.Gen.KernelIdeal.Skeleton
public import Idealize.ShloMosaic.Init

@[expose] public section

set_option maxRecDepth 16384

namespace Cert.Proof

open Idealize.ShloMosaic Idealize.SL.Sem Cert.KernelIdeal Cert.KernelIdeal.Gen

/-! ## Places on the ring -/

/-- The position on the ring of the device with number `4 y + z` inside its group. -/
def posTable : Fin 16 → Fin 16 := ![0, 1, 2, 3, 15, 6, 5, 4, 14, 7, 8, 9, 13, 12, 11, 10]

/-- The number `4 y + z` of the device at a position of the ring. -/
def cellTable : Fin 16 → Fin 16 := ![0, 1, 2, 3, 7, 6, 5, 9, 10, 11, 15, 14, 13, 12, 8, 4]

/-- Which of the two groups a device is in: its coordinate on the first mesh axis. -/
def grp (c : Dev nD) : Fin 2 := ⟨c.val / 16, by have := c.isLt; simp only [nD] at this; omega⟩

/-- A device's position on its group's ring. -/
def pos (c : Dev nD) : Fin 16 := posTable ⟨c.val % 16, Nat.mod_lt _ (by decide)⟩

/-- The device of group `x` at position `p`. -/
def devAt (x : Fin 2) (p : Fin 16) : Dev nD := ⟨16 * x.val + (cellTable p).val, by
  have h1 := x.isLt; have h2 := (cellTable p).isLt; simp only [nD]; omega⟩

def right (c : Dev nD) : Dev nD := devAt (grp c) (pos c + 1)
def left (c : Dev nD) : Dev nD := devAt (grp c) (pos c - 1)
/-- The device at the same place of the other group. -/
def partner (c : Dev nD) : Dev nD := devAt (1 - grp c) (pos c)

theorem right_left (c : Dev nD) : right (left c) = c := by revert c; decide +kernel
theorem left_right (c : Dev nD) : left (right c) = c := by revert c; decide +kernel
theorem partner_partner (c : Dev nD) : partner (partner c) = c := by revert c; decide +kernel
theorem grp_right (c : Dev nD) : grp (right c) = grp c := by revert c; decide +kernel
theorem grp_left (c : Dev nD) : grp (left c) = grp c := by revert c; decide +kernel
theorem pos_partner (c : Dev nD) : pos (partner c) = pos c := by revert c; decide +kernel
theorem grp_devAt (x : Fin 2) (p : Fin 16) : grp (devAt x p) = x := by revert x p; decide +kernel
theorem pos_devAt (x : Fin 2) (p : Fin 16) : pos (devAt x p) = p := by revert x p; decide +kernel
theorem devAt_grp_pos (c : Dev nD) : devAt (grp c) (pos c) = c := by revert c; decide +kernel

/-- The six words of the prefetched table on device `c`. -/
def tabW (c : Dev nD) : Fin 6 → BitVec 32 :=
  ![BitVec.ofNat 32 (grp c).val, BitVec.ofNat 32 (pos c).val,
    BitVec.ofNat 32 ((right c).val % 16 / 4), BitVec.ofNat 32 ((right c).val % 4),
    BitVec.ofNat 32 ((left c).val % 16 / 4), BitVec.ofNat 32 ((left c).val % 4)]

/-! ## Slots of the ring buffer, counted from the device's own -/

/-- How many positions to the right of the device the owner of its `r`-th slot sits. -/
def relOff (r : Fin 32) : Nat :=
  if r.val < 2 then 0 else if r.val % 2 = 0 then 15 - (r.val - 2) / 4 else (r.val - 2) / 4 + 1

/-- Which half of its owner's rows the `r`-th slot holds. -/
def relSub (r : Fin 32) : Nat :=
  if r.val < 2 then r.val else if r.val < 30 then (r.val - 2) / 2 % 2 else r.val - 30

/-- The place in the ring buffer of the `r`-th slot of device `c`. -/
def ab (c : Dev nD) (r : Fin 32) : Fin 32 :=
  ⟨(2 * (((pos c).val + relOff r) % 16) + relSub r) % 32, Nat.mod_lt _ (by decide)⟩

/-- Which slot of device `c`, in its own counting, a place of the ring buffer is. -/
def rel (c : Dev nD) (j : Fin 32) : Fin 32 :=
  ⟨((List.finRange 32).find? (fun r => ab c r == j)).elim 0 Fin.val, by
    cases h : (List.finRange 32).find? (fun r => ab c r == j) with
    | none => exact (by decide : (0 : Nat) < 32)
    | some r => exact r.isLt⟩

theorem rel_ab (c : Dev nD) (r : Fin 32) : rel c (ab c r) = r := by revert c r; decide +kernel
theorem ab_rel (c : Dev nD) (j : Fin 32) : ab c (rel c j) = j := by revert c j; decide +kernel

theorem ab_inj (c : Dev nD) : Function.Injective (ab c) := fun r s h => by
  rw [← rel_ab c r, h, rel_ab]

/-- A device's slots as places, both ways. -/
def abEquiv (c : Dev nD) : Fin 32 ≃ Fin 32 := ⟨ab c, rel c, rel_ab c, ab_rel c⟩

/-! ## The messages: thirty a device, taken turn about by the right and the left neighbour -/

/-- The slot, in the sender's counting, that message `n` carries. -/
def src (n : Fin 30) : Fin 32 :=
  if n.val < 4 then ⟨n.val / 2, by omega⟩ else if n.val = 29 then 29 else ⟨n.val - 2, by omega⟩

/-- The slot, in the receiver's counting, that message `n` fills. -/
def dst (n : Fin 30) : Fin 32 := ⟨n.val + 2, by omega⟩

/-- The device message `n` of device `c` goes to. -/
def nb (c : Dev nD) (n : Fin 30) : Dev nD := if n.val % 2 = 0 then right c else left c

/-- The device that sends message `n` to device `c`. -/
def fr (c : Dev nD) (n : Fin 30) : Dev nD := if n.val % 2 = 0 then left c else right c

theorem nb_fr (c : Dev nD) (n : Fin 30) : nb (fr c n) n = c := by revert c n; decide +kernel
theorem fr_nb (c : Dev nD) (n : Fin 30) : fr (nb c n) n = c := by revert c n; decide +kernel

/-- A message lands at the place it was sent from. -/
theorem ab_src (c : Dev nD) (n : Fin 30) : ab (nb c n) (dst n) = ab c (src n) := by revert c n; decide +kernel

/-! ## Closed forms of the generated words -/

theorem chk1 (c : Dev nD) : k0_chk1 c (tabW c 2) (tabW c 3) := by revert c; decide +kernel
theorem chk2 (c : Dev nD) : k0_chk2 c (tabW c 4) (tabW c 5) := by revert c; decide +kernel
theorem devP (c : Dev nD) : k0_dev1 c = (partner c).val := by revert c; decide +kernel
theorem devR (c : Dev nD) : k0_dev2 c (tabW c 2) (tabW c 3) = (right c).val := by revert c; decide +kernel
theorem devL (c : Dev nD) : k0_dev3 c (tabW c 4) (tabW c 5) = (left c).val := by revert c; decide +kernel

theorem off1 (c : Dev nD) : k0_off1 c (tabW c 1) = ![(grp c).val, 256 * (pos c).val, 0] := by
  revert c; decide +kernel
theorem off2 (c : Dev nD) : k0_off2 c (tabW c 1) = ![1 - (grp c).val, 256 * (pos c).val, 0] := by
  revert c; decide +kernel
theorem off3 (c : Dev nD) (s : Fin 2) :
    k0_off3 (tabW c 1) (BitVec.ofNat 32 s.val) = ![(ab c (s.castLE (by decide))).val, 0, 0] := by
  revert c s; decide +kernel
theorem off4 (c : Dev nD) (r : Fin 32) :
    k0_off4 (tabW c 1) (k0_off4_at r).1 (k0_off4_at r).2 = ![(ab c r).val] := by
  revert c r; decide +kernel
theorem off5 (c : Dev nD) (r : Fin 32) :
    k0_off5 (tabW c 1) (k0_off5_at r).1 (k0_off5_at r).2 = ![(ab c r).val, 0, 0] := by
  revert c r; decide +kernel
theorem off6 (c : Dev nD) (r : Fin 32) :
    k0_off6 (tabW c 1) (k0_off6_at r).1 (k0_off6_at r).2 = ![128 * (ab c r).val, 0] := by
  revert c r; decide +kernel

/-! ## The rectangles at those offsets are admissible -/

theorem inb_ring (j : Fin 32) : ∀ a, (![j.val, 0, 0] : Fin 3 → Nat) a + S1x128x4096.size a ≤ S32x128x4096.size a := by
  revert j; decide +kernel
theorem inb_cell (j : Fin 32) : ∀ a, (![j.val] : Fin 1 → Nat) a + S1.size a ≤ S32.size a := by
  revert j; decide +kernel
theorem inb_out (j : Fin 32) : ∀ a, (![128 * j.val, 0] : Fin 2 → Nat) a + S128x4096.size a ≤ S4096x4096.size a := by
  revert j; decide +kernel
theorem inb_in (x : Fin 2) (p : Fin 16) :
    ∀ a, (![x.val, 256 * p.val, 0] : Fin 3 → Nat) a + S1x256x4096.size a ≤ S2x4096x4096.size a := by
  revert x p; decide +kernel

theorem packed_ring (j : Fin 32) :
    (Rect.unit (s := S32x128x4096) ![j.val, 0, 0] S1x128x4096.size (inb_ring j)).PackedRows (EltTy.packing .bf16) := by
  revert j; decide +kernel
theorem words_out (j : Fin 32) :
    (Rect.unit (s := S4096x4096) ![128 * j.val, 0] S128x4096.size (inb_out j)).WholeWords (EltTy.packing .bf16) := by
  revert j; decide +kernel

theorem packed_of_eq {off off' : Fin 3 → Nat} (h : off = off')
    (hi : ∀ a, off' a + S1x128x4096.size a ≤ S32x128x4096.size a)
    (h' : (Rect.unit (s := S32x128x4096) off' S1x128x4096.size hi).PackedRows (EltTy.packing .bf16))
    (hi' : ∀ a, off a + S1x128x4096.size a ≤ S32x128x4096.size a) :
    (Rect.unit (s := S32x128x4096) off S1x128x4096.size hi').PackedRows (EltTy.packing .bf16) := by subst h; exact h'

theorem words_of_eq {off off' : Fin 2 → Nat} (h : off = off')
    (hi : ∀ a, off' a + S128x4096.size a ≤ S4096x4096.size a)
    (h' : (Rect.unit (s := S4096x4096) off' S128x4096.size hi).WholeWords (EltTy.packing .bf16))
    (hi' : ∀ a, off a + S128x4096.size a ≤ S4096x4096.size a) :
    (Rect.unit (s := S4096x4096) off S128x4096.size hi').WholeWords (EltTy.packing .bf16) := by subst h; exact h'

theorem inb_of_eq {n : Nat} {off off' sz bd : Fin n → Nat} (h : off = off') (h' : ∀ a, off' a + sz a ≤ bd a) :
    ∀ a, off a + sz a ≤ bd a := by subst h; exact h'

theorem sub_eq (c : Dev nD) : ![1 - (grp c).val, 256 * (pos c).val, 0] = (![(1 - grp c).val, 256 * (pos c).val, 0] : Fin 3 → Nat) := by
  revert c; decide +kernel

theorem chk3 (c : Dev nD) : k0_chk3 c (tabW c 1) :=
  ⟨inb_of_eq (off1 c) (inb_in _ _), inb_of_eq ((off2 c).trans (sub_eq c)) (inb_in _ _),
    fun s => inb_of_eq (off3 c s) (inb_ring _),
    fun s hi => packed_of_eq (off3 c s) (inb_ring _) (packed_ring _) hi,
    fun r => inb_of_eq (off4 c r) (inb_cell _), fun r => inb_of_eq (off5 c r) (inb_ring _),
    fun r hi => (packed_of_eq (off5 c r) (inb_ring _) (packed_ring _) hi).wholeWords,
    fun r => inb_of_eq (off6 c r) (inb_out _),
    fun r hi => words_of_eq (off6 c r) (inb_out _) (words_out _) hi⟩

end Cert.Proof
-- ==== Proof.Contents.lean ====
/- What each buffer of the kernel holds, as functions of the operands the host code hands over: the two row blocks a
   device reads, the half it sends to its partner, the block it computes, the ring buffer once every block has
   arrived, and the result. -/
module

public import proofs.«01_k».proof.Proof.Topo
public import proofs.«01_k».proof.Proof.Gen.KernelIdeal.Regions
public import Idealize.ShloMosaic.Lib.ViewIndex

@[expose] public section

set_option maxRecDepth 16384

noncomputable section

namespace Cert.Proof

open Idealize.ShloMosaic Idealize.ShloMosaic.TcCoe
open Idealize.SL Idealize.SL.Sem
open Cert.KernelIdeal Cert.KernelIdeal.Gen

variable {F : FTy → Type} [FloatOps F]

/-! ## The views the kernel uses -/

abbrev ringM : Memref sig .tc .vmem S32x128x4096 .bf16 := Memref.whole cc0_scratch4
abbrev outM : Memref sig .tc .hbm S4096x4096 .bf16 := Memref.whole main_v50
abbrev xsM : Memref sig .tc .vmem S2x128x4096 .bf16 := Memref.whole cc0_scratch2
abbrev xrM : Memref sig .tc .vmem S2x128x4096 .bf16 := Memref.whole cc0_scratch3
abbrev keepM : Memref sig .tc .vmem S256x4096 .f32 := Memref.whole cc0_scratch0
abbrev sendM : Memref sig .tc .vmem S256x4096 .f32 := Memref.whole cc0_scratch1
abbrev partM : Memref sig .tc .hbm S2x4096x4096 .f32 := Memref.whole main_v1

theorem inb_two (s : Fin 2) : ∀ a, (![s.val, 0, 0] : Fin 3 → Nat) a + S1x128x4096.size a ≤ S2x128x4096.size a := by
  revert s; decide +kernel
theorem inb_half (s : Fin 2) : ∀ a, (![128 * s.val, 0] : Fin 2 → Nat) a + S128x4096.size a ≤ S256x4096.size a := by
  revert s; decide +kernel

/-- Place `j` of the ring buffer, as the transfers name it. -/
abbrev slotM (j : Fin 32) : Memref sig .tc .vmem S128x4096 .bf16 :=
  (ringM.slice (Rect.unit (s := S32x128x4096) ![j.val, 0, 0] S1x128x4096.size (inb_ring j)) (fun _ => rfl)).squeeze S128x4096
    squeezes_S1x128x4096_S128x4096
/-- The rows of the result that place `j` of the ring buffer holds. -/
abbrev rowsM (j : Fin 32) : Memref sig .tc .hbm S128x4096 .bf16 :=
  outM.slice (Rect.unit (s := S4096x4096) ![128 * j.val, 0] S128x4096.size (inb_out j)) (fun _ => rfl)
abbrev xsH (s : Fin 2) : Memref sig .tc .vmem S128x4096 .bf16 :=
  (xsM.slice (Rect.unit (s := S2x128x4096) ![s.val, 0, 0] S1x128x4096.size (inb_two s)) (fun _ => rfl)).squeeze S128x4096
    squeezes_S1x128x4096_S128x4096
abbrev xrH (s : Fin 2) : Memref sig .tc .vmem S128x4096 .bf16 :=
  (xrM.slice (Rect.unit (s := S2x128x4096) ![s.val, 0, 0] S1x128x4096.size (inb_two s)) (fun _ => rfl)).squeeze S128x4096
    squeezes_S1x128x4096_S128x4096
/-- The 256 rows of the operand's half `x` that position `p` owns. -/
abbrev inM (x : Fin 2) (p : Fin 16) : Memref sig .tc .hbm S256x4096 .f32 :=
  (partM.slice (Rect.unit (s := S2x4096x4096) ![x.val, 256 * p.val, 0] S1x256x4096.size (inb_in x p)) (fun _ => rfl)).squeeze S256x4096
    squeezes_S1x256x4096_S256x4096

/-! ## Multi-indices from coordinates -/

def ix3 {d : Fin 3 → Nat} (a : Fin (d 0)) (b : Fin (d 1)) (c : Fin (d 2)) : (⟨3, d⟩ : Shape).Idx :=
  fun i => match i with
    | ⟨0, _⟩ => a
    | ⟨1, _⟩ => b
    | ⟨2, _⟩ => c

/-! ## Contents -/

variable (m : (ℓ : Loc nD τ sig) → Buf (Elt F) ℓ)

/-- The operands as the host code leaves them. -/
def PV (c : Dev nD) : S2x4096x4096.Idx → Elt F .f32 := V1 m c main_v1
def GM (c : Dev nD) : S1x4096.Idx → Elt F .f32 := V1 m c main_v2

/-- The rows device `c` keeps, and those it gives away. -/
def K5 (c : Dev nD) : S256x4096.Idx → Elt F .f32 := (inM (grp c) (pos c)).view.read (Elt F) (PV m c)
def K6 (c : Dev nD) : S256x4096.Idx → Elt F .f32 := (inM (1 - grp c) (pos c)).view.read (Elt F) (PV m c)

/-- Half `s` of 256 rows. -/
def half5 (s : Fin 2) (f : S256x4096.Idx → Elt F .f32) : Vec F S128x4096 .f32 :=
  keepM.view.readAt (Elt F) (Rect.unit (s := S256x4096) ![128 * s.val, 0] S128x4096.size (inb_half s)).toLoadRect f
def half6 (s : Fin 2) (f : S256x4096.Idx → Elt F .f32) : Vec F S128x4096 .f32 :=
  sendM.view.readAt (Elt F) (Rect.unit (s := S256x4096) ![128 * s.val, 0] S128x4096.size (inb_half s)).toLoadRect f

/-- What device `c` sends to its partner, half by half. -/
def XS (c : Dev nD) : S2x128x4096.Idx → Elt F .bf16 :=
  fun i => k0_pay1 (half6 (i 0) (K6 m c)) (ix3 (d := ![1, 128, 4096]) (0 : Fin 1) (i 1) (i 2))

/-- Half `s` of what came from the partner. -/
def halfR (s : Fin 2) (f : S2x128x4096.Idx → Elt F .bf16) : Vec F S1x128x4096 .bf16 :=
  xrM.view.readAt (Elt F) (Rect.unit (s := S2x128x4096) ![s.val, 0, 0] S1x128x4096.size (inb_two s)).toLoadRect f

/-- The block device `c` computes: half `s` of its rows, summed with the partner's, normalised and scaled. -/
def BLK (c : Dev nD) (s : Fin 2) : FVec F S1x128x4096 .bf16 :=
  k0_pay5 (half5 s (K5 m c)) (halfR s (XS m (partner c))) (GM m c)

/-- Who computes place `j` of the ring buffer of the group `x`, and which half of it. -/
def ownerOf (x : Fin 2) (j : Fin 32) : Dev nD := devAt x ⟨j.val / 2, by omega⟩
def subOf (j : Fin 32) : Fin 2 := ⟨j.val % 2, by omega⟩

/-- The ring buffer once every block has arrived. -/
def RB (c : Dev nD) : S32x128x4096.Idx → Elt F .bf16 :=
  fun i => BLK m (ownerOf (grp c) (i 0)) (subOf (i 0)) (ix3 (d := ![1, 128, 4096]) (0 : Fin 1) (i 1) (i 2))

/-- The result: the ring buffer's rows in order. -/
def OUT (c : Dev nD) : S4096x4096.Idx → Elt F .bf16 :=
  fun i => RB m c (ix3 (d := ![32, 128, 4096]) ⟨(i 0).val / 128, by
      have h : (i 0).val < 4096 := (i 0).isLt
      show _ < 32; omega⟩ ⟨(i 0).val % 128, Nat.mod_lt _ (by decide)⟩ (i 1))

theorem RB_nb (c : Dev nD) (n : Fin 30) : RB m (nb c n) = RB m c := by
  have h : grp (nb c n) = grp c := by revert c n; decide +kernel
  unfold RB; rw [h]

theorem pay5_eq (a : Vec F S128x4096 .f32) (b : Vec F S1x128x4096 .bf16) (g : Vec F S1x4096 .f32) :
    k0_pay4 (k0_pay3 a b g) = k0_pay5 a b g := rfl
theorem pay2_eq (a : Vec F S128x4096 .f32) : k0_pay2 a = k0_pay1 a := rfl

/-! ## Writes through one view of what another reads -/

/-- After a write of `w` through a whole view, an element under the view is what `g` has there if `g` reads `w`. -/
theorem write_eq_on {sp : Space} {s : Shape} {e : EltTy} (v : View sig .tc sp s e) (f g : v.ty.Contents (Elt F))
    (w : s.Idx → Elt F e) (h : v.read (Elt F) g = w) :
    ∀ i ∈ v.set, v.write (Elt F) f w Finset.univ i = g i := fun i hi => by
  obtain ⟨x, -, rfl⟩ := Finset.mem_map.mp hi
  refine View.eq_of_read_eq ?_
  rw [h, View.read_write_univ]

theorem RB_slab (c : Dev nD) (j : Fin 32) (x : S1x128x4096.Idx) :
    RB m c ((Rect.unit (s := S32x128x4096) ![j.val, 0, 0] S1x128x4096.size (inb_ring j)).emb x) = BLK m (ownerOf (grp c) j) (subOf j) x := by
  have h0 : ((Rect.unit (s := S32x128x4096) ![j.val, 0, 0] S1x128x4096.size (inb_ring j)).emb x) 0 = j := by
    apply Fin.ext
    have hx : (x 0).val < 1 := (x 0).isLt
    show j.val + 1 * (x 0).val = j.val
    omega
  unfold RB
  rw [h0]
  congr 1
  refine Shape.idx3_ext ?_ ?_ ?_
  · have hx : (x 0).val < 1 := (x 0).isLt
    show 0 = (x 0).val; omega
  · show 0 + 1 * (x 1).val = (x 1).val; omega
  · show 0 + 1 * (x 2).val = (x 2).val; omega

theorem XS_slab (c : Dev nD) (s : Fin 2) (x : S1x128x4096.Idx) :
    XS m c ((Rect.unit (s := S2x128x4096) ![s.val, 0, 0] S1x128x4096.size (inb_two s)).emb x) = k0_pay1 (half6 s (K6 m c)) x := by
  have h0 : ((Rect.unit (s := S2x128x4096) ![s.val, 0, 0] S1x128x4096.size (inb_two s)).emb x) 0 = s := by
    apply Fin.ext
    have hx : (x 0).val < 1 := (x 0).isLt
    show s.val + 1 * (x 0).val = s.val
    omega
  unfold XS
  rw [h0]
  congr 1
  refine Shape.idx3_ext ?_ ?_ ?_
  · have hx : (x 0).val < 1 := (x 0).isLt
    show 0 = (x 0).val; omega
  · show 0 + 1 * (x 1).val = (x 1).val; omega
  · show 0 + 1 * (x 2).val = (x 2).val; omega

/-- The block a device computes is the ring buffer's at its own two places. -/
theorem own_slab (c : Dev nD) (s : Fin 2) : ownerOf (grp c) (ab c (s.castLE (by decide))) = c
    ∧ subOf (ab c (s.castLE (by decide))) = s := by
  revert c s; decide +kernel

/-- The rows of the result at place `j` read as the ring buffer's place `j`. -/
theorem OUT_rows (c : Dev nD) (j : Fin 32) :
    (rowsM j).view.read (Elt F) (OUT m c) = (slotM j).view.read (Elt F) (RB m c) := by
  funext x
  show OUT m c ((Rect.unit (s := S4096x4096) ![128 * j.val, 0] S128x4096.size (inb_out j)).emb x)
    = RB m c ((Rect.unit (s := S32x128x4096) ![j.val, 0, 0] S1x128x4096.size (inb_ring j)).emb
        (Shape.reshapeEquiv (squeezes_S1x128x4096_S128x4096).numel_eq x))
  rw [show Shape.reshapeEquiv (s := S1x128x4096) (s' := S128x4096) (squeezes_S1x128x4096_S128x4096).numel_eq x
      = Fin.cons (α := fun a => Fin (S1x128x4096.size a)) ⟨0, Nat.one_pos⟩ x from Shape.reshapeEquiv_cons_one _ x]
  unfold OUT
  congr 1
  have hx : (x 0).val < 128 := (x 0).isLt
  refine Shape.idx3_ext ?_ ?_ ?_
  · show (128 * j.val + 1 * (x 0).val) / 128 = j.val + 1 * 0; omega
  · show (128 * j.val + 1 * (x 0).val) % 128 = 0 + 1 * (x 0).val; omega
  · show 0 + 1 * (x 1).val = 0 + 1 * (x 1).val; rfl

end Cert.Proof
-- ==== Proof.Sched.lean ====
/- The protocol: which semaphore cells there are, who pays each of them, how much, and what changes hands with the
   payment; what a device owes at each point of its program, and that every wait is below what is still owed. -/
module

public import proofs.«01_k».proof.Proof.Contents
public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Pipeline.RegionTalk
public import Idealize.ShloMosaic.Harness.Basic

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The cells -/

/-- The semaphores of a device, by what they are for: the barrier before the exchange and the one after it; the two
    loads of operand rows; the partner exchange's sends and arrivals; each message's send; each place's arrival and its
    copy to the result. -/
inductive Cel where
  | bar | fin
  | inn (s : Fin 2) | xs (s : Fin 2) | xr (s : Fin 2)
  | sd (n : Fin 30) | rv (j : Fin 32) | st (j : Fin 32)
  deriving DecidableEq

def dmaIx (k : Nat) (h : k < 101) : DmaSem sig := ⟨k, h⟩
theorem sd_lt (n : Fin 30) : (if n.val % 2 = 0 then 7 + n.val / 2 else 22 + n.val / 2) < 101 := by revert n; decide

def semOf : Cel → SemLoc sig
  | .bar => .reg (0 : Fin 2)
  | .fin => .reg (1 : Fin 2)
  | .inn s => .dma (dmaIx (1 + s.val) (by omega))
  | .xs s => .dma (dmaIx (3 + s.val) (by omega))
  | .xr s => .dma (dmaIx (5 + s.val) (by omega))
  | .sd n => .dma (dmaIx (if n.val % 2 = 0 then 7 + n.val / 2 else 22 + n.val / 2) (sd_lt n))
  | .rv j => .dma (dmaIx (37 + j.val) (by omega))
  | .st j => .dma (dmaIx (69 + j.val) (by omega))

/-- Which of them a semaphore is. -/
def celOf : SemLoc sig → Option Cel
  | .reg s => if s.val = 0 then some .bar else some .fin
  | .dma s =>
    if s.val < 1 then none
    else if h : s.val - 1 < 2 then some (.inn ⟨s.val - 1, h⟩)
    else if h : s.val - 3 < 2 then some (.xs ⟨s.val - 3, h⟩)
    else if h : s.val - 5 < 2 then some (.xr ⟨s.val - 5, h⟩)
    else if h : s.val - 7 < 15 then some (.sd ⟨2 * (s.val - 7), by omega⟩)
    else if h : s.val - 22 < 15 then some (.sd ⟨2 * (s.val - 22) + 1, by omega⟩)
    else if h : s.val - 37 < 32 then some (.rv ⟨s.val - 37, h⟩)
    else if h : s.val - 69 < 32 then some (.st ⟨s.val - 69, h⟩)
    else none

theorem celOf_semOf (k : Cel) : celOf (semOf k) = some k := by
  cases k with
  | bar => rfl
  | fin => rfl
  | inn s => revert s; decide +kernel
  | xs s => revert s; decide +kernel
  | xr s => revert s; decide +kernel
  | sd n => revert n; decide +kernel
  | rv j => revert j; decide +kernel
  | st j => revert j; decide +kernel
theorem semOf_inj {k k' : Cel} (h : semOf k = semOf k') : k = k' := by
  have := congrArg celOf h; rwa [celOf_semOf, celOf_semOf, Option.some.injEq] at this

abbrev cel (c : Dev nD) (k : Cel) : GSem nD τ sig := ((c : Thread nD τ), semOf k)

theorem sem_in (s : Fin 2) (h : ∀ a, (![s.val] : Fin 1 → Nat) a + S1.size a ≤ S2.size a) :
    ((cc0_scratch5.slice (Rect.unit (s := S2) ![s.val] S1.size h)).squeeze S_ squeezes_S1_S_).sem = dmaIx (1 + s.val) (by omega) := by
  revert s; decide +kernel
theorem sem_xs (s : Fin 2) (h : ∀ a, (![s.val] : Fin 1 → Nat) a + S1.size a ≤ S2.size a) :
    ((cc0_scratch6.slice (Rect.unit (s := S2) ![s.val] S1.size h)).squeeze S_ squeezes_S1_S_).sem = dmaIx (3 + s.val) (by omega) := by
  revert s; decide +kernel
theorem sem_xr (s : Fin 2) (h : ∀ a, (![s.val] : Fin 1 → Nat) a + S1.size a ≤ S2.size a) :
    ((cc0_scratch7.slice (Rect.unit (s := S2) ![s.val] S1.size h)).squeeze S_ squeezes_S1_S_).sem = dmaIx (5 + s.val) (by omega) := by
  revert s; decide +kernel
theorem sem_sr (k : Fin 15) (h : ∀ a, (![k.val] : Fin 1 → Nat) a + S1.size a ≤ S15.size a) :
    ((cc0_scratch8.slice (Rect.unit (s := S15) ![k.val] S1.size h)).squeeze S_ squeezes_S1_S_).sem = dmaIx (7 + k.val) (by omega) := by
  revert k; decide +kernel
theorem sem_sl (k : Fin 15) (h : ∀ a, (![k.val] : Fin 1 → Nat) a + S1.size a ≤ S15.size a) :
    ((cc0_scratch9.slice (Rect.unit (s := S15) ![k.val] S1.size h)).squeeze S_ squeezes_S1_S_).sem = dmaIx (22 + k.val) (by omega) := by
  revert k; decide +kernel
theorem sem_rv (j : Fin 32) (h : ∀ a, (![j.val] : Fin 1 → Nat) a + S1.size a ≤ S32.size a) :
    ((cc0_scratch10.slice (Rect.unit (s := S32) ![j.val] S1.size h)).squeeze S_ squeezes_S1_S_).sem = dmaIx (37 + j.val) (by omega) := by
  revert j; decide +kernel
theorem sem_st (j : Fin 32) (h : ∀ a, (![j.val] : Fin 1 → Nat) a + S1.size a ≤ S32.size a) :
    ((cc0_scratch11.slice (Rect.unit (s := S32) ![j.val] S1.size h)).squeeze S_ squeezes_S1_S_).sem = dmaIx (69 + j.val) (by omega) := by
  revert j; decide +kernel

/-! ## The logic the proof is written in -/

abbrev UU : Type := UR sig nD τ × URounds (GSem nD τ sig) (Fin 3)
local notation "𝕄" => MT nD τ sig Unit (Elt F) ℕ UU ℕ
abbrev EP : Emb (UR sig nD τ) (MT nD τ sig Unit (Elt F) ℕ UU ℕ) := embL
abbrev ER : Emb (URounds (GSem nD τ sig) (Fin 3)) (MT nD τ sig Unit (Elt F) ℕ UU ℕ) := embR

/-- The memref `M` on device `c`, held at share `q` with contents `f`. -/
abbrev pv {sp : Space} {s : Shape} {e : EltTy} (c : Dev nD) (M : Memref sig .tc sp s e) (q : PosShare TreeShare)
    (f : Buf (Elt F) (M.view.loc (c : Thread nD τ))) : sProp 𝕄 :=
  (M.view.loc (c : Thread nD τ)) ↦[M.view.set]{q} f

/-- The memref `M` on device `c` whole, whatever it holds. -/
def pvE {sp : Space} {s : Shape} {e : EltTy} (c : Dev nD) (M : Memref sig .tc sp s e) : sProp 𝕄 :=
  iprop(∃ f, pv (F := F) c M fullShare f)

instance pvE_storable {sp : Space} {s : Shape} {e : EltTy} (c : Dev nD) (M : Memref sig .tc sp s e) :
    BI.Storable (upEmb : UEmb _ 𝕄) (pvE (F := F) c M) := by
  unfold pvE; infer_instance

/-! ## Amounts and payloads -/

abbrev NI (s : Fin 2) : ℕ := if s = 0 then keepM.view.dmaCredit else sendM.view.dmaCredit
abbrev NX : ℕ := (xrH 0).view.dmaCredit
abbrev NR : ℕ := (slotM 0).view.dmaCredit
abbrev NO : ℕ := (rowsM 0).view.dmaCredit

/-- Half the share of a place of the ring buffer goes with its copy to the result; a quarter with each message that
    leaves from it. -/
abbrev qA : PosShare TreeShare := fullShare.left
abbrev qB (b : Bool) : PosShare TreeShare := if b then fullShare.right.right else fullShare.right.left
/-- Which quarter message `n` takes: the one of its direction. -/
abbrev odd (n : Fin 30) : Bool := n.val % 2 == 1

variable (m : (ℓ : Loc nD τ sig) → Buf (Elt F) ℓ)

/-- What message `n` of device `c` needs of its receiver: the place it writes, and the arrival cell in its first round. -/
def peerSlot (c : Dev nD) (n : Fin 30) : sProp 𝕄 :=
  iprop(pvE (nb c n) (slotM (ab c (src n))) ∗ reached ER (cel (nb c n) (.rv (ab c (src n)))) 0)
def dirSlots (c : Dev nD) (b : Bool) : sProp 𝕄 := bigSep (Finset.univ.filter fun n : Fin 30 => odd n = b) (peerSlot c)
def peerX (c : Dev nD) (s : Fin 2) : sProp 𝕄 :=
  iprop(pvE (partner c) (xrH s) ∗ reached ER (cel (partner c) (.xr s)) 0)

/-- With the barrier's units: from the partner its two landing halves; from each neighbour the places the messages to it fill. -/
def barPay (c : Dev nD) (d : Fin 3) : sProp 𝕄 :=
  if d = 0 then iprop(peerX c 0 ∗ peerX c 1 ∗ reached ER (cel (partner c) .fin) 0)
  else if d = 1 then iprop(dirSlots c false ∗ reached ER (cel (right c) .fin) 0)
  else iprop(dirSlots c true ∗ reached ER (cel (left c) .fin) 0)

/-- With a load of operand rows: the rows read, and the buffer written. -/
def inPay (c : Dev nD) (s : Fin 2) : sProp 𝕄 :=
  if s = 0 then iprop(pv c keepM fullShare (K5 m c) ∗ pv c (inM (grp c) (pos c)) fullShare (PV m c))
  else iprop(pv c sendM fullShare (K6 m c) ∗ pv c (inM (1 - grp c) (pos c)) fullShare (PV m c))

def pay (c : Dev nD) : Cel → Fin 3 → sProp 𝕄
  | .bar, d => barPay c d
  | .fin, _ => iprop(emp)
  | .inn s, _ => inPay m c s
  | .xs s, _ => pv c (xsH s) fullShare (XS m c)
  | .xr s, _ => pv c (xrH s) fullShare (XS m (partner c))
  | .sd n, _ => pv c (slotM (ab c (src n))) (qB (odd n)) (RB m c)
  | .rv j, _ => pv c (slotM j) fullShare (RB m c)
  | .st j, _ => iprop(pv c (rowsM j) fullShare (OUT m c) ∗ pv c (slotM j) qA (RB m c))

def amt : Cel → ℕ
  | .bar => 1
  | .fin => 1
  | .inn s => NI s
  | .xs _ => NX
  | .xr _ => NX
  | .sd _ => NR
  | .rv _ => NR
  | .st _ => NO

def dts (c : Dev nD) : Cel → Finset (Fin 3)
  | .bar => Finset.univ
  | .fin => Finset.univ
  | .rv j => if 2 ≤ (rel c j).val then {0} else ∅
  | _ => {0}

theorem amt_pos (k : Cel) : 0 < amt k := by
  cases k with
  | inn s =>
    show 0 < NI s
    unfold NI; split
    · exact View.dmaCredit_pos keepM.view (by decide)
    · exact View.dmaCredit_pos sendM.view (by decide)
  | bar => exact Nat.one_pos
  | fin => exact Nat.one_pos
  | xs s => exact View.dmaCredit_pos (xrH 0).view (by decide)
  | xr s => exact View.dmaCredit_pos (xrH 0).view (by decide)
  | sd n => exact View.dmaCredit_pos (slotM 0).view (by decide)
  | rv j => exact View.dmaCredit_pos (slotM 0).view (by decide)
  | st j => exact View.dmaCredit_pos (rowsM 0).view (by decide)

/-- One round a cell. -/
def sched : Rounds.Schedule (GSem nD τ sig) (Fin 3) 𝕄 where
  duties g r := if r = 0 ∧ g.1.2 = .tc then (celOf g.2).elim ∅ (dts g.1.1) else ∅
  unitless _ := False
  amount g _ _ := (celOf g.2).elim 1 amt
  payload g _ d := (celOf g.2).elim iprop(emp) (fun k => pay m g.1.1 k d)
  amount_pos g _ _ _ := by
    cases celOf g.2 with
    | none => exact Nat.one_pos
    | some k => exact amt_pos k

instance peerSlot_storable (c : Dev nD) (n : Fin 30) : BI.Storable (upEmb : UEmb _ 𝕄) (peerSlot (F := F) c n) := by
  unfold peerSlot; infer_instance
instance dirSlots_storable (c : Dev nD) (b : Bool) : BI.Storable (upEmb : UEmb _ 𝕄) (dirSlots (F := F) c b) := by
  unfold dirSlots; infer_instance
instance peerX_storable (c : Dev nD) (s : Fin 2) : BI.Storable (upEmb : UEmb _ 𝕄) (peerX (F := F) c s) := by
  unfold peerX; infer_instance
instance barPay_storable (c : Dev nD) (d : Fin 3) : BI.Storable (upEmb : UEmb _ 𝕄) (barPay (F := F) c d) := by
  unfold barPay; split
  · infer_instance
  · split <;> infer_instance
instance inPay_storable (c : Dev nD) (s : Fin 2) : BI.Storable (upEmb : UEmb _ 𝕄) (inPay m c s) := by
  unfold inPay; split <;> infer_instance
instance pay_storable (c : Dev nD) (k : Cel) (d : Fin 3) : BI.Storable (upEmb : UEmb _ 𝕄) (pay m c k d) := by
  cases k <;> unfold pay <;> infer_instance

instance sched_storable (g : GSem nD τ sig) (r : ℕ) (d : Fin 3) :
    BI.Storable (upEmb : UEmb _ 𝕄) ((sched (F := F) m).payload g r d) := by
  show BI.Storable upEmb ((celOf g.2).elim iprop(emp) (fun k => pay m g.1.1 k d))
  cases celOf g.2 with
  | none => exact (inferInstance : BI.Storable (upEmb : UEmb _ 𝕄) iprop(emp))
  | some k => exact pay_storable m g.1.1 k d

theorem duties_cel (c : Dev nD) (k : Cel) : (sched (F := F) m).duties (cel c k) 0 = dts c k := by
  dsimp only [sched]; rw [if_pos ⟨rfl, rfl⟩, celOf_semOf]; rfl
theorem duties_later (g : GSem nD τ sig) : ∀ r, 1 ≤ r → (sched (F := F) m).duties g r = ∅ :=
  fun r hr => by dsimp only [sched]; rw [if_neg (fun h => by omega)]
theorem duties_idle (c : Dev nD) (j : Fin 32) (hj : (rel c j).val < 2) : ∀ r, 0 ≤ r → (sched (F := F) m).duties (cel c (.rv j)) r = ∅ :=
  fun r _ => by
    rcases Nat.eq_zero_or_pos r with rfl | h
    · rw [duties_cel]; exact if_neg (by omega)
    · exact duties_later m _ r h
theorem amount_cel (c : Dev nD) (k : Cel) (r : ℕ) (d : Fin 3) : (sched (F := F) m).amount (cel c k) r d = amt k := by
  dsimp only [sched]; rw [celOf_semOf]; rfl
theorem payload_cel (c : Dev nD) (k : Cel) (r : ℕ) (d : Fin 3) : (sched (F := F) m).payload (cel c k) r d = pay m c k d := by
  dsimp only [sched]; rw [celOf_semOf]; rfl

theorem expect_one (c : Dev nD) (k : Cel) (h : dts c k = {0}) : (sched (F := F) m).expect (cel c k) 0 = amt k := by
  unfold Schedule.expect Schedule.amountOf; rw [duties_cel, h, Finset.sum_singleton, amount_cel]
theorem expect_three (c : Dev nD) (k : Cel) (h : dts c k = Finset.univ) : (sched (F := F) m).expect (cel c k) 0 = 3 * amt k := by
  unfold Schedule.expect Schedule.amountOf; rw [duties_cel, h, Finset.sum_congr rfl fun d _ => amount_cel m c k 0 d]; simp
theorem rest_one (c : Dev nD) (k : Cel) (h : dts c k = {0}) :
    bigSep ((sched (F := F) m).duties (cel c k) 0 \ ∅) (fun u => (sched (F := F) m).payload (cel c k) 0 u) = pay m c k 0 := by
  rw [Finset.sdiff_empty, duties_cel, h, bigSep_singleton, payload_cel]
theorem rest_bar (c : Dev nD) :
    bigSep ((sched (F := F) m).duties (cel c .bar) 0 \ ∅) (fun u => (sched (F := F) m).payload (cel c .bar) 0 u)
      = iprop(barPay c 0 ∗ barPay c 1 ∗ barPay c 2) := by
  rw [Finset.sdiff_empty, duties_cel, show dts c .bar = {0, 1, 2} by rfl, bigSep_insert (by decide), bigSep_insert (by decide), bigSep_singleton]
  simp only [payload_cel]; rfl
theorem mem_duties (c : Dev nD) (k : Cel) (d : Fin 3) (h : d ∈ dts c k) : d ∈ (sched (F := F) m).duties (cel c k) 0 := by
  rw [duties_cel]; exact h

theorem dts_rv (c : Dev nD) (r : Fin 32) (h : 2 ≤ r.val) : dts c (.rv (ab c r)) = {0} := by
  show (if 2 ≤ (rel c (ab c r)).val then ({0} : Finset (Fin 3)) else ∅) = {0}; rw [rel_ab]; exact if_pos h
theorem dts_msg (c : Dev nD) (n : Fin 30) : dts (nb c n) (.rv (ab c (src n))) = {0} := by
  rw [← ab_src]; exact dts_rv _ _ (by show 2 ≤ n.val + 2; omega)

/-! ## What a device owes, in the order it pays -/

/-- The cell the `i`-th payment goes to. -/
def owed (c : Dev nD) (i : Fin 38) : Dev nD × Cel × Fin 3 :=
  if i.val = 0 then (partner c, .bar, 0)
  else if i.val = 1 then (right c, .bar, 2)
  else if i.val = 2 then (left c, .bar, 1)
  else if i.val = 3 then (partner c, .xr 0, 0)
  else if i.val = 4 then (partner c, .xr 1, 0)
  else if h : i.val - 5 < 30 then (nb c ⟨i.val - 5, h⟩, .rv (ab c (src ⟨i.val - 5, h⟩)), 0)
  else if i.val = 35 then (partner c, .fin, 0)
  else if i.val = 36 then (right c, .fin, 2)
  else (left c, .fin, 1)

def due (c : Dev nD) (i : Fin 38) : CellTallies nD τ sig Unit :=
  tallyAt (cel (owed c i).1 (owed c i).2.1) () (amt (owed c i).2.1)
/-- What is still owed after `k` payments. -/
def O (c : Dev nD) (k : ℕ) : CellTallies nD τ sig Unit := ∑ i : Fin 38 with k ≤ i.val, due c i

theorem O_step (c : Dev nD) (i : Fin 38) : O c i.val = O c (i.val + 1) + due c i := by
  unfold O
  rw [show (Finset.univ.filter fun j : Fin 38 => i.val ≤ j.val) = insert i (Finset.univ.filter fun j : Fin 38 => i.val + 1 ≤ j.val) by
    ext j; simp only [Finset.mem_filter, Finset.mem_univ, true_and, Finset.mem_insert, Fin.ext_iff]; omega]
  rw [Finset.sum_insert (by simp), add_comm]
theorem O_end (c : Dev nD) : O c 38 = 0 := by
  unfold O; rw [Finset.filter_false_of_mem (fun i _ => by omega), Finset.sum_empty]

/-! ## Levels -/

def L (g : GSem nD τ sig) : Finset Unit := if g.1.2 = .tc then {()} else ∅
def lvC (c : Dev nD) : Cel → ℕ
  | .xr _ => 2
  | .rv j => 3 + (rel c j).val
  | .fin => 40
  | _ => 1
def lv (g : GSem nD τ sig) (_ : Unit) : ℕ := (celOf g.2).elim 0 (lvC g.1.1)

theorem L_of_ne (g : GSem nD τ sig) (h : g.1.2 ≠ .tc) : L g = ∅ := if_neg h
theorem L_tc (c : Dev nD) (sm : SemLoc sig) : L ((c : Thread nD τ), sm) = {()} := if_pos rfl
theorem lv_cel (c : Dev nD) (k : Cel) (u : Unit) : lv (cel c k) u = lvC c k := by unfold lv; rw [celOf_semOf]; rfl

theorem lv_owed (c : Dev nD) (i : Fin 38) : lvC (owed c i).1 (owed c i).2.1
    = if i.val < 3 then 1 else if i.val < 5 then 2 else if i.val < 35 then i.val else 40 := by
  revert c i; decide +kernel

/-- What is owed after `k` payments sits on the cells of the later ones. -/
theorem O_pos (c : Dev nD) (k : ℕ) (g : GSem nD τ sig) (u : Unit) (h : 0 < O c k g u) :
    ∃ i : Fin 38, k ≤ i.val ∧ g = cel (owed c i).1 (owed c i).2.1 := by
  unfold O at h
  rw [Finset.sum_apply, Finsupp.finset_sum_apply] at h
  obtain ⟨i, hi, hp⟩ := Finset.exists_ne_zero_of_sum_ne_zero (Nat.pos_iff_ne_zero.mp h)
  refine ⟨i, (Finset.mem_filter.mp hi).2, ?_⟩
  unfold due at hp
  rw [tallyAt_apply] at hp
  by_contra hne
  exact hp (if_neg fun hh => hne hh.1)

/-- A wait at a level below every payment still to come is allowed. -/
theorem mayWait (c : Dev nD) (sm : SemLoc sig) (k : ℕ)
    (h : ∀ i : Fin 38, k ≤ i.val → lv ((c : Thread nD τ), sm) () < lvC (owed c i).1 (owed c i).2.1) :
    (levAts L lv : sProp 𝕄) ⊢ MayWait (c : Thread nD τ) sm () (O c k) :=
  MayOwe.of_cut (L := L) (lev := lv) (lv ((c : Thread nD τ), sm) ()) (fun p hp => by rw [Finset.mem_singleton.mp hp, L_tc]; exact Finset.mem_singleton_self _)
    (fun g u hg => by
      obtain ⟨i, -, rfl⟩ := O_pos c k g u hg
      rw [L_tc]; exact Finset.mem_singleton_self _)
    (fun p hp => by rw [Finset.mem_singleton.mp hp])
    (fun g u hg => by
      obtain ⟨i, hi, rfl⟩ := O_pos c k g u hg
      rw [lv_cel]; exact h i hi)

theorem mayWait_cel (c : Dev nD) (a : Cel) (k : ℕ) (h : ∀ i : Fin 38, k ≤ i.val →
      lvC c a < if i.val < 3 then 1 else if i.val < 5 then 2 else if i.val < 35 then i.val else 40) :
    (levAts L lv : sProp 𝕄) ⊢ MayWait (c : Thread nD τ) (semOf a) () (O c k) :=
  mayWait c _ k fun i hi => by rw [lv_owed, lv_cel c a ()]; exact h i hi

end Cert.Proof
-- ==== Proof.State.lean ====
/- What a device holds at each point of the ring phase: for every message and every place of the ring buffer, by how
   far the program has come — how many messages are sent, how many places are filled, how many are on their way to the
   result, and how many of the two last rounds of waits are done. -/
module

public import proofs.«01_k».proof.Proof.Sched

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## The invariants -/

/-- The cells open from the launch, and those a device opens when its region begins. -/
def cellsOpen : Finset (GSem nD τ sig) := Finset.univ.filter fun g => g.1.2 = .tc ∧ celOf g.2 = some .bar
def cellsShut : Finset (GSem nD τ sig) :=
  Finset.univ.filter fun g => g.1.2 = .tc ∧ (celOf g.2).isSome = true ∧ celOf g.2 ≠ some .bar

theorem mem_open (c : Dev nD) : cel c .bar ∈ cellsOpen := Finset.mem_filter.mpr ⟨Finset.mem_univ _, rfl, celOf_semOf .bar⟩
theorem mem_shut (c : Dev nD) (k : Cel) (h : k ≠ .bar) : cel c k ∈ cellsShut :=
  Finset.mem_filter.mpr ⟨Finset.mem_univ _, rfl, by rw [celOf_semOf]; rfl, by rw [celOf_semOf]; exact fun hh => h (Option.some.inj hh)⟩
theorem mem_cells (c : Dev nD) (k : Cel) : cel c k ∈ cellsOpen ∪ cellsShut := by
  by_cases h : k = .bar
  · subst h; exact Finset.mem_union_left _ (mem_open c)
  · exact Finset.mem_union_right _ (mem_shut c k h)

def Invs : sProp 𝕄 := iprop(bigSep (cellsOpen ∪ cellsShut) (fun g => cellInv ER (sched m) (K g) g) ∗ levAts L lv)
instance Invs_persistent : BI.Persistent (Invs m K) := by unfold Invs; infer_instance

theorem Invs_cel (c : Dev nD) (k : Cel) : Invs m K ⊢ cellInv ER (sched m) (K (cel c k)) (cel c k) := by
  unfold Invs
  exact sep_elim_left.trans (bigSep_elim (mem_cells c k))
theorem Invs_lev : Invs m K ⊢ levAts L lv := by unfold Invs; exact sep_elim_right

theorem ent_eq {P Q : sProp 𝕄} (h : P ⊢ Q) (h' : Q ⊢ P) : P = Q := BI.Entails.antisymm h h'

/-! ## The families -/

abbrev pos0 (c : Dev nD) (k : Cel) : sProp 𝕄 := atPos ER (cel c k) 0 ∅ 0
abbrev pos1 (c : Dev nD) (k : Cel) : sProp 𝕄 := atPos ER (cel c k) (0 + 1) ∅ 0
abbrev tok (c : Dev nD) (k : Cel) (d : Fin 3) : sProp 𝕄 := dutyTok ER (cel c k) 0 d
abbrev rch (c : Dev nD) (k : Cel) : sProp 𝕄 := reached ER (cel c k) 0
abbrev crd (c : Dev nD) (k : Cel) (N : ℕ) : sProp 𝕄 := cred (tallyAt (cel c k) () N)

/-- Message `n` before it is sent, on its way, and once its send has been waited for. -/
def msgIdle (c : Dev nD) (n : Fin 30) : sProp 𝕄 :=
  iprop(tok c (.sd n) 0 ∗ rch c (.sd n) ∗ tok (nb c n) (.rv (ab c (src n))) 0 ∗ peerSlot c n ∗ pos0 c (.sd n))
def msgGone (c : Dev nD) (n : Fin 30) : sProp 𝕄 := iprop(crd c (.sd n) NR ∗ pos0 c (.sd n))
def Mst (c : Dev nD) (sent wsend : ℕ) (n : Fin 30) : sProp 𝕄 :=
  if n.val < wsend then pos1 c (.sd n) else if n.val < sent then msgGone c n else msgIdle c n

/-- The quarter of slot `r` that goes with a message in direction `b`, and whether one has it. -/
def piece (c : Dev nD) (r : Fin 32) (b : Bool) : sProp 𝕄 := pv c (slotM (ab c r)) (qB b) (RB m c)
def Lent (sent wsend : ℕ) (r : Fin 32) (b : Bool) : Prop := ∃ n : Fin 30, src n = r ∧ odd n = b ∧ wsend ≤ n.val ∧ n.val < sent
instance (sent wsend : ℕ) (r : Fin 32) (b : Bool) : Decidable (Lent sent wsend r b) := by unfold Lent; infer_instance
def Bst (c : Dev nD) (sent ready wsend : ℕ) (r : Fin 32) (b : Bool) : sProp 𝕄 :=
  if r.val < ready ∧ ¬ Lent sent wsend r b then piece m c r b else iprop(emp)

/-- How slot `r` gets filled: the first two by the device itself, the others by a message. -/
def Vst (c : Dev nD) (ready : ℕ) (r : Fin 32) : sProp 𝕄 :=
  if r.val < 2 then iprop(pos0 c (.rv (ab c r)) ∗ if r.val < ready then iprop(emp) else pvE c (slotM (ab c r)))
  else if r.val < ready then pos1 c (.rv (ab c r)) else iprop(crd c (.rv (ab c r)) NR ∗ pos0 c (.rv (ab c r)))

/-- How slot `r` gets to the result. -/
def outIdle (c : Dev nD) (r : Fin 32) : sProp 𝕄 :=
  iprop(tok c (.st (ab c r)) 0 ∗ rch c (.st (ab c r)) ∗ pos0 c (.st (ab c r)) ∗ pvE c (rowsM (ab c r)))
def outGone (c : Dev nD) (r : Fin 32) : sProp 𝕄 := iprop(crd c (.st (ab c r)) NO ∗ pos0 c (.st (ab c r)))
def outDone (c : Dev nD) (r : Fin 32) : sProp 𝕄 :=
  iprop(pos1 c (.st (ab c r)) ∗ (pv c (rowsM (ab c r)) fullShare (OUT m c) ∗ pv c (slotM (ab c r)) qA (RB m c)))
def Ast (c : Dev nD) (ready stored wstore : ℕ) (r : Fin 32) : sProp 𝕄 :=
  if r.val < stored then (if (ab c r).val < wstore then outDone m c r else outGone c r)
  else if r.val < ready then iprop(outIdle c r ∗ pv c (slotM (ab c r)) qA (RB m c)) else outIdle c r

def Sst (c : Dev nD) (sent ready stored wsend wstore : ℕ) (r : Fin 32) : sProp 𝕄 :=
  iprop(Vst c ready r ∗ Ast m c ready stored wstore r ∗ Bst m c sent ready wsend r false ∗ Bst m c sent ready wsend r true)

def St (c : Dev nD) (sent ready stored wsend wstore : ℕ) : sProp 𝕄 :=
  iprop(Invs m K ∗ (∃ W, owes (c : Thread nD τ) (O c (5 + sent)) W)
    ∗ bigSep Finset.univ (Mst c sent wsend) ∗ bigSep Finset.univ (Sst m c sent ready stored wsend wstore))

/-! ## How the families change -/

theorem Mst_send_rest (c : Dev nD) (n : Fin 30) (ws : ℕ) :
    bigSep (Finset.univ.erase n) (Mst (F := F) c n.val ws) = bigSep (Finset.univ.erase n) (Mst c (n.val + 1) ws) :=
  bigSep_congr fun i hi => by
    have hne : i.val ≠ n.val := fun h => (Finset.mem_erase.mp hi).1 (Fin.ext h)
    unfold Mst
    by_cases h1 : i.val < ws
    · rw [if_pos h1, if_pos h1]
    · rw [if_neg h1, if_neg h1]
      by_cases h2 : i.val < n.val
      · rw [if_pos h2, if_pos (by omega)]
      · rw [if_neg h2, if_neg (by omega)]
theorem Mst_wait_rest (c : Dev nD) (n : Fin 30) (s : ℕ) :
    bigSep (Finset.univ.erase n) (Mst (F := F) c s n.val) = bigSep (Finset.univ.erase n) (Mst c s (n.val + 1)) :=
  bigSep_congr fun i hi => by
    have hne : i.val ≠ n.val := fun h => (Finset.mem_erase.mp hi).1 (Fin.ext h)
    have hiff : i.val < n.val ↔ i.val < n.val + 1 := by omega
    unfold Mst
    simp only [hiff]
theorem Mst_idle (c : Dev nD) (n : Fin 30) (ws : ℕ) (h : ws ≤ n.val) : Mst (F := F) c n.val ws n = msgIdle c n := by
  unfold Mst; rw [if_neg (by omega), if_neg (by omega)]
theorem Mst_gone (c : Dev nD) (n : Fin 30) (s ws : ℕ) (h : ws ≤ n.val) (h' : n.val < s) : Mst (F := F) c s ws n = msgGone c n := by
  unfold Mst; rw [if_neg (by omega), if_pos h']
theorem Mst_done (c : Dev nD) (n : Fin 30) (s ws : ℕ) (h : n.val < ws) : Mst (F := F) c s ws n = pos1 c (.sd n) := by
  unfold Mst; rw [if_pos h]

theorem src_inj {n n' : Fin 30} (h : src n = src n') (h' : odd n = odd n') : n = n' := by
  revert n n'; decide +kernel

theorem Bst_congr (c : Dev nD) (s s' rd rd' ws ws' : ℕ) (r : Fin 32) (b : Bool) (h : r.val < rd ↔ r.val < rd')
    (h' : Lent s ws r b ↔ Lent s' ws' r b) : Bst m c s rd ws r b = Bst m c s' rd' ws' r b := by
  unfold Bst
  by_cases h1 : r.val < rd ∧ ¬ Lent s ws r b
  · rw [if_pos h1, if_pos ⟨h.mp h1.1, fun hh => h1.2 (h'.mpr hh)⟩]
  · rw [if_neg h1, if_neg fun hh => h1 ⟨h.mpr hh.1, fun h2 => hh.2 (h'.mp h2)⟩]

theorem Lent_send (n : Fin 30) (ws : ℕ) (r : Fin 32) (b : Bool) (h : ¬ (src n = r ∧ odd n = b)) :
    Lent n.val ws r b ↔ Lent (n.val + 1) ws r b := by
  constructor
  · rintro ⟨i, a, b, c, d⟩; exact ⟨i, a, b, c, by omega⟩
  · rintro ⟨i, a, b, c, d⟩
    rcases Nat.lt_or_ge i.val n.val with hl | hg
    · exact ⟨i, a, b, c, hl⟩
    · obtain rfl : i = n := Fin.ext (by omega)
      exact absurd ⟨a, b⟩ h
theorem Lent_wait (n : Fin 30) (s : ℕ) (r : Fin 32) (b : Bool) (h : ¬ (src n = r ∧ odd n = b)) :
    Lent s n.val r b ↔ Lent s (n.val + 1) r b := by
  constructor
  · rintro ⟨i, a, b, c, d⟩
    rcases Nat.lt_or_ge n.val i.val with hl | hg
    · exact ⟨i, a, b, hl, d⟩
    · obtain rfl : i = n := Fin.ext (by omega)
      exact absurd ⟨a, b⟩ h
  · rintro ⟨i, a, b, c, d⟩; exact ⟨i, a, b, by omega, d⟩
theorem not_lent_before (n : Fin 30) (ws : ℕ) : ¬ Lent n.val ws (src n) (odd n) := by
  rintro ⟨i, a, b, c, d⟩
  obtain rfl := src_inj a b
  omega
theorem lent_after (n : Fin 30) (ws : ℕ) (h : ws ≤ n.val) : Lent (n.val + 1) ws (src n) (odd n) := ⟨n, rfl, rfl, h, by omega⟩
theorem not_lent_done (n : Fin 30) (s : ℕ) : ¬ Lent s (n.val + 1) (src n) (odd n) := by
  rintro ⟨i, a, b, c, d⟩
  obtain rfl := src_inj a b
  omega

/-- Everything about slot `r` but its quarter in direction `b`. -/
def SstBut (c : Dev nD) (sent ready stored wsend wstore : ℕ) (r : Fin 32) (b : Bool) : sProp 𝕄 :=
  iprop(Vst c ready r ∗ Ast m c ready stored wstore r ∗ Bst m c sent ready wsend r (!b))
theorem Sst_but (c : Dev nD) (s rd sd ws wt : ℕ) (r : Fin 32) (b : Bool) :
    Sst m c s rd sd ws wt r = iprop(Bst m c s rd ws r b ∗ SstBut m c s rd sd ws wt r b) := by
  unfold Sst SstBut
  cases b
  · refine ent_eq ?_ ?_
    · iintro ⟨H1, H2, H3, H4⟩
      isplitl [H3]; · iexact H3
      isplitl [H1]; · iexact H1
      isplitl [H2]; · iexact H2
      iexact H4
    · iintro ⟨H3, H1, H2, H4⟩
      isplitl [H1]; · iexact H1
      isplitl [H2]; · iexact H2
      isplitl [H3]; · iexact H3
      iexact H4
  · refine ent_eq ?_ ?_
    · iintro ⟨H1, H2, H3, H4⟩
      isplitl [H4]; · iexact H4
      isplitl [H1]; · iexact H1
      isplitl [H2]; · iexact H2
      iexact H3
    · iintro ⟨H4, H1, H2, H3⟩
      isplitl [H1]; · iexact H1
      isplitl [H2]; · iexact H2
      isplitl [H3]; · iexact H3
      iexact H4

theorem SstBut_lent (c : Dev nD) (s s' rd sd ws ws' wt : ℕ) (r : Fin 32) (b : Bool)
    (h : Lent s ws r (!b) ↔ Lent s' ws' r (!b)) : SstBut m c s rd sd ws wt r b = SstBut m c s' rd sd ws' wt r b := by
  unfold SstBut; rw [Bst_congr m c s s' rd rd ws ws' r (!b) Iff.rfl h]
theorem Sst_lent (c : Dev nD) (s s' rd sd ws ws' wt : ℕ) (r : Fin 32)
    (h : ∀ b, Lent s ws r b ↔ Lent s' ws' r b) : Sst m c s rd sd ws wt r = Sst m c s' rd sd ws' wt r := by
  unfold Sst; rw [Bst_congr m c s s' rd rd ws ws' r _ Iff.rfl (h false), Bst_congr m c s s' rd rd ws ws' r _ Iff.rfl (h true)]

theorem ne_not (n : Fin 30) : ¬ odd n = !odd n := by cases odd n <;> decide

theorem Sst_send_rest (c : Dev nD) (n : Fin 30) (rd sd ws wt : ℕ) :
    bigSep (Finset.univ.erase (src n)) (Sst m c n.val rd sd ws wt) = bigSep (Finset.univ.erase (src n)) (Sst m c (n.val + 1) rd sd ws wt) :=
  bigSep_congr fun r hr => Sst_lent m c _ _ rd sd ws ws wt r fun b => Lent_send n ws r b fun h => (Finset.mem_erase.mp hr).1 h.1.symm
theorem Sst_wait_rest (c : Dev nD) (n : Fin 30) (s rd sd wt : ℕ) :
    bigSep (Finset.univ.erase (src n)) (Sst m c s rd sd n.val wt) = bigSep (Finset.univ.erase (src n)) (Sst m c s rd sd (n.val + 1) wt) :=
  bigSep_congr fun r hr => Sst_lent m c s s rd sd _ _ wt r fun b => Lent_wait n s r b fun h => (Finset.mem_erase.mp hr).1 h.1.symm

theorem Bst_in (c : Dev nD) (s rd ws : ℕ) (r : Fin 32) (b : Bool) (h : r.val < rd) (h' : ¬ Lent s ws r b) :
    Bst m c s rd ws r b = piece m c r b := by unfold Bst; rw [if_pos ⟨h, h'⟩]
theorem Bst_out (c : Dev nD) (s rd ws : ℕ) (r : Fin 32) (b : Bool) (h : ¬ (r.val < rd ∧ ¬ Lent s ws r b)) :
    Bst m c s rd ws r b = iprop(emp) := by unfold Bst; rw [if_neg h]

/-- What is lent has been received: a place not filled lends nothing. -/
theorem Sst_ready_rest (c : Dev nD) (r : Fin 32) (s sd ws wt : ℕ) :
    bigSep (Finset.univ.erase r) (Sst m c s r.val sd ws wt) = bigSep (Finset.univ.erase r) (Sst m c s (r.val + 1) sd ws wt) :=
  bigSep_congr fun i hi => by
    have hne : i.val ≠ r.val := fun h => (Finset.mem_erase.mp hi).1 (Fin.ext h)
    have hiff : i.val < r.val ↔ i.val < r.val + 1 := by omega
    unfold Sst Vst Ast
    rw [Bst_congr m c s s _ _ ws ws i _ hiff Iff.rfl, Bst_congr m c s s _ _ ws ws i _ hiff Iff.rfl]
    simp only [hiff]
theorem Sst_store_rest (c : Dev nD) (r : Fin 32) (s rd ws wt : ℕ) :
    bigSep (Finset.univ.erase r) (Sst m c s rd r.val ws wt) = bigSep (Finset.univ.erase r) (Sst m c s rd (r.val + 1) ws wt) :=
  bigSep_congr fun i hi => by
    have hne : i.val ≠ r.val := fun h => (Finset.mem_erase.mp hi).1 (Fin.ext h)
    have hiff : i.val < r.val ↔ i.val < r.val + 1 := by omega
    unfold Sst Ast
    simp only [hiff]
theorem Sst_stwait_rest (c : Dev nD) (r : Fin 32) (s rd sd ws : ℕ) :
    bigSep (Finset.univ.erase r) (Sst m c s rd sd ws (ab c r).val) = bigSep (Finset.univ.erase r) (Sst m c s rd sd ws ((ab c r).val + 1)) :=
  bigSep_congr fun i hi => by
    have hne : (ab c i).val ≠ (ab c r).val := fun h => (Finset.mem_erase.mp hi).1 ((abEquiv c).injective (Fin.ext h))
    have hiff : (ab c i).val < (ab c r).val ↔ (ab c i).val < (ab c r).val + 1 := by omega
    unfold Sst Ast
    simp only [hiff]

end Cert.Proof
-- ==== Proof.Steps.lean ====
/- One step of the ring phase: sending a message, waiting for one to arrive, filling an own place, copying a place to the
   result, and the two kinds of waits at the end — each takes the state one further. -/
module

public import proofs.«01_k».proof.Proof.State

@[expose] public section

set_option maxRecDepth 16384

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

abbrev 𝒱₀ : Variants := Variants.none
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A place of the ring buffer at an offset not yet known to be one. -/
abbrev slotAt (o : Fin 3 → Nat) (h : ∀ a, o a + S1x128x4096.size a ≤ S32x128x4096.size a) : Memref sig .tc .vmem S128x4096 .bf16 :=
  (ringM.slice (Rect.unit (s := S32x128x4096) o S1x128x4096.size h) (fun _ => rfl)).squeeze S128x4096 squeezes_S1x128x4096_S128x4096
abbrev rowsAt (o : Fin 2 → Nat) (h : ∀ a, o a + S128x4096.size a ≤ S4096x4096.size a) : Memref sig .tc .hbm S128x4096 .bf16 :=
  outM.slice (Rect.unit (s := S4096x4096) o S128x4096.size h) (fun _ => rfl)

theorem slot_split (c : Dev nD) (j : Fin 32) (f : S32x128x4096.Idx → Elt F .bf16) :
    pv c (slotM j) fullShare f = iprop(pv c (slotM j) qA f ∗ pv c (slotM j) (qB false) f ∗ pv c (slotM j) (qB true) f) := by
  have h1 := pointsTo_share (ℓ := (slotM j).view.loc (c : Thread nD τ)) (I := (slotM j).view.set) (f := f) (Ix := Unit) (U := UU) (Lvl := ℕ) (Name := ℕ)
    (PosShare.mem_left_op_right fullShare)
  have h2 := pointsTo_share (ℓ := (slotM j).view.loc (c : Thread nD τ)) (I := (slotM j).view.set) (f := f) (Ix := Unit) (U := UU) (Lvl := ℕ) (Name := ℕ)
    (PosShare.mem_left_op_right fullShare.right)
  have e2 := ent_eq h2.1 h2.2
  exact (ent_eq h1.1 h1.2).trans (congrArg _ e2)

theorem owed_msg (c : Dev nD) (n : Fin 30) : owed c ⟨5 + n.val, by omega⟩ = (nb c n, .rv (ab c (src n)), 0) := by
  revert c n; decide +kernel

set_option maxHeartbeats 1000000 in
/-- Message `n` leaves. -/
theorem step_send (c : Dev nD) (n : Fin 30) (rd sd ws wt : ℕ) (hr : (src n).val < rd) (hw : ws ≤ n.val) {R : sProp 𝕄}
    {dv : Dev nD} (hdv : dv = nb c n) {o : Fin 3 → Nat} (ho : o = ![(ab c (src n)).val, 0, 0])
    {h1 h2 : ∀ a, o a + S1x128x4096.size a ≤ S32x128x4096.size a}
    {sS sR : SemLoc sig} (hS : sS = semOf (.sd n)) (hR : sR = semOf (.rv (ab c (src n))))
    {hsc : (slotAt o h2).view.ref.isScScratch = false}
    {hsrc : (slotAt o h1).view.WordExact} {hdst : (slotAt o h2).view.WordExact}
    {hsem : DmaTarget.Typed .vmem sR (.remote (Dev.tc dv) (slotAt o h2) sS hsc)}
    {α : Type} {k : PUnit → Prog (TpuEff nD τ sig (Elt F) Λ₀ .tc) α} {Q : α → sProp 𝕄}
    (h : iprop(St m K c (n.val + 1) rd sd ws wt ∗ R) ⊢ WP c (k ⟨⟩) Q) :
    iprop(St m K c n.val rd sd ws wt ∗ R)
      ⊢ WP c (.op (.enqueueDma (slotAt o h1) (.remote (Dev.tc dv) (slotAt o h2) sS hsc) sR hsrc hdst hsem) k) Q := by
  subst hdv ho hS hR
  have hO : O c (5 + n.val) = O c (5 + (n.val + 1)) + tallyAt (cel (nb c n) (.rv (ab c (src n)))) () NR := by
    have := O_step c ⟨5 + n.val, by omega⟩
    rw [show due c ⟨5 + n.val, by omega⟩ = tallyAt (cel (nb c n) (.rv (ab c (src n)))) () NR by
      unfold due; rw [owed_msg]; rfl] at this
    exact this
  unfold St
  rw [bigSep_univ_at (Mst c n.val ws) n, bigSep_univ_at (Sst m c n.val rd sd ws wt) (src n),
    Mst_idle c n ws hw, Mst_send_rest c n ws, Sst_send_rest m c n rd sd ws wt, Sst_but m c n.val rd sd ws wt (src n) (odd n),
    Bst_in m c n.val rd ws (src n) (odd n) hr (not_lent_before n ws),
    SstBut_lent m c n.val (n.val + 1) rd sd ws ws wt (src n) (odd n) (Lent_send n ws _ _ fun hh => ne_not n hh.2)]
  unfold msgIdle peerSlot pvE
  iintro ⟨⟨#HI, ⟨%W, HO⟩, ⟨⟨HtS, #HrS, HtR, ⟨⟨%fd, Hd⟩, #HrR⟩, HaS⟩, HMr⟩, ⟨⟨Hp, HSb⟩, HSr⟩⟩, HR⟩
  iapply (Rounds.wp_send_pointsTo 𝒱₀ ER (sched m) (c : Thread nD τ) none (c' := (nb c n : Thread nD τ)) (src := slotM (ab c (src n)))
      (dst := slotM (ab c (src n))) (sS := semOf (.sd n)) (sem := semOf (.rv (ab c (src n)))) (q := qB (odd n)) (fs := RB m c)
      (κ₁ := K (cel c (.sd n))) (κ₂ := K (cel (nb c n) (.rv (ab c (src n)))))
      (r₁ := 0) (r₂ := 0) (d₁ := 0) (d₂ := 0) (fd := fd)
      (mem_duties m c (.sd n) 0 (Finset.mem_singleton_self _))
      (mem_duties m (nb c n) (.rv (ab c (src n))) 0 (by rw [dts_msg]; exact Finset.mem_singleton_self _))
      () () NR rfl (amount_cel m c (.sd n) 0 0) (amount_cel m (nb c n) (.rv (ab c (src n))) 0 0) (O c (5 + (n.val + 1))) hO (W := W)
      (by rw [payload_cel]; exact BI.Entails.refl _)
      (by
        rw [payload_cel]
        exact Entails.of_eq (pointsTo_congr (fun i hi => by
          rw [write_eq_on (slotM (ab c (src n))).view fd (RB m (nb c n)) _ (by rw [RB_nb]) i hi])))) $$ [Hp Hd HO HtS HtR]
  · isplitr; · iapply (Invs_cel m K c (.sd n)); iexact HI
    isplitr; · iapply (Invs_cel m K (nb c n) (.rv (ab c (src n)))); iexact HI
    isplitl [Hp]; · unfold piece; iexact Hp
    isplitl [Hd]; · iexact Hd
    isplitl [HO]; · iexact HO
    isplitl [HtS]; · iexact HtS
    isplitr; · iexact HrS
    isplitl [HtR]; · iexact HtR
    iexact HrR
  iintro ⟨HcS, HO⟩
  iapply h
  unfold St
  rw [bigSep_univ_at (Mst c (n.val + 1) ws) n, bigSep_univ_at (Sst m c (n.val + 1) rd sd ws wt) (src n),
    Mst_gone c n (n.val + 1) ws hw (Nat.lt_succ_self _), Sst_but m c (n.val + 1) rd sd ws wt (src n) (odd n),
    Bst_out m c (n.val + 1) rd ws (src n) (odd n) (fun hh => hh.2 (lent_after n ws hw))]
  unfold msgGone
  isplitr [HR]
  · isplitr; · iexact HI
    isplitl [HO]; · iexists W; iexact HO
    isplitl [HcS HaS HMr]
    · isplitl [HcS HaS]
      · isplitl [HcS]; · iexact HcS
        iexact HaS
      · iexact HMr
    · isplitl [HSb]
      · isplitr; · iempintro
        iexact HSb
      · iexact HSr
  · iexact HR

/-! ## Waiting for one transfer -/

set_option maxHeartbeats 1000000 in
/-- A wait for a cell with one payment: its credit and its position give the payment. -/
theorem wp_wait_one (c : Dev nD) (a : Cel) (ha : dts c a = {0}) (n : ℕ)
    (hlev : ∀ i : Fin 38, n ≤ i.val → lvC c a < if i.val < 3 then 1 else if i.val < 5 then 2 else if i.val < 35 then i.val else 40)
    {sm : DmaSem sig} (hs : SemLoc.dma sm = semOf a) {sp sp' : Space} {s s' : Shape} {e e' : EltTy} {src : Memref sig .tc sp' s' e'}
    {dst : Memref sig .tc sp s e} {hsrc : src.view.WordExact} {hdst : dst.view.WordExact} (hN : dst.view.dmaCredit = amt a)
    {W : Waits sig Unit} {α : Type} {k : PUnit → Prog (TpuEff nD τ sig (Elt F) Λ₀ .tc) α} {Q : α → sProp 𝕄} :
    iprop(Invs m K ∗ crd c a (amt a) ∗ owes (c : Thread nD τ) (O c n) W ∗ pos0 c a)
      ⊢ iprop((((∃ W, owes (c : Thread nD τ) (O c n) W) ∗ pos1 c a ∗ pay m c a 0) -∗ WP c (k ⟨⟩) Q)
          -∗ WP c (.op (.waitDma2 sm src dst hsrc hdst) k) Q) := by
  iintro ⟨#HI, Hc, HO, Ha⟩
  iintro Hk
  iapply (Rounds.wp_wait_rest_token 𝒱₀ ER (sched m) (c : Thread nD τ) none (κ := K (cel c a)) (sm := semOf a) (k' := amt a)
      (w := .waitDma2 sm src dst hsrc hdst)
      (fun K' => by rw [← hs, ← hN]; exact wpE_waitDma2_eq (src := src) (dst := dst) 𝒱₀ (c : Thread nD τ) none Set.univ K')
      (Set.mem_univ _) () (O := O c n) (W := W) (R := 0) (m := 0) (T := ∅) ((Nat.zero_add _).trans (expect_one m c a ha).symm)) $$ [Hc HO Ha]
  · isplitr; · iapply (Invs_cel m K c a); iexact HI
    isplitl [Hc]; · iexact Hc
    isplitl [HO]; · iexact HO
    isplitr
    · iapply (mayWait_cel c a n hlev); iapply (Invs_lev m K); iexact HI
    iexact Ha
  rw [rest_one m c a ha]
  iintro ⟨HO, Ha, -, Hp⟩
  iapply Hk
  isplitl [HO]; · iexists _; iexact HO
  isplitl [Ha]; · iexact Ha
  iexact Hp

theorem Sst_unready (c : Dev nD) (s sd ws wt : ℕ) (r : Fin 32) (hsd : sd ≤ r.val) :
    Sst m c s r.val sd ws wt r = iprop(Vst c r.val r ∗ outIdle c r ∗ emp ∗ emp) := by
  unfold Sst Ast
  rw [if_neg (by omega), if_neg (by omega), Bst_out m c s _ ws r _ (fun h => by omega), Bst_out m c s _ ws r _ (fun h => by omega)]
theorem Sst_ready (c : Dev nD) (s sd ws wt : ℕ) (r : Fin 32) (hsd : sd ≤ r.val) (hn : ∀ n : Fin 30, n.val < s → (src n).val < r.val) :
    Sst m c s (r.val + 1) sd ws wt r = iprop(Vst c (r.val + 1) r ∗ (outIdle c r ∗ pv c (slotM (ab c r)) qA (RB m c))
      ∗ piece m c r false ∗ piece m c r true) := by
  have hl : ∀ b, ¬ Lent s ws r b := fun b ⟨n, h1, _, _, h4⟩ => by have := hn n h4; rw [h1] at this; omega
  unfold Sst Ast
  rw [if_neg (by omega), if_pos (by omega), Bst_in m c s _ ws r _ (by omega) (hl false), Bst_in m c s _ ws r _ (by omega) (hl true)]

set_option maxHeartbeats 1000000 in
/-- A block arrives. -/
theorem step_recv (c : Dev nD) (r : Fin 32) (sent sd ws wt : ℕ) (h2 : 2 ≤ r.val) (hsent : r.val ≤ sent + 1) (hsd : sd ≤ r.val)
    (hn : ∀ n : Fin 30, n.val < sent → (src n).val < r.val) {R : sProp 𝕄}
    {sm : DmaSem sig} (hs : SemLoc.dma sm = semOf (.rv (ab c r))) {sp sp' : Space} {s s' : Shape} {e e' : EltTy} {sr : Memref sig .tc sp' s' e'}
    {dst : Memref sig .tc sp s e} {hsrc : sr.view.WordExact} {hdst : dst.view.WordExact} (hN : dst.view.dmaCredit = NR)
    {α : Type} {k : PUnit → Prog (TpuEff nD τ sig (Elt F) Λ₀ .tc) α} {Q : α → sProp 𝕄}
    (h : iprop(St m K c sent (r.val + 1) sd ws wt ∗ R) ⊢ WP c (k ⟨⟩) Q) :
    iprop(St m K c sent r.val sd ws wt ∗ R) ⊢ WP c (.op (.waitDma2 sm sr dst hsrc hdst) k) Q := by
  unfold St
  rw [bigSep_univ_at (Sst m c sent r.val sd ws wt) r, Sst_ready_rest, Sst_unready m c sent sd ws wt r hsd]
  unfold Vst
  rw [if_neg (by omega), if_neg (by omega)]
  iintro ⟨⟨#HI, ⟨%W, HO⟩, HM, ⟨⟨⟨Hc, Ha⟩, Hid, -, -⟩, HSr⟩⟩, HR⟩
  iapply (wp_wait_one m K c (.rv (ab c r)) (dts_rv c r h2) (5 + sent) (fun i hi => by
      show 3 + (rel c (ab c r)).val < _
      rw [rel_ab, if_neg (by omega), if_neg (by omega)]
      split <;> omega) hs hN (W := W)) $$ [Hc Ha HO]
  · isplitr; · iexact HI
    isplitl [Hc]; · iexact Hc
    isplitl [HO]; · iexact HO
    iexact Ha
  rw [show pay m c (.rv (ab c r)) 0 = pv c (slotM (ab c r)) fullShare (RB m c) from rfl, slot_split]
  iintro ⟨HO, Ha, Hq, Hf, Ht⟩
  iapply h
  unfold St
  rw [bigSep_univ_at (Sst m c sent (r.val + 1) sd ws wt) r, Sst_ready m c sent sd ws wt r hsd hn]
  unfold Vst piece
  rw [if_neg (by omega), if_pos (by omega)]
  isplitr [HR]
  · isplitr; · iexact HI
    isplitl [HO]; · iexact HO
    isplitl [HM]; · iexact HM
    isplitr [HSr]
    · isplitl [Ha]; · iexact Ha
      isplitl [Hid Hq]
      · isplitl [Hid]; · iexact Hid
        iexact Hq
      isplitl [Hf]; · iexact Hf
      iexact Ht
    · iexact HSr
  · iexact HR

/-! ## To the result -/

theorem Ast_stored (c : Dev nD) (rd wt : ℕ) (r : Fin 32) (hwt : wt ≤ (ab c r).val) :
    Ast m c rd (r.val + 1) wt r = outGone c r := by
  unfold Ast; rw [if_pos (by omega), if_neg (by omega)]
theorem Ast_held (c : Dev nD) (rd wt : ℕ) (r : Fin 32) (hrd : r.val < rd) :
    Ast m c rd r.val wt r = iprop(outIdle c r ∗ pv c (slotM (ab c r)) qA (RB m c)) := by
  unfold Ast; rw [if_neg (by omega), if_pos hrd]

set_option maxHeartbeats 1000000 in
/-- Place `r` starts on its way to the result. -/
theorem step_store (c : Dev nD) (r : Fin 32) (sent rd ws wt : ℕ) (hr : r.val < rd) (hwt : wt ≤ (ab c r).val) {R : sProp 𝕄}
    {o : Fin 3 → Nat} (ho : o = ![(ab c r).val, 0, 0]) {o' : Fin 2 → Nat} (ho' : o' = ![128 * (ab c r).val, 0])
    {h1 : ∀ a, o a + S1x128x4096.size a ≤ S32x128x4096.size a} {h2 : ∀ a, o' a + S128x4096.size a ≤ S4096x4096.size a}
    {sm : SemLoc sig} (hs : sm = semOf (.st (ab c r)))
    {hsrc : (slotAt o h1).view.WordExact} {hdst : (rowsAt o' h2).view.WordExact}
    {hsem : DmaTarget.Typed (nD := nD) (τ := τ) (sig := sig) (p := .tc) .vmem sm (.here (rowsAt o' h2))}
    {α : Type} {k : PUnit → Prog (TpuEff nD τ sig (Elt F) Λ₀ .tc) α} {Q : α → sProp 𝕄}
    (h : iprop(St m K c sent rd (r.val + 1) ws wt ∗ R) ⊢ WP c (k ⟨⟩) Q) :
    iprop(St m K c sent rd r.val ws wt ∗ R)
      ⊢ WP c (.op (.enqueueDma (slotAt o h1) (.here (rowsAt o' h2)) sm hsrc hdst hsem) k) Q := by
  subst ho ho' hs
  unfold St
  rw [bigSep_univ_at (Sst m c sent rd r.val ws wt) r, Sst_store_rest]
  unfold Sst
  rw [Ast_held m c rd wt r hr]
  unfold outIdle pvE
  iintro ⟨⟨#HI, HO, HM, ⟨⟨HV, ⟨⟨Ht, #Hr, Ha, ⟨%fd, Hd⟩⟩, Hq⟩, HB⟩, HSr⟩⟩, HR⟩
  iapply (Rounds.wp_copy_pointsTo 𝒱₀ ER (sched m) (c : Thread nD τ) none (src := slotM (ab c r)) (dst := rowsM (ab c r))
      (sem := semOf (.st (ab c r))) (q := qA) (fs := RB m c) (fd := fd) (r := 0) (d := 0) (κ := K (cel c (.st (ab c r))))
      (mem_duties m c (.st (ab c r)) 0 (Finset.mem_singleton_self _)) () NO rfl (amount_cel m c (.st (ab c r)) 0 0)
      (by
        rw [payload_cel]
        exact sep_mono_left (Entails.of_eq (pointsTo_congr fun i hi =>
          write_eq_on (rowsM (ab c r)).view fd (OUT m c) _ (OUT_rows m c (ab c r)) i hi)))) $$ [Ht Hd Hq]
  · isplitr; · iapply (Invs_cel m K c (.st (ab c r))); iexact HI
    isplitl [Hq]; · iexact Hq
    isplitl [Hd]; · iexact Hd
    isplitl [Ht]; · iexact Ht
    iexact Hr
  iintro Hc
  iapply h
  unfold St
  rw [bigSep_univ_at (fun r' => Sst m c sent rd (r.val + 1) ws wt r') r]
  unfold Sst
  rw [Ast_stored m c rd wt r hwt]
  unfold outGone
  isplitr [HR]
  · isplitr; · iexact HI
    isplitl [HO]; · iexact HO
    isplitl [HM]; · iexact HM
    isplitr [HSr]
    · isplitl [HV]; · iexact HV
      isplitl [Hc Ha]
      · isplitl [Hc]; · iexact Hc
        iexact Ha
      iexact HB
    · iexact HSr
  · iexact HR

/-! ## The waits at the end -/

theorem lv_low (c : Dev nD) (a : Cel) (sent : ℕ) (ha : lvC c a = 1) : ∀ i : Fin 38, 5 + sent ≤ i.val →
    lvC c a < if i.val < 3 then 1 else if i.val < 5 then 2 else if i.val < 35 then i.val else 40 := fun i hi => by
  rw [ha, if_neg (by omega), if_neg (by omega)]; split <;> omega

set_option maxHeartbeats 1000000 in
/-- Message `n` has gone. -/
theorem step_wait_send (c : Dev nD) (n : Fin 30) (sent rd sd wt : ℕ) (hs' : n.val < sent) (hr : (src n).val < rd) {R : sProp 𝕄}
    {sm : DmaSem sig} (hs : SemLoc.dma sm = semOf (.sd n)) {sp sp' : Space} {s s' : Shape} {e e' : EltTy} {sr : Memref sig .tc sp' s' e'}
    {dst : Memref sig .tc sp s e} {hsrc : sr.view.WordExact} {hdst : dst.view.WordExact} (hN : dst.view.dmaCredit = NR)
    {α : Type} {k : PUnit → Prog (TpuEff nD τ sig (Elt F) Λ₀ .tc) α} {Q : α → sProp 𝕄}
    (h : iprop(St m K c sent rd sd (n.val + 1) wt ∗ R) ⊢ WP c (k ⟨⟩) Q) :
    iprop(St m K c sent rd sd n.val wt ∗ R) ⊢ WP c (.op (.waitDma2 sm sr dst hsrc hdst) k) Q := by
  unfold St
  rw [bigSep_univ_at (Mst c sent n.val) n, bigSep_univ_at (Sst m c sent rd sd n.val wt) (src n),
    Mst_gone c n sent n.val (Nat.le_refl _) hs', Mst_wait_rest c n sent, Sst_wait_rest m c n sent rd sd wt,
    Sst_but m c sent rd sd n.val wt (src n) (odd n), Bst_out m c sent rd n.val (src n) (odd n) (fun hh => hh.2 ⟨n, rfl, rfl, Nat.le_refl _, hs'⟩),
    SstBut_lent m c sent sent rd sd n.val (n.val + 1) wt (src n) (odd n) (Lent_wait n sent _ _ fun hh => ne_not n hh.2)]
  unfold msgGone
  iintro ⟨⟨#HI, ⟨%W, HO⟩, ⟨⟨Hc, Ha⟩, HMr⟩, ⟨⟨-, HSb⟩, HSr⟩⟩, HR⟩
  iapply (wp_wait_one m K c (.sd n) rfl (5 + sent) (lv_low c _ sent rfl) hs hN (W := W)) $$ [Hc Ha HO]
  · isplitr; · iexact HI
    isplitl [Hc]; · iexact Hc
    isplitl [HO]; · iexact HO
    iexact Ha
  rw [show pay m c (.sd n) 0 = piece m c (src n) (odd n) from rfl]
  iintro ⟨HO, Ha, Hp⟩
  iapply h
  unfold St
  rw [bigSep_univ_at (Mst c sent (n.val + 1)) n, bigSep_univ_at (Sst m c sent rd sd (n.val + 1) wt) (src n),
    Mst_done c n sent (n.val + 1) (Nat.lt_succ_self _),
    Sst_but m c sent rd sd (n.val + 1) wt (src n) (odd n), Bst_in m c sent rd (n.val + 1) (src n) (odd n) hr (not_lent_done n sent)]
  isplitr [HR]
  · isplitr; · iexact HI
    isplitl [HO]; · iexact HO
    isplitl [Ha HMr]
    · isplitl [Ha]; · iexact Ha
      iexact HMr
    · isplitl [Hp HSb]
      · isplitl [Hp]; · iexact Hp
        iexact HSb
      · iexact HSr
  · iexact HR

set_option maxHeartbeats 1000000 in
/-- Place `r` is in the result. -/
theorem step_wait_store (c : Dev nD) (r : Fin 32) (sent rd sd ws : ℕ) (hsd : r.val < sd) {R : sProp 𝕄}
    {sm : DmaSem sig} (hs : SemLoc.dma sm = semOf (.st (ab c r))) {sp sp' : Space} {s s' : Shape} {e e' : EltTy} {sr : Memref sig .tc sp' s' e'}
    {dst : Memref sig .tc sp s e} {hsrc : sr.view.WordExact} {hdst : dst.view.WordExact} (hN : dst.view.dmaCredit = NO)
    {α : Type} {k : PUnit → Prog (TpuEff nD τ sig (Elt F) Λ₀ .tc) α} {Q : α → sProp 𝕄}
    (h : iprop(St m K c sent rd sd ws ((ab c r).val + 1) ∗ R) ⊢ WP c (k ⟨⟩) Q) :
    iprop(St m K c sent rd sd ws (ab c r).val ∗ R) ⊢ WP c (.op (.waitDma2 sm sr dst hsrc hdst) k) Q := by
  unfold St
  rw [bigSep_univ_at (Sst m c sent rd sd ws (ab c r).val) r, Sst_stwait_rest]
  unfold Sst Ast
  rw [if_pos hsd, if_neg (Nat.lt_irrefl _)]
  unfold outGone
  iintro ⟨⟨#HI, ⟨%W, HO⟩, HM, ⟨⟨HV, ⟨Hc, Ha⟩, HB⟩, HSr⟩⟩, HR⟩
  iapply (wp_wait_one m K c (.st (ab c r)) rfl (5 + sent) (lv_low c _ sent rfl) hs hN (W := W)) $$ [Hc Ha HO]
  · isplitr; · iexact HI
    isplitl [Hc]; · iexact Hc
    isplitl [HO]; · iexact HO
    iexact Ha
  rw [show pay m c (.st (ab c r)) 0 = iprop(pv c (rowsM (ab c r)) fullShare (OUT m c) ∗ pv c (slotM (ab c r)) qA (RB m c)) from rfl]
  iintro ⟨HO, Ha, Hp⟩
  iapply h
  unfold St
  rw [bigSep_univ_at (Sst m c sent rd sd ws ((ab c r).val + 1)) r]
  unfold Sst Ast
  rw [if_pos hsd, if_pos (Nat.lt_succ_self _)]
  unfold outDone
  isplitr [HR]
  · isplitr; · iexact HI
    isplitl [HO]; · iexact HO
    isplitl [HM]; · iexact HM
    isplitr [HSr]
    · isplitl [HV]; · iexact HV
      isplitl [Ha Hp]
      · isplitl [Ha]; · iexact Ha
        iexact Hp
      iexact HB
    · iexact HSr
  · iexact HR

/-! ## The two places a device fills itself -/

theorem slot_set (o : Fin 3 → Nat) (h : ∀ a, o a + S1x128x4096.size a ≤ S32x128x4096.size a) :
    (ringM.access (Rect.unit (s := S32x128x4096) o S1x128x4096.size h)).set = (slotAt o h).view.set := by
  simp only [slotAt, View.set_reshape]

set_option maxHeartbeats 1000000 in
theorem step_own_load (c : Dev nD) (r : Fin 32) (sent sd ws wt : ℕ) (h2 : r.val < 2) (hsd : sd ≤ r.val) {R : sProp 𝕄}
    {o : Fin 3 → Nat} (ho : o = ![(ab c r).val, 0, 0]) {h1 : ∀ a, o a + S1x128x4096.size a ≤ S32x128x4096.size a}
    {hl : ringM.view.LoadsAt (Rect.unit (s := S32x128x4096) o S1x128x4096.size h1).toLoadRect}
    {α : Type} {k : Vec F S1x128x4096 .bf16 → Prog (TpuEff nD τ sig (Elt F) Λ₀ .tc) α} {Q : α → sProp 𝕄}
    (h : ∀ v, iprop(St m K c sent r.val sd ws wt ∗ R) ⊢ WP c (k v) Q) :
    iprop(St m K c sent r.val sd ws wt ∗ R)
      ⊢ WP c (.op (.load ringM (Rect.unit (s := S32x128x4096) o S1x128x4096.size h1).toLoadRect hl) k) Q := by
  subst ho
  unfold St at h ⊢
  rw [bigSep_univ_at (Sst m c sent r.val sd ws wt) r, Sst_unready m c sent sd ws wt r hsd] at h ⊢
  unfold Vst at h ⊢
  rw [if_pos h2, if_neg (by omega)] at h ⊢
  unfold pvE at h ⊢
  iintro ⟨⟨HI, HO, HM, ⟨⟨⟨Ha, ⟨%f, Hf⟩⟩, Hid⟩, HSr⟩⟩, HR⟩
  iapply (wp_load_rect (m := ringM) (r := Rect.unit (s := S32x128x4096) ![(ab c r).val, 0, 0] S1x128x4096.size h1) (S := (slotM (ab c r)).view.set) (q := fullShare) (f := f) 𝒱₀ (c : Thread nD τ) none Set.univ
    (by rw [slot_set])) $$ [Hf]
  · iexact Hf
  iintro Hf
  iapply (h _)
  isplitr [HR]
  · isplitl [HI]; · iexact HI
    isplitl [HO]; · iexact HO
    isplitl [HM]; · iexact HM
    isplitr [HSr]
    · isplitl [Ha Hf]
      · isplitl [Ha]; · iexact Ha
        iexists f; iexact Hf
      iexact Hid
    · iexact HSr
  · iexact HR

/-- A block of `BLK` written over a place is what the ring buffer ends with there. -/
theorem own_written (c : Dev nD) (s : Fin 2) (r : Fin 32) (hv : s.val = r.val) (f : S32x128x4096.Idx → Elt F .bf16)
    {h1 : ∀ a, (![(ab c r).val, 0, 0] : Fin 3 → Nat) a + S1x128x4096.size a ≤ S32x128x4096.size a} :
    (((ringM.access (Rect.unit (s := S32x128x4096) ![(ab c r).val, 0, 0] S1x128x4096.size h1)).loc (c : Thread nD τ)
      ↦[(slotM (ab c r)).view.set]{fullShare}
        ((ringM.access (Rect.unit (s := S32x128x4096) ![(ab c r).val, 0, 0] S1x128x4096.size h1)).write (Elt F) f (BLK m c s) Finset.univ)) : sProp 𝕄)
      = pv c (slotM (ab c r)) fullShare (RB m c) := by
  have hso := own_slab c s
  rw [show (s.castLE (by decide) : Fin 32) = r from Fin.ext hv] at hso
  refine pointsTo_congr fun i hi => ?_
  refine write_eq_on (ringM.access (Rect.unit (s := S32x128x4096) ![(ab c r).val, 0, 0] S1x128x4096.size h1)) f (RB m c) (BLK m c s) ?_ i ?_
  · funext x
    exact (RB_slab m c (ab c r) x).trans (by rw [hso.1, hso.2])
  · rw [slot_set]; exact hi

set_option maxHeartbeats 1000000 in
theorem step_own_store (c : Dev nD) (s : Fin 2) (r : Fin 32) (hv : s.val = r.val) (sent sd ws wt : ℕ) (hsd : sd ≤ r.val)
    (hn : ∀ n : Fin 30, n.val < sent → (src n).val < r.val) {R : sProp 𝕄}
    {o : Fin 3 → Nat} (ho : o = ![(ab c r).val, 0, 0]) {h1 : ∀ a, o a + S1x128x4096.size a ≤ S32x128x4096.size a}
    {w : Vec F S1x128x4096 .bf16} (hw : w = BLK m c s)
    {hx : (ringM.access (Rect.unit (s := S32x128x4096) o S1x128x4096.size h1)).Stores Finset.univ}
    {hm : (Finset.univ : Finset (Rect.unit (s := S32x128x4096) o S1x128x4096.size h1).shape.Idx) = Finset.univ
      ∨ ∀ a, (Rect.unit (s := S32x128x4096) o S1x128x4096.size h1).stride a = 1}
    {α : Type} {k : PUnit → Prog (TpuEff nD τ sig (Elt F) Λ₀ .tc) α} {Q : α → sProp 𝕄}
    (h : iprop(St m K c sent (r.val + 1) sd ws wt ∗ R) ⊢ WP c (k ⟨⟩) Q) :
    iprop(St m K c sent r.val sd ws wt ∗ R)
      ⊢ WP c (.op (.store ringM (Rect.unit (s := S32x128x4096) o S1x128x4096.size h1) w Finset.univ hx hm) k) Q := by
  subst ho hw
  have h2 : r.val < 2 := hv ▸ s.isLt
  unfold St
  rw [bigSep_univ_at (Sst m c sent r.val sd ws wt) r, Sst_ready_rest, Sst_unready m c sent sd ws wt r hsd]
  unfold Vst
  rw [if_pos h2, if_neg (Nat.lt_irrefl _)]
  unfold pvE
  iintro ⟨⟨#HI, HO, HM, ⟨⟨⟨Ha, ⟨%f, Hf⟩⟩, Hid, -, -⟩, HSr⟩⟩, HR⟩
  iapply (wp_store (m := ringM) (r := Rect.unit (s := S32x128x4096) ![(ab c r).val, 0, 0] S1x128x4096.size h1) (Mk := Finset.univ) (w := BLK m c s)
    (S := (slotM (ab c r)).view.set) (f := f) 𝒱₀ (c : Thread nD τ) none Set.univ
    (by rw [View.setOn_univ, slot_set])) $$ [Hf]
  · iexact Hf
  rw [own_written m c s r hv f, slot_split]
  iintro ⟨Hq, Hf, Ht⟩
  iapply h
  unfold St
  rw [bigSep_univ_at (Sst m c sent (r.val + 1) sd ws wt) r, Sst_ready m c sent sd ws wt r hsd hn]
  unfold Vst piece
  rw [if_pos h2, if_pos (Nat.lt_succ_self _)]
  isplitr [HR]
  · isplitr; · iexact HI
    isplitl [HO]; · iexact HO
    isplitl [HM]; · iexact HM
    isplitr [HSr]
    · isplitl [Ha]
      · isplitl [Ha]; · iexact Ha
        iempintro
      isplitl [Hid Hq]
      · isplitl [Hid]; · iexact Hid
        iexact Hq
      isplitl [Hf]; · iexact Hf
      iexact Ht
    · iexact HSr
  · iexact HR

end Cert.Proof
-- ==== Proof.Ring.lean ====
/- How the parts of the program are put together, and the names its slices of semaphores go by. -/
module

public import proofs.«01_k».proof.Proof.Steps

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- A part of the program at the operands the launch calls it with. -/
abbrev At {β : Type 1} (t : Fin grid0.N) (s : Fin 1)
    (f : (i : grid0.Coords) → (arg1 : Memref sig .tc .smem S6 .i32) → arg1.IsWhole → (arg2 : Memref sig .tc .hbm S2x4096x4096 .f32) → arg2.IsWhole
      → (arg3 : Memref sig .tc .vmem S1x4096 .f32) → arg3.IsWhole → (arg4 : Memref sig .tc .hbm S4096x4096 .bf16) → arg4.IsWhole
      → (arg5 : Memref sig .tc .vmem S256x4096 .f32) → arg5.IsWhole → (arg6 : Memref sig .tc .vmem S256x4096 .f32) → arg6.IsWhole
      → (arg7 : Memref sig .tc .vmem S2x128x4096 .bf16) → arg7.IsWhole → (arg8 : Memref sig .tc .vmem S2x128x4096 .bf16) → arg8.IsWhole
      → (arg9 : Memref sig .tc .vmem S32x128x4096 .bf16) → arg9.IsWhole
      → DmaSems sig S2 → DmaSems sig S2 → DmaSems sig S2 → DmaSems sig S15 → DmaSems sig S15 → DmaSems sig S32 → DmaSems sig S32 → Sems sig S_ → β) : β :=
  f (grid0.coords t) (Memref.whole main_v49) (Memref.isWhole_whole _) (Memref.whole main_v1) (Memref.isWhole_whole _)
    (spec0_0.stage s) (hstage0_0 s) (Memref.whole main_v50) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 cc0_scoped0

/-- One part, then the rest. -/
theorem seq {α β : Type} {c : Dev nD} {P : sProp 𝕄} {S : α → sProp 𝕄} {p : Prog (TpuEff nD τ sig (Elt F) Λ₀ .tc) α}
    {k : α → Prog (TpuEff nD τ sig (Elt F) Λ₀ .tc) β} {Q : β → sProp 𝕄} (h : P ⊢ WP c p S) (h' : ∀ a, S a ⊢ WP c (k a) Q) :
    P ⊢ WP c (p >>= k) Q := by
  unfold WP at h' ⊢
  rw [wp_bind]
  exact h.trans (wp_mono _ _ _ h')
theorem fin {α : Type} {c : Dev nD} {P : sProp 𝕄} {a : α} {Q : α → sProp 𝕄} (h : P ⊢ Q a) : P ⊢ WP c (.ret a) Q := by
  unfold WP; rw [wp_ret]; exact h.trans (fupd_intro)

theorem sm_rv (c : Dev nD) (r : Fin 32) {o : Fin 1 → Nat} (ho : o = ![(ab c r).val]) {h : ∀ a, o a + S1.size a ≤ S32.size a} :
    SemLoc.dma ((cc0_scratch10.slice (Rect.unit (s := S32) o S1.size h)).squeeze S_ squeezes_S1_S_).sem = semOf (.rv (ab c r)) := by
  subst ho; exact congrArg SemLoc.dma (sem_rv _ _)
theorem sm_st (c : Dev nD) (r : Fin 32) {o : Fin 1 → Nat} (ho : o = ![(ab c r).val]) {h : ∀ a, o a + S1.size a ≤ S32.size a} :
    SemLoc.dma ((cc0_scratch11.slice (Rect.unit (s := S32) o S1.size h)).squeeze S_ squeezes_S1_S_).sem = semOf (.st (ab c r)) := by
  subst ho; exact congrArg SemLoc.dma (sem_st _ _)
theorem sm_sr (k : Fin 15) {h : ∀ a, (![k.val] : Fin 1 → Nat) a + S1.size a ≤ S15.size a} :
    SemLoc.dma ((cc0_scratch8.slice (Rect.unit (s := S15) ![k.val] S1.size h)).squeeze S_ squeezes_S1_S_).sem
      = semOf (.sd ⟨2 * k.val, by omega⟩) := by revert k; decide +kernel
theorem sm_sl (k : Fin 15) {h : ∀ a, (![k.val] : Fin 1 → Nat) a + S1.size a ≤ S15.size a} :
    SemLoc.dma ((cc0_scratch9.slice (Rect.unit (s := S15) ![k.val] S1.size h)).squeeze S_ squeezes_S1_S_).sem
      = semOf (.sd ⟨2 * k.val + 1, by omega⟩) := by revert k; decide +kernel

/-- The same resources in another order. -/
theorem re {α : Type} {c : Dev nD} {P P' : sProp 𝕄} {p : Prog (TpuEff nD τ sig (Elt F) Λ₀ .tc) α} {Q : α → sProp 𝕄} (h : P ⊢ P')
    (h' : P' ⊢ WP c p Q) : P ⊢ WP c p Q := h.trans h'

/-- A wait for the copy of an absolute place to the result. -/
theorem step_wait_abs (c : Dev nD) (j : Fin 32) (sent rd sd ws : ℕ) (hsd : 32 ≤ sd) {R : sProp 𝕄} {sp sp' : Space} {s s' : Shape} {e e' : EltTy}
    {src : Memref sig .tc sp' s' e'} {dst : Memref sig .tc sp s e} {hsrc : src.view.WordExact} {hdst : dst.view.WordExact}
    (hN : dst.view.dmaCredit = NO) {h1 : ∀ a, (![j.val] : Fin 1 → Nat) a + S1.size a ≤ S32.size a}
    {α : Type} {k : PUnit → Prog (TpuEff nD τ sig (Elt F) Λ₀ .tc) α} {Q : α → sProp 𝕄}
    (h : iprop(St m K c sent rd sd ws (j.val + 1) ∗ R) ⊢ WP c (k ⟨⟩) Q) :
    iprop(St m K c sent rd sd ws j.val ∗ R)
      ⊢ WP c (.op (.waitDma2 ((cc0_scratch11.slice (Rect.unit (s := S32) ![j.val] S1.size h1)).squeeze S_ squeezes_S1_S_).sem src dst hsrc hdst) k) Q := by
  have hj : ab c (rel c j) = j := ab_rel c j
  have hh := step_wait_store m K c (rel c j) sent rd sd ws (by have := (rel c j).isLt; omega) (R := R) (sr := src) (dst := dst)
    (hsrc := hsrc) (hdst := hdst) (sm := ((cc0_scratch11.slice (Rect.unit (s := S32) ![j.val] S1.size h1)).squeeze S_ squeezes_S1_S_).sem)
    (by rw [hj]; exact congrArg SemLoc.dma (sem_st _ _)) hN (k := k) (Q := Q)
  rw [hj] at hh
  exact hh h

/-- A wait for one of the other transfers while the messages go round. -/
theorem step_wait_other (c : Dev nD) (a : Cel) (ha : dts c a = {0}) (hl : lvC c a ≤ 2) (sent rd sd ws wt : ℕ) {R : sProp 𝕄}
    {sp sp' : Space} {s s' : Shape} {e e' : EltTy}
    {src : Memref sig .tc sp' s' e'} {dst : Memref sig .tc sp s e} {hsrc : src.view.WordExact} {hdst : dst.view.WordExact}
    {sm : DmaSem sig} (hs : SemLoc.dma sm = semOf a) (hN : dst.view.dmaCredit = amt a)
    {α : Type} {k : PUnit → Prog (TpuEff nD τ sig (Elt F) Λ₀ .tc) α} {Q : α → sProp 𝕄}
    (h : iprop(St m K c sent rd sd ws wt ∗ pos1 c a ∗ pay m c a 0 ∗ R) ⊢ WP c (k ⟨⟩) Q) :
    iprop(St m K c sent rd sd ws wt ∗ crd c a (amt a) ∗ pos0 c a ∗ R) ⊢ WP c (.op (.waitDma2 sm src dst hsrc hdst) k) Q := by
  unfold St at h ⊢
  iintro ⟨⟨#HI, ⟨%W, HO⟩, HM, HS⟩, Hc, Ha, HR⟩
  iapply (wp_wait_one m K c a ha (5 + sent) (fun i hi => by
    split
    · omega
    · split
      · omega
      · split <;> omega) hs hN (W := W)) $$ [Hc HO Ha]
  · isplitr; · iexact HI
    isplitl [Hc]; · iexact Hc
    isplitl [HO]; · iexact HO
    iexact Ha
  iintro ⟨HO, Ha, Hp⟩
  iapply h
  isplitr [Ha Hp HR]
  · isplitr; · iexact HI
    isplitl [HO]; · iexact HO
    isplitl [HM]; · iexact HM
    iexact HS
  isplitl [Ha]; · iexact Ha
  isplitl [Hp]; · iexact Hp
  iexact HR

end Cert.Proof
-- ==== Proof.Pre.lean ====
/- The steps of the program outside the ring phase: reading the table, the barriers' units, the loads of operand rows, and
   the exchange with the partner. -/
module

public import proofs.«01_k».proof.Proof.Ring

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## What is held outside the ring phase -/

abbrev tabM : Memref sig .tc .smem S6 .i32 := Memref.whole main_v49
/-- The prefetched table of device `c`. -/
def tabF (c : Dev nD) : S6.Idx → Elt F .i32 := fun i => tabW c (i 0)
def Tab (c : Dev nD) : sProp 𝕄 := pv c tabM fullShare (tabF c)

/-- The invariants, what is still owed after `n` payments, and the table. -/
def Core (c : Dev nD) (n : ℕ) : sProp 𝕄 := iprop(Invs m K ∗ (∃ W, owes (c : Thread nD τ) (O c n) W) ∗ Tab c)

/-- What the `i`-th payment spends. -/
def Sg (c : Dev nD) (i : Fin 38) : sProp 𝕄 :=
  iprop(tok (owed c i).1 (owed c i).2.1 (owed c i).2.2 ∗ pay m (owed c i).1 (owed c i).2.1 (owed c i).2.2 ∗ rch (owed c i).1 (owed c i).2.1)

/-- A load of operand rows before it is issued: its cell, the rows of half `x`, and the buffer. -/
def InI (c : Dev nD) (s : Fin 2) (x : Fin 2) (M : Memref sig .tc .vmem S256x4096 .f32) : sProp 𝕄 :=
  iprop(tok c (.inn s) 0 ∗ rch c (.inn s) ∗ pv c (inM x (pos c)) fullShare (PV m c) ∗ pvE c M)
/-- A half of the exchange before it is sent: the half's buffer is held besides. -/
def XT (c : Dev nD) (s : Fin 2) : sProp 𝕄 :=
  iprop(tok c (.xs s) 0 ∗ rch c (.xs s) ∗ tok (partner c) (.xr s) 0)

/-! ## The steps -/

theorem step_dev {c : Dev nD} {P : sProp 𝕄} {α : Type} {k : Dev nD → Prog (TpuEff nD τ sig (Elt F) Λ₀ .tc) α} {Q : α → sProp 𝕄}
    (h : P ⊢ WP c (k c) Q) : P ⊢ WP c (.op .deviceId k) Q := by
  unfold WP at h ⊢
  rw [wp_deviceId]; exact h
theorem step_assume {c : Dev nD} {P : sProp 𝕄} {p : Prop} {d : Decidable p} {α : Type}
    {k : PLift p → Prog (TpuEff nD τ sig (Elt F) Λ₀ .tc) α} {Q : α → sProp 𝕄} (hp : p)
    (h : P ⊢ WP c (k ⟨hp⟩) Q) : P ⊢ WP c (.op (.assume p d) k) Q := by
  unfold WP at h ⊢
  rw [wp_assume_of 𝒱₀ (c : Thread nD τ) none Set.univ hp]; exact h

/-- A read of a word of the table. -/
theorem step_tab {c : Dev nD} (i : Fin 6) {n : ℕ} {R : sProp 𝕄} {h1 : ∀ a, (![i.val] : Fin 1 → Nat) a + S1.size a ≤ S6.size a}
    {hl : tabM.view.LoadsAt (Rect.unit (s := S6) ![i.val] S1.size h1).toLoadRect}
    {α : Type} {k : ((Rect.unit (s := S6) ![i.val] S1.size h1).toLoadRect.shape.Idx → Elt F .i32) → Prog (TpuEff nD τ sig (Elt F) Λ₀ .tc) α}
    {Q : α → sProp 𝕄} (h : iprop(Core m K c n ∗ R) ⊢ WP c (k fun _ => tabW c i) Q) :
    iprop(Core m K c n ∗ R) ⊢ WP c (.op (.load tabM (Rect.unit (s := S6) ![i.val] S1.size h1).toLoadRect hl) k) Q := by
  unfold Core Tab at h ⊢
  iintro ⟨⟨HI, HO, HT⟩, HR⟩
  iapply (wp_load_rect (m := tabM) (r := Rect.unit (s := S6) ![i.val] S1.size h1) (S := tabM.view.set) (q := fullShare) (f := tabF c)
    𝒱₀ (c : Thread nD τ) none Set.univ (View.set_slice_subset _ _)) $$ [HT]
  · iexact HT
  iintro HT
  have e : (tabM.access (Rect.unit (s := S6) ![i.val] S1.size h1)).read (Elt F) (tabF c) = fun _ => tabW c i := by
    funext x
    refine congrArg (tabW c) (Fin.ext ?_)
    have hx : (x 0).val < 1 := (x 0).isLt
    show i.val + 1 * (x 0).val = i.val
    omega
  rw [e]
  iapply h
  isplitr [HR]
  · isplitl [HI]; · iexact HI
    isplitl [HO]; · iexact HO
    iexact HT
  iexact HR

/-- A unit for a barrier. -/
theorem step_sig (c : Dev nD) (i : Fin 38) (hi : (owed c i).2.1 = .bar ∨ (owed c i).2.1 = .fin) {R : sProp 𝕄}
    {dv : Dev nD} (hdv : dv = (owed c i).1) {sm : Sem sig} (hs : SemLoc.reg sm = semOf (owed c i).2.1)
    {α : Type} {k : PUnit → Prog (TpuEff nD τ sig (Elt F) Λ₀ .tc) α} {Q : α → sProp 𝕄}
    (h : iprop(Core m K c (i.val + 1) ∗ R) ⊢ WP c (k ⟨⟩) Q) :
    iprop(Core m K c i.val ∗ Sg m c i ∗ R) ⊢ WP c (.op (.semSignal (dv, .tc) sm 1) k) Q := by
  subst hdv
  have ha : amt (owed c i).2.1 = 1 := by rcases hi with hi | hi <;> rw [hi] <;> rfl
  have hm : (owed c i).2.2 ∈ dts (owed c i).1 (owed c i).2.1 := by rcases hi with hi | hi <;> rw [hi] <;> exact Finset.mem_univ _
  have hO : O c i.val = O c (i.val + 1) + tallyAt (((owed c i).1 : Thread nD τ), SemLoc.reg sm) () 1 := by
    rw [O_step c i, hs]; unfold due; rw [ha]
  unfold Core Sg at *
  iintro ⟨⟨#HI, ⟨%W, HO⟩, HT⟩, ⟨Ht, Hp, Hr⟩, HR⟩
  iapply (Rounds.wp_signal 𝒱₀ ER (sched (F := F) m) (c : Thread nD τ) none (dst := ((owed c i).1 : Thread nD τ)) (sem := sm) (r := 0)
      (d := (owed c i).2.2) (k' := 1) (κ := K (cel (owed c i).1 (owed c i).2.1))
      (by rw [hs]; exact mem_duties m _ _ _ hm) (by rw [hs, amount_cel, ha]) () (O c (i.val + 1)) hO) $$ [HO Ht Hp Hr]
  · rw [hs, payload_cel]
    isplitr; · iapply (Invs_cel m K (owed c i).1 (owed c i).2.1); iexact HI
    isplitl [HO]; · iexact HO
    isplitl [Ht]; · iexact Ht
    isplitl [Hp]; · iexact Hp
    iexact Hr
  iintro HO
  iapply h
  isplitr [HR]
  · isplitr; · iexact HI
    isplitl [HO]; · iexists W; iexact HO
    iexact HT
  iexact HR

/-- A wait for a barrier's three units. -/
theorem step_three (c : Dev nD) (a : Cel) (ha : a = .bar ∨ a = .fin) (n : ℕ)
    (hlev : ∀ i : Fin 38, n ≤ i.val → lvC c a < if i.val < 3 then 1 else if i.val < 5 then 2 else if i.val < 35 then i.val else 40)
    {sm : Sem sig} (hs : SemLoc.reg sm = semOf a) {R : sProp 𝕄}
    {α : Type} {k : PUnit → Prog (TpuEff nD τ sig (Elt F) Λ₀ .tc) α} {Q : α → sProp 𝕄}
    (h : iprop(Core m K c n ∗ pos1 c a ∗ pay m c a 0 ∗ pay m c a 1 ∗ pay m c a 2 ∗ R) ⊢ WP c (k ⟨⟩) Q) :
    iprop(Core m K c n ∗ crd c a 3 ∗ pos0 c a ∗ R) ⊢ WP c (.op (.semWait sm 3) k) Q := by
  have hd : dts c a = Finset.univ := by rcases ha with rfl | rfl <;> rfl
  have hx : (sched (F := F) m).expect (cel c a) 0 = 3 := by rw [expect_three m c a hd]; rcases ha with rfl | rfl <;> rfl
  have hr : bigSep ((sched (F := F) m).duties (cel c a) 0 \ ∅) (fun u => (sched (F := F) m).payload (cel c a) 0 u)
      = iprop(pay m c a 0 ∗ pay m c a 1 ∗ pay m c a 2) := by
    rw [Finset.sdiff_empty, duties_cel, hd, show (Finset.univ : Finset (Fin 3)) = {0, 1, 2} by rfl, bigSep_insert (by decide),
      bigSep_insert (by decide), bigSep_singleton]
    simp only [payload_cel]; rfl
  unfold Core at h ⊢
  iintro ⟨⟨#HI, ⟨%W, HO⟩, HT⟩, Hc, Ha, HR⟩
  iapply (Rounds.wp_wait_rest_token 𝒱₀ ER (sched m) (c : Thread nD τ) none (κ := K (cel c a)) (sm := semOf a) (k' := 3)
      (w := .semWait sm 3) (fun K' => by rw [← hs]; exact wpE_semWait_eq 𝒱₀ (c : Thread nD τ) none Set.univ K')
      (Set.mem_univ _) () (O := O c n) (W := W) (R := 0) (m := 0) (T := ∅) ((Nat.zero_add _).trans hx.symm)) $$ [Hc HO Ha]
  · isplitr; · iapply (Invs_cel m K c a); iexact HI
    isplitl [Hc]; · iexact Hc
    isplitl [HO]; · iexact HO
    isplitr
    · iapply (mayWait_cel c a n hlev); iapply (Invs_lev m K); iexact HI
    iexact Ha
  rw [hr]
  iintro ⟨HO, Ha, -, H0, H1, H2⟩
  iapply h
  isplitr [Ha H0 H1 H2 HR]
  · isplitr; · iexact HI
    isplitl [HO]; · iexists _; iexact HO
    iexact HT
  isplitl [Ha]; · iexact Ha
  isplitl [H0]; · iexact H0
  isplitl [H1]; · iexact H1
  isplitl [H2]; · iexact H2
  iexact HR

/-- The issue of a load of operand rows. -/
theorem step_in (c : Dev nD) (s : Fin 2) (x : Fin 2) (M : Memref sig .tc .vmem S256x4096 .f32) (n : ℕ)
    (hN : M.view.dmaCredit = NI s)
    (hpay : ∀ f, iprop(pv c (inM x (pos c)) fullShare (PV m c) ∗ pv c M fullShare (M.view.write (Elt F) f ((inM x (pos c)).view.read (Elt F) (PV m c)) Finset.univ))
      ⊢ pay m c (.inn s) 0) {R : sProp 𝕄}
    {o : Fin 3 → Nat} (ho : o = ![x.val, 256 * (pos c).val, 0]) {h1 : ∀ a, o a + S1x256x4096.size a ≤ S2x4096x4096.size a}
    {sm : SemLoc sig} (hs : sm = semOf (.inn s))
    {hsrc : ((partM.slice (Rect.unit (s := S2x4096x4096) o S1x256x4096.size h1) (fun _ => rfl)).squeeze S256x4096
      squeezes_S1x256x4096_S256x4096).view.WordExact} {hdst : M.view.WordExact}
    {hsem : DmaTarget.Typed (nD := nD) (τ := τ) (sig := sig) (p := .tc) .hbm sm (.here M)}
    {α : Type} {k : PUnit → Prog (TpuEff nD τ sig (Elt F) Λ₀ .tc) α} {Q : α → sProp 𝕄}
    (h : iprop(Core m K c n ∗ crd c (.inn s) (amt (.inn s)) ∗ R) ⊢ WP c (k ⟨⟩) Q) :
    iprop(Core m K c n ∗ InI m c s x M ∗ R)
      ⊢ WP c (.op (.enqueueDma ((partM.slice (Rect.unit (s := S2x4096x4096) o S1x256x4096.size h1) (fun _ => rfl)).squeeze S256x4096
          squeezes_S1x256x4096_S256x4096) (.here M) sm hsrc hdst hsem) k) Q := by
  subst ho hs
  unfold Core at h ⊢
  unfold InI pvE
  iintro ⟨⟨#HI, HO, HT⟩, ⟨Ht, Hr, Hp, ⟨%fd, Hd⟩⟩, HR⟩
  iapply (Rounds.wp_copy_pointsTo 𝒱₀ ER (sched m) (c : Thread nD τ) none (src := inM x (pos c)) (dst := M)
      (sem := semOf (.inn s)) (q := fullShare) (fs := PV m c) (fd := fd) (r := 0) (d := 0) (κ := K (cel c (.inn s)))
      (mem_duties m c (.inn s) 0 (Finset.mem_singleton_self _)) () (amt (.inn s)) hN (amount_cel m c (.inn s) 0 0)
      (by
        rw [payload_cel]
        exact BIBase.Entails.trans (by iintro ⟨A, B⟩; isplitl [B]; · iexact B
                                       iexact A) (hpay fd))) $$ [Ht Hr Hd Hp]
  · isplitr; · iapply (Invs_cel m K c (.inn s)); iexact HI
    isplitl [Hp]; · iexact Hp
    isplitl [Hd]; · iexact Hd
    isplitl [Ht]; · iexact Ht
    iexact Hr
  iintro Hc
  iapply h
  isplitr [Hc HR]
  · isplitr; · iexact HI
    isplitl [HO]; · iexact HO
    iexact HT
  isplitl [Hc]; · iexact Hc
  iexact HR

/-- A wait for one transfer. -/
theorem step_wait (c : Dev nD) (a : Cel) (ha : dts c a = {0}) (n : ℕ)
    (hlev : ∀ i : Fin 38, n ≤ i.val → lvC c a < if i.val < 3 then 1 else if i.val < 5 then 2 else if i.val < 35 then i.val else 40)
    {R : sProp 𝕄} {sp sp' : Space} {s s' : Shape} {e e' : EltTy}
    {src : Memref sig .tc sp' s' e'} {dst : Memref sig .tc sp s e} {hsrc : src.view.WordExact} {hdst : dst.view.WordExact}
    {sm : DmaSem sig} (hs : SemLoc.dma sm = semOf a) (hN : dst.view.dmaCredit = amt a)
    {α : Type} {k : PUnit → Prog (TpuEff nD τ sig (Elt F) Λ₀ .tc) α} {Q : α → sProp 𝕄}
    (h : iprop(Core m K c n ∗ pos1 c a ∗ pay m c a 0 ∗ R) ⊢ WP c (k ⟨⟩) Q) :
    iprop(Core m K c n ∗ crd c a (amt a) ∗ pos0 c a ∗ R) ⊢ WP c (.op (.waitDma2 sm src dst hsrc hdst) k) Q := by
  unfold Core at h ⊢
  iintro ⟨⟨#HI, ⟨%W, HO⟩, HT⟩, Hc, Ha, HR⟩
  iapply (wp_wait_one m K c a ha n hlev hs hN (W := W)) $$ [Hc HO Ha]
  · isplitr; · iexact HI
    isplitl [Hc]; · iexact Hc
    isplitl [HO]; · iexact HO
    iexact Ha
  iintro ⟨HO, Ha, Hp⟩
  iapply h
  isplitr [Ha Hp HR]
  · isplitr; · iexact HI
    isplitl [HO]; · iexact HO
    iexact HT
  isplitl [Ha]; · iexact Ha
  isplitl [Hp]; · iexact Hp
  iexact HR

/-- A read of a buffer held. -/
theorem step_load {c : Dev nD} {sp : CoreSpace} {s : Shape} {e : EltTy} (M : Memref sig .tc sp s e) {q : PosShare TreeShare}
    {f : Buf (Elt F) (M.view.loc (c : Thread nD τ))} {X R : sProp 𝕄} {r : Rect s} {S : Finset (Idx (M.view.loc (c : Thread nD τ)))}
    (hS : (M.access r).set ⊆ S) {v : r.shape.Idx → Elt F e} (hv : (M.access r).read (Elt F) f = v)
    {hl : M.view.LoadsAt r.toLoadRect} {α : Type} {k : (r.shape.Idx → Elt F e) → Prog (TpuEff nD τ sig (Elt F) Λ₀ .tc) α} {Q : α → sProp 𝕄}
    (h : iprop(X ∗ ((M.view.loc (c : Thread nD τ)) ↦[S]{q} f) ∗ R) ⊢ WP c (k v) Q) :
    iprop(X ∗ ((M.view.loc (c : Thread nD τ)) ↦[S]{q} f) ∗ R) ⊢ WP c (.op (.load M r.toLoadRect hl) k) Q := by
  subst hv
  iintro ⟨HX, HT, HR⟩
  iapply (wp_load_rect (m := M) (r := r) (S := S) (q := q) (f := f) 𝒱₀ (c : Thread nD τ) none Set.univ hS) $$ [HT]
  · iexact HT
  iintro HT
  iapply h
  isplitl [HX]; · iexact HX
  isplitl [HT]; · iexact HT
  iexact HR

theorem xs_set (s : Fin 2) :
    (xsM.access (Rect.unit (s := S2x128x4096) ![s.val, 0, 0] S1x128x4096.size (inb_two s))).set = (xsH s).view.set := by
  simp only [View.set_reshape]

/-- The value a half of the exchange's buffer has before it is written is read and dropped. -/
theorem step_xs_load (c : Dev nD) (s : Fin 2) {X R : sProp 𝕄}
    {hl : xsM.view.LoadsAt (Rect.unit (s := S2x128x4096) ![s.val, 0, 0] S1x128x4096.size (inb_two s)).toLoadRect}
    {α : Type} {k : Vec F S1x128x4096 .bf16 → Prog (TpuEff nD τ sig (Elt F) Λ₀ .tc) α} {Q : α → sProp 𝕄}
    (h : ∀ v, iprop(X ∗ pvE c (xsH s) ∗ R) ⊢ WP c (k v) Q) :
    iprop(X ∗ pvE c (xsH s) ∗ R)
      ⊢ WP c (.op (.load xsM (Rect.unit (s := S2x128x4096) ![s.val, 0, 0] S1x128x4096.size (inb_two s)).toLoadRect hl) k) Q := by
  unfold pvE at h ⊢
  iintro ⟨HX, ⟨%f, HT⟩, HR⟩
  iapply (wp_load_rect (m := xsM) (r := Rect.unit (s := S2x128x4096) ![s.val, 0, 0] S1x128x4096.size (inb_two s)) (S := (xsH s).view.set)
    (q := fullShare) (f := f) 𝒱₀ (c : Thread nD τ) none Set.univ (by rw [xs_set])) $$ [HT]
  · iexact HT
  iintro HT
  iapply (h _)
  isplitl [HX]; · iexact HX
  isplitl [HT]; · iexists f; iexact HT
  iexact HR

theorem xs_written (c : Dev nD) (s : Fin 2) (f : S2x128x4096.Idx → Elt F .bf16) :
    (((xsM.access (Rect.unit (s := S2x128x4096) ![s.val, 0, 0] S1x128x4096.size (inb_two s))).loc (c : Thread nD τ)
      ↦[(xsH s).view.set]{fullShare}
        ((xsM.access (Rect.unit (s := S2x128x4096) ![s.val, 0, 0] S1x128x4096.size (inb_two s))).write (Elt F) f (k0_pay1 (half6 s (K6 m c))) Finset.univ)) : sProp 𝕄)
      = pv c (xsH s) fullShare (XS m c) := by
  refine pointsTo_congr fun i hi => ?_
  refine write_eq_on (xsM.access (Rect.unit (s := S2x128x4096) ![s.val, 0, 0] S1x128x4096.size (inb_two s))) f (XS m c) (k0_pay1 (half6 s (K6 m c))) ?_ i ?_
  · funext x
    exact XS_slab m c s x
  · rw [xs_set]; exact hi

theorem step_xs_store (c : Dev nD) (s : Fin 2) {X R : sProp 𝕄} {w : Vec F S1x128x4096 .bf16} (hw : w = k0_pay1 (half6 s (K6 m c)))
    {hx : (xsM.access (Rect.unit (s := S2x128x4096) ![s.val, 0, 0] S1x128x4096.size (inb_two s))).Stores Finset.univ}
    {hm : (Finset.univ : Finset (Rect.unit (s := S2x128x4096) ![s.val, 0, 0] S1x128x4096.size (inb_two s)).shape.Idx) = Finset.univ
      ∨ ∀ a, (Rect.unit (s := S2x128x4096) ![s.val, 0, 0] S1x128x4096.size (inb_two s)).stride a = 1}
    {α : Type} {k : PUnit → Prog (TpuEff nD τ sig (Elt F) Λ₀ .tc) α} {Q : α → sProp 𝕄}
    (h : iprop(X ∗ pv c (xsH s) fullShare (XS m c) ∗ R) ⊢ WP c (k ⟨⟩) Q) :
    iprop(X ∗ pvE c (xsH s) ∗ R)
      ⊢ WP c (.op (.store xsM (Rect.unit (s := S2x128x4096) ![s.val, 0, 0] S1x128x4096.size (inb_two s)) w Finset.univ hx hm) k) Q := by
  subst hw
  unfold pvE
  iintro ⟨HX, ⟨%f, HT⟩, HR⟩
  iapply (wp_store (m := xsM) (r := Rect.unit (s := S2x128x4096) ![s.val, 0, 0] S1x128x4096.size (inb_two s)) (Mk := Finset.univ)
    (w := k0_pay1 (half6 s (K6 m c))) (S := (xsH s).view.set) (f := f) 𝒱₀ (c : Thread nD τ) none Set.univ
    (by rw [View.setOn_univ, xs_set])) $$ [HT]
  · iexact HT
  rw [xs_written m c s f]
  iintro HT
  iapply h
  isplitl [HX]; · iexact HX
  isplitl [HT]; · iexact HT
  iexact HR

theorem owed_x (c : Dev nD) (s : Fin 2) : owed c ⟨3 + s.val, by omega⟩ = (partner c, .xr s, 0) := by
  revert c s; decide +kernel

/-- A half goes to the partner. -/
theorem step_xs_send (c : Dev nD) (s : Fin 2) {R : sProp 𝕄} {dv : Dev nD} (hdv : dv = partner c)
    {sS sR : SemLoc sig} (hS : sS = semOf (.xs s)) (hR : sR = semOf (.xr s))
    {hsc : (xrH s).view.ref.isScScratch = false} {hsrc : (xsH s).view.WordExact} {hdst : (xrH s).view.WordExact}
    {hsem : DmaTarget.Typed .vmem sR (.remote (Dev.tc dv) (xrH s) sS hsc)}
    {α : Type} {k : PUnit → Prog (TpuEff nD τ sig (Elt F) Λ₀ .tc) α} {Q : α → sProp 𝕄}
    (h : iprop(Core m K c (4 + s.val) ∗ crd c (.xs s) (amt (.xs s)) ∗ R) ⊢ WP c (k ⟨⟩) Q) :
    iprop(Core m K c (3 + s.val) ∗ (pv c (xsH s) fullShare (XS m c) ∗ XT c s ∗ peerX c s) ∗ R)
      ⊢ WP c (.op (.enqueueDma (xsH s) (.remote (Dev.tc dv) (xrH s) sS hsc) sR hsrc hdst hsem) k) Q := by
  subst hdv hS hR
  have hO : O c (3 + s.val) = O c (4 + s.val) + tallyAt (cel (partner c) (.xr s)) () NX := by
    have := O_step c ⟨3 + s.val, by omega⟩
    rw [show due c ⟨3 + s.val, by omega⟩ = tallyAt (cel (partner c) (.xr s)) () NX by
      unfold due; rw [owed_x]; rfl] at this
    rw [show 4 + s.val = 3 + s.val + 1 by omega]
    exact this
  have hpp : partner (partner c) = c := partner_partner c
  unfold Core at h ⊢
  unfold XT peerX pvE
  iintro ⟨⟨#HI, ⟨%W, HO⟩, HT⟩, ⟨Hp, ⟨HtS, HrS, HtR⟩, ⟨⟨%fd, Hd⟩, HrR⟩⟩, HR⟩
  iapply (Rounds.wp_send_pointsTo 𝒱₀ ER (sched m) (c : Thread nD τ) none (c' := (partner c : Thread nD τ)) (src := xsH s)
      (dst := xrH s) (sS := semOf (.xs s)) (sem := semOf (.xr s)) (q := fullShare) (fs := XS m c)
      (κ₁ := K (cel c (.xs s))) (κ₂ := K (cel (partner c) (.xr s)))
      (r₁ := 0) (r₂ := 0) (d₁ := 0) (d₂ := 0) (fd := fd)
      (mem_duties m c (.xs s) 0 (Finset.mem_singleton_self _))
      (mem_duties m (partner c) (.xr s) 0 (Finset.mem_singleton_self _))
      () () NX rfl (amount_cel m c (.xs s) 0 0) (amount_cel m (partner c) (.xr s) 0 0) (O c (4 + s.val)) hO (W := W)
      (by rw [payload_cel]; exact BI.Entails.refl _)
      (by
        rw [payload_cel]
        show _ ⊢ pv (partner c) (xrH s) fullShare (XS m (partner (partner c)))
        rw [hpp]
        exact Entails.of_eq (pointsTo_congr (fun i hi =>
          write_eq_on (xrH s).view fd (XS m c) ((xsH s).view.read (Elt F) (XS m c)) rfl i hi)))) $$ [Hp Hd HO HtS HtR HrS HrR]
  · isplitr; · iapply (Invs_cel m K c (.xs s)); iexact HI
    isplitr; · iapply (Invs_cel m K (partner c) (.xr s)); iexact HI
    isplitl [Hp]; · iexact Hp
    isplitl [Hd]; · iexact Hd
    isplitl [HO]; · iexact HO
    isplitl [HtS]; · iexact HtS
    isplitl [HrS]; · iexact HrS
    isplitl [HtR]; · iexact HtR
    iexact HrR
  iintro ⟨HcS, HO⟩
  iapply h
  isplitr [HcS HR]
  · isplitr; · iexact HI
    isplitl [HO]; · iexists W; iexact HO
    iexact HT
  isplitl [HcS]; · iexact HcS
  iexact HR

end Cert.Proof
-- ==== Proof.Head.lean ====
/- The program up to the start of the ring phase: the table, the barrier, the loads and the exchange with the partner. -/
module

public import proofs.«01_k».proof.Proof.Pre

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## The first parts -/

/-- The barrier semaphore. -/
abbrev barS : Sems sig S_ := SemArray.scalar (sig.barrier 0 rfl)

theorem part1 (c : Dev nD) (t : Fin grid0.N) (s : Fin 1) {R : sProp 𝕄} :
    iprop(Core m K c 0 ∗ Sg m c 0 ∗ Sg m c 1 ∗ R)
      ⊢ WP c (At t s (k0_part1 (F := F))) fun x => iprop(⌜∃ v2 v5 v8 v10, x = ⟨c, v2, v5, v8, tabW c 1, chk3 c, v10, tabW c 2, tabW c 3, chk1 c,
          tabW c 4, tabW c 5, chk2 c, barS⟩⌝ ∗ Core m K c 2 ∗ R) := by
  rw [k0_part1_eq_skeleton]
  refine step_dev ?_
  refine step_tab m K 1 ?_
  refine step_assume (chk3 c) ?_
  refine step_tab m K 2 ?_
  refine step_tab m K 3 ?_
  refine step_assume (chk1 c) ?_
  refine step_tab m K 4 ?_
  refine step_tab m K 5 ?_
  refine step_assume (chk2 c) ?_
  refine step_sig m K c 0 (.inl rfl) (Fin.ext (devP c)) rfl ?_
  refine step_sig m K c 1 (.inl rfl) (Fin.ext (devR c)) rfl ?_
  refine fin ?_
  iintro ⟨HC, HR⟩
  isplitr
  · ipureintro
    exact ⟨_, _, _, _, rfl⟩
  isplitl [HC]; · iexact HC
  iexact HR

/-- A load of operand rows leaves the rows in the buffer. -/
theorem in_loaded (c : Dev nD) (b : Ref sig .tc) (f w : b.ty.Contents (Elt F)) {P : sProp 𝕄} :
    iprop(P ∗ (((Memref.whole b).view.loc (c : Thread nD τ)) ↦[(Memref.whole b).view.set]{fullShare} ((Memref.whole b).view.write (Elt F) f w Finset.univ)))
      ⊢ iprop((((Memref.whole b).view.loc (c : Thread nD τ)) ↦[(Memref.whole b).view.set]{fullShare} w) ∗ P) := by
  refine BIBase.Entails.trans (sep_mono_right (Entails.of_eq (pointsTo_congr (g := w) fun i hi =>
    write_eq_on (Memref.whole b).view f w w rfl i hi))) ?_
  iintro ⟨A, B⟩
  isplitl [B]; · iexact B
  iexact A
theorem keep_pay (c : Dev nD) (f) :
    iprop(pv c (inM (grp c) (pos c)) fullShare (PV m c)
        ∗ pv c keepM fullShare (keepM.view.write (Elt F) f ((inM (grp c) (pos c)).view.read (Elt F) (PV m c)) Finset.univ))
      ⊢ pay m c (.inn 0) 0 := in_loaded c cc0_scratch0 f _
theorem give_pay (c : Dev nD) (f) :
    iprop(pv c (inM (1 - grp c) (pos c)) fullShare (PV m c)
        ∗ pv c sendM fullShare (sendM.view.write (Elt F) f ((inM (1 - grp c) (pos c)).view.read (Elt F) (PV m c)) Finset.univ))
      ⊢ pay m c (.inn 1) 0 := in_loaded c cc0_scratch1 f _

/-- What the barrier's units bring. -/
def Bars (c : Dev nD) : sProp 𝕄 := iprop(pos1 c .bar ∗ pay m c .bar 0 ∗ pay m c .bar 1 ∗ pay m c .bar 2)
/-- The rows kept, once loaded; and those given away. -/
def In0 (c : Dev nD) : sProp 𝕄 := iprop(pos1 c (.inn 0) ∗ pv c (inM (grp c) (pos c)) fullShare (PV m c))
def In1 (c : Dev nD) : sProp 𝕄 := iprop(pos1 c (.inn 1) ∗ pv c (inM (1 - grp c) (pos c)) fullShare (PV m c))

theorem part2 (c : Dev nD) (t : Fin grid0.N) (s : Fin 1) {R : sProp 𝕄} (v2 v5 v10 : BitVec 32) :
    iprop(Core m K c 2 ∗ Sg m c 2 ∗ (crd c .bar 3 ∗ pos0 c .bar)
        ∗ (InI m c 0 (grp c) keepM ∗ InI m c 1 (1 - grp c) sendM ∗ pos0 c (.inn 1)) ∗ pvE c (xsH 0) ∗ R)
      ⊢ WP c (At t s k0_part2 c v2 v5 (tabW c 1) (chk3 c) v10 (tabW c 4) (tabW c 5) (chk2 c) barS) fun _ =>
        iprop(Core m K c 3 ∗ crd c (.inn 0) (amt (.inn 0)) ∗ pv c (xsH 0) fullShare (XS m c) ∗ pv c sendM fullShare (K6 m c) ∗ In1 m c ∗ Bars m c ∗ R) := by
  rw [k0_part2_eq_skeleton]
  refine step_sig m K c 2 (.inl rfl) (Fin.ext (devL c)) rfl ?_
  refine re (P' := iprop(Core m K c 3 ∗ crd c .bar 3 ∗ pos0 c .bar ∗ InI m c 0 (grp c) keepM ∗ InI m c 1 (1 - grp c) sendM ∗ pos0 c (.inn 1)
    ∗ pvE c (xsH 0) ∗ R)) (show iprop(Core m K c 3 ∗ (crd c .bar 3 ∗ pos0 c .bar) ∗ (InI m c 0 (grp c) keepM ∗ InI m c 1 (1 - grp c) sendM ∗ pos0 c (.inn 1))
    ∗ pvE c (xsH 0) ∗ R) ⊢ _ by iintro ⟨A, ⟨B, C⟩, ⟨D, E, G⟩, H, R⟩; iframe) ?_
  refine step_three m K c .bar (.inl rfl) 3 (fun i hi => by
    show 1 < _
    split
    · omega
    · split
      · omega
      · split <;> omega) rfl ?_
  refine re (P' := iprop(Core m K c 3 ∗ InI m c 0 (grp c) keepM ∗ InI m c 1 (1 - grp c) sendM ∗ pos0 c (.inn 1)
    ∗ pvE c (xsH 0) ∗ Bars m c ∗ R)) (by unfold Bars; iintro ⟨A, B, C, D, E, F, G, H, I, R⟩; iframe) ?_
  refine step_in m K c 0 (grp c) keepM 3 rfl (keep_pay m c) (off1 c) (congrArg SemLoc.dma (sem_in 0 _)) ?_
  refine re (P' := iprop(Core m K c 3 ∗ InI m c 1 (1 - grp c) sendM ∗ pos0 c (.inn 1)
    ∗ crd c (.inn 0) (amt (.inn 0)) ∗ pvE c (xsH 0) ∗ Bars m c ∗ R)) (by iintro ⟨A, B, C, D, E, F, R⟩; iframe) ?_
  refine step_in m K c 1 (1 - grp c) sendM 3 (by rfl) (give_pay m c) ((off2 c).trans (sub_eq c)) (congrArg SemLoc.dma (sem_in 1 _)) ?_
  refine step_wait m K c (.inn 1) rfl 3 (fun i hi => by
    show 1 < _
    split
    · omega
    · split
      · omega
      · split <;> omega) (congrArg SemLoc.dma (sem_in 1 _)) (by rfl) ?_
  rw [show pay m c (.inn 1) 0 = iprop(pv c sendM fullShare (K6 m c) ∗ pv c (inM (1 - grp c) (pos c)) fullShare (PV m c)) from rfl]
  refine re (P' := iprop(Core m K c 3 ∗ pv c sendM fullShare (K6 m c) ∗ In1 m c
    ∗ crd c (.inn 0) (amt (.inn 0)) ∗ pvE c (xsH 0) ∗ Bars m c ∗ R)) (by unfold In1; iintro ⟨A, B, ⟨C, D⟩, E, F, G, R⟩; iframe) ?_
  refine step_load sendM (v := half6 0 (K6 m c)) (View.set_slice_subset _ _) rfl ?_
  refine re (P' := iprop(Core m K c 3 ∗ pvE c (xsH 0) ∗ pv c sendM fullShare (K6 m c) ∗ In1 m c
    ∗ crd c (.inn 0) (amt (.inn 0)) ∗ Bars m c ∗ R)) (by iintro ⟨A, B, C, D, E, F, R⟩; iframe) ?_
  refine step_xs_load c 0 fun v => ?_
  refine step_xs_store m c 0 rfl ?_
  refine fin ?_
  iintro ⟨A, B, C, D, E, F, R⟩; iframe

/-- The partner's places for the two halves come with its unit. -/
theorem bar_zero (c : Dev nD) : pay m c .bar 0 = iprop(peerX c 0 ∗ peerX c 1 ∗ rch (partner c) .fin) := rfl
theorem bar_one (c : Dev nD) : pay m c .bar 1 = iprop(dirSlots c false ∗ rch (right c) .fin) := rfl
theorem bar_two (c : Dev nD) : pay m c .bar 2 = iprop(dirSlots c true ∗ rch (left c) .fin) := rfl

/-- The messages before they are sent, but for what the neighbours give. -/
def msgOwn (c : Dev nD) (n : Fin 30) : sProp 𝕄 :=
  iprop(tok c (.sd n) 0 ∗ rch c (.sd n) ∗ tok (nb c n) (.rv (ab c (src n))) 0 ∗ pos0 c (.sd n))

/-- The ring phase begins. -/
theorem ring_start (c : Dev nD) :
    iprop(Invs m K ∗ (∃ W, owes (c : Thread nD τ) (O c 5) W) ∗ bigSep Finset.univ (msgOwn c) ∗ dirSlots c false ∗ dirSlots c true
        ∗ bigSep Finset.univ (Sst m c 0 0 0 0 0))
      ⊢ St m K c 0 0 0 0 0 := by
  have hm : iprop(bigSep Finset.univ (msgOwn c) ∗ dirSlots (F := F) c false ∗ dirSlots c true) ⊢ bigSep Finset.univ (Mst (F := F) c 0 0) := by
    have e : iprop(dirSlots (F := F) c false ∗ dirSlots c true) = bigSep Finset.univ (peerSlot c) := by
      unfold dirSlots
      rw [bigSep_filter_split Finset.univ (fun n : Fin 30 => odd n = false) (Φ := peerSlot c)]
      rw [show (Finset.univ.filter fun n : Fin 30 => ¬ odd n = false) = Finset.univ.filter fun n : Fin 30 => odd n = true by
        ext n; simp]
      rfl
    rw [e]
    refine BIBase.Entails.trans (Entails.of_eq (bigSep_sep' (Finset.univ) (msgOwn c) (peerSlot c)).symm) ?_
    refine bigSep_mono fun n _ => ?_
    show iprop(msgOwn c n ∗ peerSlot c n) ⊢ Mst c 0 0 n
    rw [(show Mst (F := F) c 0 0 n = msgIdle c n by
      unfold Mst; rw [if_neg (Nat.not_lt_zero _), if_neg (Nat.not_lt_zero _)])]
    unfold msgOwn msgIdle
    iintro ⟨⟨A, B, C, D⟩, E⟩
    iframe
  unfold St
  iintro ⟨A, B, C, D, E, G⟩
  isplitl [A]; · iexact A
  isplitl [B]; · iexact B
  isplitl [C D E]
  · iapply hm; iframe
  iexact G

/-- What is left of the barrier once the ring phase begins. -/
def FinR (c : Dev nD) : sProp 𝕄 := iprop(pos1 c .bar ∗ rch (partner c) .fin ∗ rch (right c) .fin ∗ rch (left c) .fin)

theorem part3 (c : Dev nD) (t : Fin grid0.N) (s : Fin 1) {R : sProp 𝕄} (v5 v8 v10 v56 c1 : BitVec 32) :
    iprop(Core m K c 3 ∗ crd c (.inn 0) (amt (.inn 0)) ∗ pv c (xsH 0) fullShare (XS m c) ∗ pv c sendM fullShare (K6 m c) ∗ In1 m c ∗ Bars m c
        ∗ XT c 0 ∗ XT c 1 ∗ pvE c (xsH 1) ∗ pos0 c (.inn 0) ∗ bigSep Finset.univ (msgOwn c) ∗ bigSep Finset.univ (Sst m c 0 0 0 0 0) ∗ R)
      ⊢ WP c (At t s k0_part3 c v5 v8 (tabW c 1) (chk3 c) v10 v56 c1) fun _ =>
        iprop(St m K c 0 0 0 0 0 ∗ pv c keepM fullShare (K5 m c) ∗ crd c (.xs 0) NX ∗ crd c (.xs 1) NX ∗ Tab c
          ∗ pv c sendM fullShare (K6 m c) ∗ In0 m c ∗ In1 m c ∗ FinR c ∗ R) := by
  rw [k0_part3_eq_skeleton]
  unfold Bars
  rw [bar_zero, bar_one, bar_two]
  refine re (P' := iprop(Core m K c 3 ∗ (pv c (xsH 0) fullShare (XS m c) ∗ XT c 0 ∗ peerX c 0) ∗ crd c (.inn 0) (amt (.inn 0))
    ∗ pv c sendM fullShare (K6 m c) ∗ In1 m c ∗ FinR c ∗ peerX c 1 ∗ XT c 1 ∗ pvE c (xsH 1) ∗ pos0 c (.inn 0)
    ∗ bigSep Finset.univ (msgOwn c) ∗ dirSlots c false ∗ dirSlots c true ∗ bigSep Finset.univ (Sst m c 0 0 0 0 0) ∗ R))
    (by
      unfold FinR
      iintro ⟨A, B, C, D, E, ⟨P, ⟨X0, X1, F0⟩, ⟨S0, F1⟩, ⟨S1, F2⟩⟩, T0, T1, H, I, M, S, R⟩
      iframe) ?_
  refine step_xs_send m K c 0 (Fin.ext (devP c)) (congrArg SemLoc.dma (sem_xs 0 _)) (congrArg SemLoc.dma (sem_xr 0 _)) ?_
  refine re (P' := iprop(Core m K c 4 ∗ pv c sendM fullShare (K6 m c) ∗ crd c (.xs 0) NX ∗ crd c (.inn 0) (amt (.inn 0))
    ∗ In1 m c ∗ FinR c ∗ peerX c 1 ∗ XT c 1 ∗ pvE c (xsH 1) ∗ pos0 c (.inn 0)
    ∗ bigSep Finset.univ (msgOwn c) ∗ dirSlots c false ∗ dirSlots c true ∗ bigSep Finset.univ (Sst m c 0 0 0 0 0) ∗ R))
    (show iprop(Core m K c 4 ∗ crd c (.xs 0) NX ∗ crd c (.inn 0) (amt (.inn 0)) ∗ pv c sendM fullShare (K6 m c)
      ∗ In1 m c ∗ FinR c ∗ peerX c 1 ∗ XT c 1 ∗ pvE c (xsH 1) ∗ pos0 c (.inn 0)
      ∗ bigSep Finset.univ (msgOwn c) ∗ dirSlots c false ∗ dirSlots c true ∗ bigSep Finset.univ (Sst m c 0 0 0 0 0) ∗ R) ⊢ _ by
      iintro ⟨A, B, C, D, E⟩; iframe) ?_
  refine step_load sendM (v := half6 1 (K6 m c)) (View.set_slice_subset _ _) rfl ?_
  refine re (P' := iprop(Core m K c 4 ∗ pvE c (xsH 1) ∗ XT c 1 ∗ peerX c 1 ∗ pv c sendM fullShare (K6 m c) ∗ crd c (.xs 0) NX
    ∗ crd c (.inn 0) (amt (.inn 0)) ∗ In1 m c ∗ FinR c ∗ pos0 c (.inn 0)
    ∗ bigSep Finset.univ (msgOwn c) ∗ dirSlots c false ∗ dirSlots c true ∗ bigSep Finset.univ (Sst m c 0 0 0 0 0) ∗ R))
    (by iintro ⟨A, B, C, D, E, G, H, I, J, L⟩; iframe) ?_
  refine step_xs_load c 1 fun v => ?_
  refine step_xs_store m c 1 rfl ?_
  refine re (P' := iprop(Core m K c 4 ∗ (pv c (xsH 1) fullShare (XS m c) ∗ XT c 1 ∗ peerX c 1) ∗ pv c sendM fullShare (K6 m c) ∗ crd c (.xs 0) NX
    ∗ crd c (.inn 0) (amt (.inn 0)) ∗ In1 m c ∗ FinR c ∗ pos0 c (.inn 0)
    ∗ bigSep Finset.univ (msgOwn c) ∗ dirSlots c false ∗ dirSlots c true ∗ bigSep Finset.univ (Sst m c 0 0 0 0 0) ∗ R))
    (by iintro ⟨A, B, C, D, E⟩; iframe) ?_
  refine step_xs_send m K c 1 (Fin.ext (devP c)) (congrArg SemLoc.dma (sem_xs 1 _)) (congrArg SemLoc.dma (sem_xr 1 _)) ?_
  refine re (P' := iprop(Core m K c 5 ∗ crd c (.inn 0) (amt (.inn 0)) ∗ pos0 c (.inn 0) ∗ crd c (.xs 0) NX ∗ crd c (.xs 1) NX
    ∗ pv c sendM fullShare (K6 m c) ∗ In1 m c ∗ FinR c
    ∗ bigSep Finset.univ (msgOwn c) ∗ dirSlots c false ∗ dirSlots c true ∗ bigSep Finset.univ (Sst m c 0 0 0 0 0) ∗ R))
    (show iprop(Core m K c 5 ∗ crd c (.xs 1) NX ∗ pv c sendM fullShare (K6 m c) ∗ crd c (.xs 0) NX
    ∗ crd c (.inn 0) (amt (.inn 0)) ∗ In1 m c ∗ FinR c ∗ pos0 c (.inn 0)
    ∗ bigSep Finset.univ (msgOwn c) ∗ dirSlots c false ∗ dirSlots c true ∗ bigSep Finset.univ (Sst m c 0 0 0 0 0) ∗ R) ⊢ _ by
      iintro ⟨A, B, C, D, E, G, H, I, J⟩; iframe) ?_
  refine step_wait m K c (.inn 0) rfl 5 (fun i hi => by
    show 1 < _
    split
    · omega
    · split
      · omega
      · split <;> omega) (congrArg SemLoc.dma (sem_in 0 _)) (by rfl) ?_
  refine fin ?_
  rw [show pay m c (.inn 0) 0 = iprop(pv c keepM fullShare (K5 m c) ∗ pv c (inM (grp c) (pos c)) fullShare (PV m c)) from rfl]
  unfold Core In0
  iintro ⟨⟨A, B, T⟩, C, ⟨D, E⟩, G, H, I, J, L, M, D0, D1, S, R⟩
  isplitl [A B M D0 D1 S]
  · iapply (ring_start m K c); iframe
  iframe

end Cert.Proof
-- ==== Proof.Own.lean ====
/- The device's own two blocks: what the partner sent is added, normalised, scaled, and put in the ring buffer. -/
module

public import proofs.«01_k».proof.Proof.Head

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- What is held besides the ring phase while the device's own blocks are made. -/
def XW (c : Dev nD) (s : Fin 2) : sProp 𝕄 := iprop(crd c (.xr s) (amt (.xr s)) ∗ pos0 c (.xr s))
def XD (c : Dev nD) (s : Fin 2) : sProp 𝕄 := iprop(pos1 c (.xr s) ∗ pv c (xrH s) fullShare (XS m (partner c)))

/-- The scale's buffer, holding `g`. -/
abbrev gamP (c : Dev nD) (s : Fin 1) (g : Buf (Elt F) ((spec0_0.stage s).view.loc (c : Thread nD τ))) : sProp 𝕄 :=
  (spec0_0.stage s).view.loc (c : Thread nD τ) ↦[(spec0_0.stage s).view.set]{fullShare} g
abbrev gamR : Rect S1x4096 := Rect.unit (s := S1x4096) ![0, 0] S1x4096.size inb_S1x4096_S1x4096_0_0

theorem xr_set (s : Fin 2) :
    (xrM.access (Rect.unit (s := S2x128x4096) ![s.val, 0, 0] S1x128x4096.size (inb_two s))).set ⊆ (xrH s).view.set := by
  simp only [View.set_reshape]; exact subset_rfl

theorem part4 (c : Dev nD) (t : Fin grid0.N) (s : Fin 1) (g : Buf (Elt F) ((spec0_0.stage s).view.loc (c : Thread nD τ)))
    (hg : ((spec0_0.stage s).access gamR).read (Elt F) g = GM m c) {R : sProp 𝕄} (v5 v8 v10 : BitVec 32) :
    iprop(St m K c 0 0 0 0 0 ∗ XW c 0 ∗ pv c keepM fullShare (K5 m c) ∗ gamP c s g ∗ R)
      ⊢ WP c (At t s k0_part4 v5 v8 (tabW c 1) v10) fun x =>
        iprop(⌜k0_pay4 x.1 = BLK m c 0⌝ ∗ St m K c 0 0 0 0 0 ∗ XD m c 0 ∗ pv c keepM fullShare (K5 m c) ∗ gamP c s g ∗ R) := by
  rw [k0_part4_eq_skeleton]
  unfold XW
  refine re (P' := iprop(St m K c 0 0 0 0 0 ∗ crd c (.xr 0) (amt (.xr 0)) ∗ pos0 c (.xr 0) ∗ pv c keepM fullShare (K5 m c) ∗ gamP c s g ∗ R))
    (by iintro ⟨A, ⟨B, C⟩, D⟩; iframe) ?_
  refine step_wait_other m K c (.xr 0) rfl (Nat.le_refl _) 0 0 0 0 0 (congrArg SemLoc.dma (sem_xr 0 _)) (by rfl) ?_
  rw [show pay m c (.xr 0) 0 = pv c (xrH 0) fullShare (XS m (partner c)) from rfl]
  refine re (P' := iprop(St m K c 0 0 0 0 0 ∗ pv c keepM fullShare (K5 m c) ∗ XD m c 0 ∗ gamP c s g ∗ R))
    (by unfold XD; iintro ⟨A, B, C, D, E⟩; iframe) ?_
  refine step_load keepM (v := half5 0 (K5 m c)) (View.set_slice_subset _ _) rfl ?_
  refine re (P' := iprop(St m K c 0 0 0 0 0 ∗ pv c (xrH 0) fullShare (XS m (partner c)) ∗ pos1 c (.xr 0) ∗ pv c keepM fullShare (K5 m c) ∗ gamP c s g ∗ R))
    (by unfold XD; iintro ⟨A, B, ⟨C, D⟩, E⟩; iframe) ?_
  refine step_load xrM (S := (xrH 0).view.set) (f := XS m (partner c)) (v := halfR 0 (XS m (partner c))) (xr_set 0) rfl ?_
  refine re (P := iprop(_ ∗ pv c (xrH 0) fullShare (XS m (partner c)) ∗ _)) (P' := iprop(St m K c 0 0 0 0 0 ∗ gamP c s g ∗ XD m c 0 ∗ pv c keepM fullShare (K5 m c) ∗ R))
    (by unfold XD; iintro ⟨A, B, C, D, E, R⟩; iframe) ?_
  refine step_load (spec0_0.stage s) (v := GM m c) (View.set_slice_subset _ _) hg ?_
  refine fin ?_
  iintro ⟨A, B, C, D, R⟩
  isplitr
  · ipureintro; exact pay5_eq _ _ _
  iframe

theorem part5 (c : Dev nD) (t : Fin grid0.N) (s : Fin 1) {R : sProp 𝕄} (v2 : BitVec 32) (v : FVec F S128x4096 .bf16) (hv : k0_pay4 v = BLK m c 0) (b : BitVec 32) :
    iprop(St m K c 0 0 0 0 0 ∗ R)
      ⊢ WP c (At t s k0_part5 c v2 (tabW c 1) (chk3 c) (tabW c 2) (tabW c 3) (chk1 c) (tabW c 4) (tabW c 5) v b) fun _ => iprop(St m K c 1 1 0 0 0 ∗ R) := by
  rw [k0_part5_eq_skeleton]
  refine step_own_load m K c 0 0 0 0 0 (by decide) (by decide) (off3 c 0) fun _ => ?_
  refine step_own_store m K c 0 0 rfl 0 0 0 0 (by decide) (by decide) (off3 c 0) hv ?_
  refine step_send m K c 0 1 0 0 0 (by decide) (by decide) (Fin.ext (devR c)) (off5 c 0) (sm_sr 0) (sm_rv c 0 (off4 c 0)) ?_
  exact fin (BI.Entails.refl _)

theorem part6 (c : Dev nD) (t : Fin grid0.N) (s : Fin 1) {R : sProp 𝕄} (v5 v8 v10 : BitVec 32) :
    iprop(St m K c 1 1 0 0 0 ∗ R)
      ⊢ WP c (At t s k0_part6 c v5 v8 (tabW c 1) (chk3 c) v10 (tabW c 4) (tabW c 5) (chk2 c)) fun _ => iprop(St m K c 2 1 1 0 0 ∗ R) := by
  rw [k0_part6_eq_skeleton]
  refine step_send m K c 1 1 0 0 0 (by decide) (by decide) (Fin.ext (devL c)) (off5 c 0) (sm_sl 0) (sm_rv c 0 (off4 c 0)) ?_
  refine step_store m K c 0 2 1 0 0 (by decide) (by omega) (off5 c 0) (off6 c 0) (sm_st c 0 (off4 c 0)) ?_
  exact fin (BI.Entails.refl _)

theorem part7 (c : Dev nD) (t : Fin grid0.N) (s : Fin 1) (g : Buf (Elt F) ((spec0_0.stage s).view.loc (c : Thread nD τ)))
    (hg : ((spec0_0.stage s).access gamR).read (Elt F) g = GM m c) {R : sProp 𝕄} (v2 : BitVec 32) :
    iprop(St m K c 2 1 1 0 0 ∗ XW c 1 ∗ pv c keepM fullShare (K5 m c) ∗ gamP c s g ∗ R)
      ⊢ WP c (At t s k0_part7 c v2 (tabW c 1) (chk3 c) (tabW c 2)) fun x =>
        iprop(St m K c 2 2 1 0 0 ∗ XD m c 1 ∗ pv c keepM fullShare (K5 m c) ∗ gamP c s g ∗ R) := by
  rw [k0_part7_eq_skeleton]
  unfold XW
  refine re (P' := iprop(St m K c 2 1 1 0 0 ∗ crd c (.xr 1) (amt (.xr 1)) ∗ pos0 c (.xr 1) ∗ pv c keepM fullShare (K5 m c) ∗ gamP c s g ∗ R))
    (by iintro ⟨A, ⟨B, C⟩, D⟩; iframe) ?_
  refine step_wait_other m K c (.xr 1) rfl (Nat.le_refl _) 2 1 1 0 0 (congrArg SemLoc.dma (sem_xr 1 _)) (by rfl) ?_
  rw [show pay m c (.xr 1) 0 = pv c (xrH 1) fullShare (XS m (partner c)) from rfl]
  refine re (P' := iprop(St m K c 2 1 1 0 0 ∗ pv c keepM fullShare (K5 m c) ∗ XD m c 1 ∗ gamP c s g ∗ R))
    (by unfold XD; iintro ⟨A, B, C, D, E⟩; iframe) ?_
  refine step_load keepM (v := half5 1 (K5 m c)) (View.set_slice_subset _ _) rfl ?_
  refine re (P' := iprop(St m K c 2 1 1 0 0 ∗ pv c (xrH 1) fullShare (XS m (partner c)) ∗ pos1 c (.xr 1) ∗ pv c keepM fullShare (K5 m c) ∗ gamP c s g ∗ R))
    (by unfold XD; iintro ⟨A, B, ⟨C, D⟩, E⟩; iframe) ?_
  refine step_load xrM (S := (xrH 1).view.set) (f := XS m (partner c)) (v := halfR 1 (XS m (partner c))) (xr_set 1) rfl ?_
  refine re (P := iprop(_ ∗ pv c (xrH 1) fullShare (XS m (partner c)) ∗ _)) (P' := iprop(St m K c 2 1 1 0 0 ∗ gamP c s g ∗ XD m c 1 ∗ pv c keepM fullShare (K5 m c) ∗ R))
    (by unfold XD; iintro ⟨A, B, C, D, E, R⟩; iframe) ?_
  refine step_load (spec0_0.stage s) (v := GM m c) (View.set_slice_subset _ _) hg ?_
  refine re (P' := iprop(St m K c 2 1 1 0 0 ∗ XD m c 1 ∗ pv c keepM fullShare (K5 m c) ∗ gamP c s g ∗ R))
    (by iintro ⟨A, B, C, D, R⟩; iframe) ?_
  refine step_own_load m K c 1 2 1 0 0 (by decide) (by decide) (off3 c 1) fun _ => ?_
  refine step_own_store m K c 1 1 rfl 2 1 0 0 (by decide) (by decide) (off3 c 1) rfl ?_
  exact fin (BI.Entails.refl _)

end Cert.Proof
-- ==== Proof.Chain.lean ====
/- The ring phase, part by part of the program. -/
module

public import proofs.«01_k».proof.Proof.Own

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- One part whose result is known to be of some form, then the rest. -/
theorem seq_pure {α β : Type} {c : Dev nD} {P S : sProp 𝕄} {φ : α → Prop} {p : Prog (TpuEff nD τ sig (Elt F) Λ₀ .tc) α}
    {k : α → Prog (TpuEff nD τ sig (Elt F) Λ₀ .tc) β} {Q : β → sProp 𝕄} (h : P ⊢ WP c p fun a => iprop(⌜φ a⌝ ∗ S))
    (h' : ∀ a, φ a → S ⊢ WP c (k a) Q) : P ⊢ WP c (p >>= k) Q :=
  seq h fun a => by
    iintro ⟨%ha, H⟩
    iapply (h' a ha)
    iexact H

/-- What is held besides the ring phase once the device's own blocks are made, the waits for the exchange's sends apart. -/
def Rq (c : Dev nD) (s : Fin 1) (g : Buf (Elt F) ((spec0_0.stage s).view.loc (c : Thread nD τ))) (R : sProp 𝕄) : sProp 𝕄 :=
  iprop(XD m c 0 ∗ XD m c 1 ∗ pv c keepM fullShare (K5 m c) ∗ gamP c s g ∗ Tab c ∗ pv c sendM fullShare (K6 m c) ∗ In0 m c ∗ In1 m c ∗ FinR c ∗ R)
def XsW (c : Dev nD) (s : Fin 2) : sProp 𝕄 := iprop(crd c (.xs s) NX ∗ pos0 c (.xs s))
def XsD (c : Dev nD) (s : Fin 2) : sProp 𝕄 := iprop(pos1 c (.xs s) ∗ pay m c (.xs s) 0)

/-- What a device starts with. -/
def Start (c : Dev nD) (s : Fin 1) (g : Buf (Elt F) ((spec0_0.stage s).view.loc (c : Thread nD τ))) (R : sProp 𝕄) : sProp 𝕄 :=
  iprop(Core m K c 0 ∗ Sg m c 0 ∗ Sg m c 1 ∗ Sg m c 2 ∗ (crd c .bar 3 ∗ pos0 c .bar)
    ∗ (InI m c 0 (grp c) keepM ∗ InI m c 1 (1 - grp c) sendM ∗ pos0 c (.inn 1)) ∗ pvE c (xsH 0)
    ∗ XT c 0 ∗ XT c 1 ∗ pvE c (xsH 1) ∗ pos0 c (.inn 0) ∗ bigSep Finset.univ (msgOwn c) ∗ bigSep Finset.univ (Sst m c 0 0 0 0 0)
    ∗ XW c 0 ∗ XW c 1 ∗ gamP c s g ∗ pos0 c (.xs 0) ∗ pos0 c (.xs 1) ∗ R)

/-- The program up to the waits for the sends. -/
theorem part68 (c : Dev nD) (t : Fin grid0.N) (s : Fin 1) (g : Buf (Elt F) ((spec0_0.stage s).view.loc (c : Thread nD τ)))
    (hg : ((spec0_0.stage s).access gamR).read (Elt F) g = GM m c) {R : sProp 𝕄} :
    Start m K c s g R ⊢ WP c (At t s (k0_part68 (F := F))) fun x => iprop(⌜∃ v2 v5 v8 v10 v, x = ⟨c, v2, v5, v8, tabW c 1, chk3 c, v10, tabW c 2,
        tabW c 3, chk1 c, tabW c 4, tabW c 5, chk2 c, v⟩⌝ ∗ St m K c 30 32 32 28 0 ∗ XsD m c 0 ∗ XsD m c 1 ∗ Rq m c s g R) := by
  rw [k0_part68_eq_skeleton]
  unfold Start
  refine seq_pure (part1 m K c t s) ?_
  rintro _ ⟨v2, v5, v8, v10, rfl⟩
  refine seq (part2 m K c t s v2 v5 v10) fun x => ?_
  refine seq (part3 m K c t s v5 v8 v10 x.1 x.2) fun _ => ?_
  refine re (P' := iprop(St m K c 0 0 0 0 0 ∗ XW c 0 ∗ pv c keepM fullShare (K5 m c) ∗ gamP c s g ∗ XW c 1 ∗ XsW c 0 ∗ XsW c 1
      ∗ Tab c ∗ pv c sendM fullShare (K6 m c) ∗ In0 m c ∗ In1 m c ∗ FinR c ∗ R))
    (by
      unfold XsW
      iintro ⟨A, B, C, D, E, G, H, I, J, X, Y, Z, U, V, W⟩
      iframe) ?_
  refine seq_pure (part4 m K c t s g hg v5 v8 v10) ?_
  rintro ⟨v122, v124⟩ hv
  refine seq (part5 m K c t s v2 v122 hv v124) fun _ => ?_
  refine seq (part6 m K c t s v5 v8 v10) fun _ => ?_
  refine re (P' := iprop(St m K c 2 1 1 0 0 ∗ XW c 1 ∗ pv c keepM fullShare (K5 m c) ∗ gamP c s g ∗ XD m c 0 ∗ XsW c 0 ∗ XsW c 1
      ∗ Tab c ∗ pv c sendM fullShare (K6 m c) ∗ In0 m c ∗ In1 m c ∗ FinR c ∗ R))
    (by
      iintro ⟨A, B, C, D, E, G, H, I, J, X, Y, Z, R⟩
      iframe) ?_
  refine seq (part7 m K c t s g hg v2) fun _ => ?_
  refine re (P' := iprop(St m K c 2 2 1 0 0 ∗ crd c (.xs 0) NX ∗ pos0 c (.xs 0) ∗ crd c (.xs 1) NX ∗ pos0 c (.xs 1) ∗ Rq m c s g R))
    (by
      unfold XsW Rq
      iintro ⟨A, B, C, D, E, ⟨G, H⟩, ⟨I, J⟩, X, Y, Z, U, V, R⟩
      iframe) ?_
  refine seq (S := fun _ => iprop(St m K c 4 2 1 0 0 ∗ crd c (.xs 0) NX ∗ pos0 c (.xs 0) ∗ crd c (.xs 1) NX ∗ pos0 c (.xs 1) ∗ Rq m c s g R)) (by
    rw [k0_part8_eq_skeleton]
    refine step_send m K c 2 2 1 0 0 (by decide) (by decide) (Fin.ext (devR c)) (off5 c 1) (sm_sr 1) (sm_rv c 1 (off4 c 1)) ?_
    refine step_send m K c 3 2 1 0 0 (by decide) (by decide) (Fin.ext (devL c)) (off5 c 1) (sm_sl 1) (sm_rv c 1 (off4 c 1)) ?_
    exact fin (BI.Entails.refl _)) fun _ => ?_
  refine seq (S := fun _ => iprop(St m K c 4 3 2 0 0 ∗ crd c (.xs 0) NX ∗ pos0 c (.xs 0) ∗ crd c (.xs 1) NX ∗ pos0 c (.xs 1) ∗ Rq m c s g R)) (by
    rw [k0_part9_eq_skeleton]
    refine step_store m K c 1 4 2 0 0 (by decide) (by omega) (off5 c 1) (off6 c 1) (sm_st c 1 (off4 c 1)) ?_
    refine step_recv m K c 2 4 2 0 0 (by decide) (by decide) (by decide) (by decide) (sm_rv c 2 (off4 c 2)) (by rfl) ?_
    exact fin (BI.Entails.refl _)) fun _ => ?_
  refine seq (S := fun _ => iprop(St m K c 4 4 3 0 0 ∗ crd c (.xs 0) NX ∗ pos0 c (.xs 0) ∗ crd c (.xs 1) NX ∗ pos0 c (.xs 1) ∗ Rq m c s g R)) (by
    rw [k0_part10_eq_skeleton]
    refine step_recv m K c 3 4 2 0 0 (by decide) (by decide) (by decide) (by decide) (sm_rv c 3 (off4 c 3)) (by rfl) ?_
    refine step_store m K c 2 4 4 0 0 (by decide) (by omega) (off5 c 2) (off6 c 2) (sm_st c 2 (off4 c 2)) ?_
    exact fin (BI.Entails.refl _)) fun _ => ?_
  refine seq (S := fun _ => iprop(St m K c 4 5 4 0 0 ∗ crd c (.xs 0) NX ∗ pos0 c (.xs 0) ∗ crd c (.xs 1) NX ∗ pos0 c (.xs 1) ∗ Rq m c s g R)) (by
    rw [k0_part11_eq_skeleton]
    refine step_store m K c 3 4 4 0 0 (by decide) (by omega) (off5 c 3) (off6 c 3) (sm_st c 3 (off4 c 3)) ?_
    refine step_recv m K c 4 4 4 0 0 (by decide) (by decide) (by decide) (by decide) (sm_rv c 4 (off4 c 4)) (by rfl) ?_
    exact fin (BI.Entails.refl _)) fun _ => ?_
  refine seq (S := fun _ => iprop(St m K c 5 6 4 0 0 ∗ crd c (.xs 0) NX ∗ pos0 c (.xs 0) ∗ crd c (.xs 1) NX ∗ pos0 c (.xs 1) ∗ Rq m c s g R)) (by
    rw [k0_part12_eq_skeleton]
    refine step_recv m K c 5 4 4 0 0 (by decide) (by decide) (by decide) (by decide) (sm_rv c 5 (off4 c 5)) (by rfl) ?_
    refine step_send m K c 4 6 4 0 0 (by decide) (by decide) (Fin.ext (devR c)) (off5 c 2) (sm_sr 2) (sm_rv c 2 (off4 c 2)) ?_
    exact fin (BI.Entails.refl _)) fun _ => ?_
  refine seq (S := fun _ => iprop(St m K c 6 6 6 0 0 ∗ crd c (.xs 0) NX ∗ pos0 c (.xs 0) ∗ crd c (.xs 1) NX ∗ pos0 c (.xs 1) ∗ Rq m c s g R)) (by
    rw [k0_part13_eq_skeleton]
    refine step_send m K c 5 6 4 0 0 (by decide) (by decide) (Fin.ext (devL c)) (off5 c 3) (sm_sl 2) (sm_rv c 3 (off4 c 3)) ?_
    refine step_store m K c 4 6 6 0 0 (by decide) (by omega) (off5 c 4) (off6 c 4) (sm_st c 4 (off4 c 4)) ?_
    refine step_store m K c 5 6 6 0 0 (by decide) (by omega) (off5 c 5) (off6 c 5) (sm_st c 5 (off4 c 5)) ?_
    exact fin (BI.Entails.refl _)) fun _ => ?_
  refine seq (S := fun _ => iprop(St m K c 6 8 6 0 0 ∗ crd c (.xs 0) NX ∗ pos0 c (.xs 0) ∗ crd c (.xs 1) NX ∗ pos0 c (.xs 1) ∗ Rq m c s g R)) (by
    rw [k0_part14_eq_skeleton]
    refine step_recv m K c 6 6 6 0 0 (by decide) (by decide) (by decide) (by decide) (sm_rv c 6 (off4 c 6)) (by rfl) ?_
    refine step_recv m K c 7 6 6 0 0 (by decide) (by decide) (by decide) (by decide) (sm_rv c 7 (off4 c 7)) (by rfl) ?_
    exact fin (BI.Entails.refl _)) fun _ => ?_
  refine seq (S := fun _ => iprop(St m K c 8 8 6 0 0 ∗ crd c (.xs 0) NX ∗ pos0 c (.xs 0) ∗ crd c (.xs 1) NX ∗ pos0 c (.xs 1) ∗ Rq m c s g R)) (by
    rw [k0_part15_eq_skeleton]
    refine step_send m K c 6 8 6 0 0 (by decide) (by decide) (Fin.ext (devR c)) (off5 c 4) (sm_sr 3) (sm_rv c 4 (off4 c 4)) ?_
    refine step_send m K c 7 8 6 0 0 (by decide) (by decide) (Fin.ext (devL c)) (off5 c 5) (sm_sl 3) (sm_rv c 5 (off4 c 5)) ?_
    exact fin (BI.Entails.refl _)) fun _ => ?_
  refine seq (S := fun _ => iprop(St m K c 8 8 8 0 0 ∗ crd c (.xs 0) NX ∗ pos0 c (.xs 0) ∗ crd c (.xs 1) NX ∗ pos0 c (.xs 1) ∗ Rq m c s g R)) (by
    rw [k0_part16_eq_skeleton]
    refine step_store m K c 6 8 8 0 0 (by decide) (by omega) (off5 c 6) (off6 c 6) (sm_st c 6 (off4 c 6)) ?_
    refine step_store m K c 7 8 8 0 0 (by decide) (by omega) (off5 c 7) (off6 c 7) (sm_st c 7 (off4 c 7)) ?_
    exact fin (BI.Entails.refl _)) fun _ => ?_
  refine seq (S := fun _ => iprop(St m K c 8 10 8 0 0 ∗ crd c (.xs 0) NX ∗ pos0 c (.xs 0) ∗ crd c (.xs 1) NX ∗ pos0 c (.xs 1) ∗ Rq m c s g R)) (by
    rw [k0_part17_eq_skeleton]
    refine step_recv m K c 8 8 8 0 0 (by decide) (by decide) (by decide) (by decide) (sm_rv c 8 (off4 c 8)) (by rfl) ?_
    refine step_recv m K c 9 8 8 0 0 (by decide) (by decide) (by decide) (by decide) (sm_rv c 9 (off4 c 9)) (by rfl) ?_
    exact fin (BI.Entails.refl _)) fun _ => ?_
  refine seq (S := fun _ => iprop(St m K c 10 10 8 0 0 ∗ crd c (.xs 0) NX ∗ pos0 c (.xs 0) ∗ crd c (.xs 1) NX ∗ pos0 c (.xs 1) ∗ Rq m c s g R)) (by
    rw [k0_part18_eq_skeleton]
    refine step_send m K c 8 10 8 0 0 (by decide) (by decide) (Fin.ext (devR c)) (off5 c 6) (sm_sr 4) (sm_rv c 6 (off4 c 6)) ?_
    refine step_send m K c 9 10 8 0 0 (by decide) (by decide) (Fin.ext (devL c)) (off5 c 7) (sm_sl 4) (sm_rv c 7 (off4 c 7)) ?_
    exact fin (BI.Entails.refl _)) fun _ => ?_
  refine seq (S := fun _ => iprop(St m K c 10 10 10 0 0 ∗ crd c (.xs 0) NX ∗ pos0 c (.xs 0) ∗ crd c (.xs 1) NX ∗ pos0 c (.xs 1) ∗ Rq m c s g R)) (by
    rw [k0_part19_eq_skeleton]
    refine step_store m K c 8 10 10 0 0 (by decide) (by omega) (off5 c 8) (off6 c 8) (sm_st c 8 (off4 c 8)) ?_
    refine step_store m K c 9 10 10 0 0 (by decide) (by omega) (off5 c 9) (off6 c 9) (sm_st c 9 (off4 c 9)) ?_
    exact fin (BI.Entails.refl _)) fun _ => ?_
  refine seq (S := fun _ => iprop(St m K c 10 12 10 0 0 ∗ crd c (.xs 0) NX ∗ pos0 c (.xs 0) ∗ crd c (.xs 1) NX ∗ pos0 c (.xs 1) ∗ Rq m c s g R)) (by
    rw [k0_part20_eq_skeleton]
    refine step_recv m K c 10 10 10 0 0 (by decide) (by decide) (by decide) (by decide) (sm_rv c 10 (off4 c 10)) (by rfl) ?_
    refine step_recv m K c 11 10 10 0 0 (by decide) (by decide) (by decide) (by decide) (sm_rv c 11 (off4 c 11)) (by rfl) ?_
    exact fin (BI.Entails.refl _)) fun _ => ?_
  refine seq (S := fun _ => iprop(St m K c 12 12 10 0 0 ∗ crd c (.xs 0) NX ∗ pos0 c (.xs 0) ∗ crd c (.xs 1) NX ∗ pos0 c (.xs 1) ∗ Rq m c s g R)) (by
    rw [k0_part21_eq_skeleton]
    refine step_send m K c 10 12 10 0 0 (by decide) (by decide) (Fin.ext (devR c)) (off5 c 8) (sm_sr 5) (sm_rv c 8 (off4 c 8)) ?_
    refine step_send m K c 11 12 10 0 0 (by decide) (by decide) (Fin.ext (devL c)) (off5 c 9) (sm_sl 5) (sm_rv c 9 (off4 c 9)) ?_
    exact fin (BI.Entails.refl _)) fun _ => ?_
  refine seq (S := fun _ => iprop(St m K c 12 12 12 0 0 ∗ crd c (.xs 0) NX ∗ pos0 c (.xs 0) ∗ crd c (.xs 1) NX ∗ pos0 c (.xs 1) ∗ Rq m c s g R)) (by
    rw [k0_part22_eq_skeleton]
    refine step_store m K c 10 12 12 0 0 (by decide) (by omega) (off5 c 10) (off6 c 10) (sm_st c 10 (off4 c 10)) ?_
    refine step_store m K c 11 12 12 0 0 (by decide) (by omega) (off5 c 11) (off6 c 11) (sm_st c 11 (off4 c 11)) ?_
    exact fin (BI.Entails.refl _)) fun _ => ?_
  refine seq (S := fun _ => iprop(St m K c 12 14 12 0 0 ∗ crd c (.xs 0) NX ∗ pos0 c (.xs 0) ∗ crd c (.xs 1) NX ∗ pos0 c (.xs 1) ∗ Rq m c s g R)) (by
    rw [k0_part23_eq_skeleton]
    refine step_recv m K c 12 12 12 0 0 (by decide) (by decide) (by decide) (by decide) (sm_rv c 12 (off4 c 12)) (by rfl) ?_
    refine step_recv m K c 13 12 12 0 0 (by decide) (by decide) (by decide) (by decide) (sm_rv c 13 (off4 c 13)) (by rfl) ?_
    exact fin (BI.Entails.refl _)) fun _ => ?_
  refine seq (S := fun _ => iprop(St m K c 14 14 12 0 0 ∗ crd c (.xs 0) NX ∗ pos0 c (.xs 0) ∗ crd c (.xs 1) NX ∗ pos0 c (.xs 1) ∗ Rq m c s g R)) (by
    rw [k0_part24_eq_skeleton]
    refine step_send m K c 12 14 12 0 0 (by decide) (by decide) (Fin.ext (devR c)) (off5 c 10) (sm_sr 6) (sm_rv c 10 (off4 c 10)) ?_
    refine step_send m K c 13 14 12 0 0 (by decide) (by decide) (Fin.ext (devL c)) (off5 c 11) (sm_sl 6) (sm_rv c 11 (off4 c 11)) ?_
    exact fin (BI.Entails.refl _)) fun _ => ?_
  refine seq (S := fun _ => iprop(St m K c 14 14 14 0 0 ∗ crd c (.xs 0) NX ∗ pos0 c (.xs 0) ∗ crd c (.xs 1) NX ∗ pos0 c (.xs 1) ∗ Rq m c s g R)) (by
    rw [k0_part25_eq_skeleton]
    refine step_store m K c 12 14 14 0 0 (by decide) (by omega) (off5 c 12) (off6 c 12) (sm_st c 12 (off4 c 12)) ?_
    refine step_store m K c 13 14 14 0 0 (by decide) (by omega) (off5 c 13) (off6 c 13) (sm_st c 13 (off4 c 13)) ?_
    exact fin (BI.Entails.refl _)) fun _ => ?_
  refine seq (S := fun _ => iprop(St m K c 14 16 14 0 0 ∗ crd c (.xs 0) NX ∗ pos0 c (.xs 0) ∗ crd c (.xs 1) NX ∗ pos0 c (.xs 1) ∗ Rq m c s g R)) (by
    rw [k0_part26_eq_skeleton]
    refine step_recv m K c 14 14 14 0 0 (by decide) (by decide) (by decide) (by decide) (sm_rv c 14 (off4 c 14)) (by rfl) ?_
    refine step_recv m K c 15 14 14 0 0 (by decide) (by decide) (by decide) (by decide) (sm_rv c 15 (off4 c 15)) (by rfl) ?_
    exact fin (BI.Entails.refl _)) fun _ => ?_
  refine seq (S := fun _ => iprop(St m K c 16 16 14 0 0 ∗ crd c (.xs 0) NX ∗ pos0 c (.xs 0) ∗ crd c (.xs 1) NX ∗ pos0 c (.xs 1) ∗ Rq m c s g R)) (by
    rw [k0_part27_eq_skeleton]
    refine step_send m K c 14 16 14 0 0 (by decide) (by decide) (Fin.ext (devR c)) (off5 c 12) (sm_sr 7) (sm_rv c 12 (off4 c 12)) ?_
    refine step_send m K c 15 16 14 0 0 (by decide) (by decide) (Fin.ext (devL c)) (off5 c 13) (sm_sl 7) (sm_rv c 13 (off4 c 13)) ?_
    exact fin (BI.Entails.refl _)) fun _ => ?_
  refine seq (S := fun _ => iprop(St m K c 16 17 16 0 0 ∗ crd c (.xs 0) NX ∗ pos0 c (.xs 0) ∗ crd c (.xs 1) NX ∗ pos0 c (.xs 1) ∗ Rq m c s g R)) (by
    rw [k0_part28_eq_skeleton]
    refine step_store m K c 14 16 16 0 0 (by decide) (by omega) (off5 c 14) (off6 c 14) (sm_st c 14 (off4 c 14)) ?_
    refine step_store m K c 15 16 16 0 0 (by decide) (by omega) (off5 c 15) (off6 c 15) (sm_st c 15 (off4 c 15)) ?_
    refine step_recv m K c 16 16 16 0 0 (by decide) (by decide) (by decide) (by decide) (sm_rv c 16 (off4 c 16)) (by rfl) ?_
    exact fin (BI.Entails.refl _)) fun _ => ?_
  refine seq (S := fun _ => iprop(St m K c 17 18 16 0 0 ∗ crd c (.xs 0) NX ∗ pos0 c (.xs 0) ∗ crd c (.xs 1) NX ∗ pos0 c (.xs 1) ∗ Rq m c s g R)) (by
    rw [k0_part29_eq_skeleton]
    refine step_recv m K c 17 16 16 0 0 (by decide) (by decide) (by decide) (by decide) (sm_rv c 17 (off4 c 17)) (by rfl) ?_
    refine step_send m K c 16 18 16 0 0 (by decide) (by decide) (Fin.ext (devR c)) (off5 c 14) (sm_sr 8) (sm_rv c 14 (off4 c 14)) ?_
    exact fin (BI.Entails.refl _)) fun _ => ?_
  refine seq (S := fun _ => iprop(St m K c 18 18 17 0 0 ∗ crd c (.xs 0) NX ∗ pos0 c (.xs 0) ∗ crd c (.xs 1) NX ∗ pos0 c (.xs 1) ∗ Rq m c s g R)) (by
    rw [k0_part30_eq_skeleton]
    refine step_send m K c 17 18 16 0 0 (by decide) (by decide) (Fin.ext (devL c)) (off5 c 15) (sm_sl 8) (sm_rv c 15 (off4 c 15)) ?_
    refine step_store m K c 16 18 18 0 0 (by decide) (by omega) (off5 c 16) (off6 c 16) (sm_st c 16 (off4 c 16)) ?_
    exact fin (BI.Entails.refl _)) fun _ => ?_
  refine seq (S := fun _ => iprop(St m K c 18 19 18 0 0 ∗ crd c (.xs 0) NX ∗ pos0 c (.xs 0) ∗ crd c (.xs 1) NX ∗ pos0 c (.xs 1) ∗ Rq m c s g R)) (by
    rw [k0_part31_eq_skeleton]
    refine step_store m K c 17 18 18 0 0 (by decide) (by omega) (off5 c 17) (off6 c 17) (sm_st c 17 (off4 c 17)) ?_
    refine step_recv m K c 18 18 18 0 0 (by decide) (by decide) (by decide) (by decide) (sm_rv c 18 (off4 c 18)) (by rfl) ?_
    exact fin (BI.Entails.refl _)) fun _ => ?_
  refine seq (S := fun _ => iprop(St m K c 19 20 18 0 0 ∗ crd c (.xs 0) NX ∗ pos0 c (.xs 0) ∗ crd c (.xs 1) NX ∗ pos0 c (.xs 1) ∗ Rq m c s g R)) (by
    rw [k0_part32_eq_skeleton]
    refine step_recv m K c 19 18 18 0 0 (by decide) (by decide) (by decide) (by decide) (sm_rv c 19 (off4 c 19)) (by rfl) ?_
    refine step_send m K c 18 20 18 0 0 (by decide) (by decide) (Fin.ext (devR c)) (off5 c 16) (sm_sr 9) (sm_rv c 16 (off4 c 16)) ?_
    exact fin (BI.Entails.refl _)) fun _ => ?_
  refine seq (S := fun _ => iprop(St m K c 20 20 19 0 0 ∗ crd c (.xs 0) NX ∗ pos0 c (.xs 0) ∗ crd c (.xs 1) NX ∗ pos0 c (.xs 1) ∗ Rq m c s g R)) (by
    rw [k0_part33_eq_skeleton]
    refine step_send m K c 19 20 18 0 0 (by decide) (by decide) (Fin.ext (devL c)) (off5 c 17) (sm_sl 9) (sm_rv c 17 (off4 c 17)) ?_
    refine step_store m K c 18 20 20 0 0 (by decide) (by omega) (off5 c 18) (off6 c 18) (sm_st c 18 (off4 c 18)) ?_
    exact fin (BI.Entails.refl _)) fun _ => ?_
  refine seq (S := fun _ => iprop(St m K c 20 21 20 0 0 ∗ crd c (.xs 0) NX ∗ pos0 c (.xs 0) ∗ crd c (.xs 1) NX ∗ pos0 c (.xs 1) ∗ Rq m c s g R)) (by
    rw [k0_part34_eq_skeleton]
    refine step_store m K c 19 20 20 0 0 (by decide) (by omega) (off5 c 19) (off6 c 19) (sm_st c 19 (off4 c 19)) ?_
    refine step_recv m K c 20 20 20 0 0 (by decide) (by decide) (by decide) (by decide) (sm_rv c 20 (off4 c 20)) (by rfl) ?_
    exact fin (BI.Entails.refl _)) fun _ => ?_
  refine seq (S := fun _ => iprop(St m K c 21 22 20 0 0 ∗ crd c (.xs 0) NX ∗ pos0 c (.xs 0) ∗ crd c (.xs 1) NX ∗ pos0 c (.xs 1) ∗ Rq m c s g R)) (by
    rw [k0_part35_eq_skeleton]
    refine step_recv m K c 21 20 20 0 0 (by decide) (by decide) (by decide) (by decide) (sm_rv c 21 (off4 c 21)) (by rfl) ?_
    refine step_send m K c 20 22 20 0 0 (by decide) (by decide) (Fin.ext (devR c)) (off5 c 18) (sm_sr 10) (sm_rv c 18 (off4 c 18)) ?_
    exact fin (BI.Entails.refl _)) fun _ => ?_
  refine seq (S := fun _ => iprop(St m K c 22 22 21 0 0 ∗ crd c (.xs 0) NX ∗ pos0 c (.xs 0) ∗ crd c (.xs 1) NX ∗ pos0 c (.xs 1) ∗ Rq m c s g R)) (by
    rw [k0_part36_eq_skeleton]
    refine step_send m K c 21 22 20 0 0 (by decide) (by decide) (Fin.ext (devL c)) (off5 c 19) (sm_sl 10) (sm_rv c 19 (off4 c 19)) ?_
    refine step_store m K c 20 22 22 0 0 (by decide) (by omega) (off5 c 20) (off6 c 20) (sm_st c 20 (off4 c 20)) ?_
    exact fin (BI.Entails.refl _)) fun _ => ?_
  refine seq (S := fun _ => iprop(St m K c 22 23 22 0 0 ∗ crd c (.xs 0) NX ∗ pos0 c (.xs 0) ∗ crd c (.xs 1) NX ∗ pos0 c (.xs 1) ∗ Rq m c s g R)) (by
    rw [k0_part37_eq_skeleton]
    refine step_store m K c 21 22 22 0 0 (by decide) (by omega) (off5 c 21) (off6 c 21) (sm_st c 21 (off4 c 21)) ?_
    refine step_recv m K c 22 22 22 0 0 (by decide) (by decide) (by decide) (by decide) (sm_rv c 22 (off4 c 22)) (by rfl) ?_
    exact fin (BI.Entails.refl _)) fun _ => ?_
  refine seq (S := fun _ => iprop(St m K c 23 24 22 0 0 ∗ crd c (.xs 0) NX ∗ pos0 c (.xs 0) ∗ crd c (.xs 1) NX ∗ pos0 c (.xs 1) ∗ Rq m c s g R)) (by
    rw [k0_part38_eq_skeleton]
    refine step_recv m K c 23 22 22 0 0 (by decide) (by decide) (by decide) (by decide) (sm_rv c 23 (off4 c 23)) (by rfl) ?_
    refine step_send m K c 22 24 22 0 0 (by decide) (by decide) (Fin.ext (devR c)) (off5 c 20) (sm_sr 11) (sm_rv c 20 (off4 c 20)) ?_
    exact fin (BI.Entails.refl _)) fun _ => ?_
  refine seq (S := fun _ => iprop(St m K c 24 24 23 0 0 ∗ crd c (.xs 0) NX ∗ pos0 c (.xs 0) ∗ crd c (.xs 1) NX ∗ pos0 c (.xs 1) ∗ Rq m c s g R)) (by
    rw [k0_part39_eq_skeleton]
    refine step_send m K c 23 24 22 0 0 (by decide) (by decide) (Fin.ext (devL c)) (off5 c 21) (sm_sl 11) (sm_rv c 21 (off4 c 21)) ?_
    refine step_store m K c 22 24 24 0 0 (by decide) (by omega) (off5 c 22) (off6 c 22) (sm_st c 22 (off4 c 22)) ?_
    exact fin (BI.Entails.refl _)) fun _ => ?_
  refine seq (S := fun _ => iprop(St m K c 24 25 24 0 0 ∗ crd c (.xs 0) NX ∗ pos0 c (.xs 0) ∗ crd c (.xs 1) NX ∗ pos0 c (.xs 1) ∗ Rq m c s g R)) (by
    rw [k0_part40_eq_skeleton]
    refine step_store m K c 23 24 24 0 0 (by decide) (by omega) (off5 c 23) (off6 c 23) (sm_st c 23 (off4 c 23)) ?_
    refine step_recv m K c 24 24 24 0 0 (by decide) (by decide) (by decide) (by decide) (sm_rv c 24 (off4 c 24)) (by rfl) ?_
    exact fin (BI.Entails.refl _)) fun _ => ?_
  refine seq (S := fun _ => iprop(St m K c 25 26 24 0 0 ∗ crd c (.xs 0) NX ∗ pos0 c (.xs 0) ∗ crd c (.xs 1) NX ∗ pos0 c (.xs 1) ∗ Rq m c s g R)) (by
    rw [k0_part41_eq_skeleton]
    refine step_recv m K c 25 24 24 0 0 (by decide) (by decide) (by decide) (by decide) (sm_rv c 25 (off4 c 25)) (by rfl) ?_
    refine step_send m K c 24 26 24 0 0 (by decide) (by decide) (Fin.ext (devR c)) (off5 c 22) (sm_sr 12) (sm_rv c 22 (off4 c 22)) ?_
    exact fin (BI.Entails.refl _)) fun _ => ?_
  refine seq (S := fun _ => iprop(St m K c 26 26 26 0 0 ∗ crd c (.xs 0) NX ∗ pos0 c (.xs 0) ∗ crd c (.xs 1) NX ∗ pos0 c (.xs 1) ∗ Rq m c s g R)) (by
    rw [k0_part42_eq_skeleton]
    refine step_send m K c 25 26 24 0 0 (by decide) (by decide) (Fin.ext (devL c)) (off5 c 23) (sm_sl 12) (sm_rv c 23 (off4 c 23)) ?_
    refine step_store m K c 24 26 26 0 0 (by decide) (by omega) (off5 c 24) (off6 c 24) (sm_st c 24 (off4 c 24)) ?_
    refine step_store m K c 25 26 26 0 0 (by decide) (by omega) (off5 c 25) (off6 c 25) (sm_st c 25 (off4 c 25)) ?_
    exact fin (BI.Entails.refl _)) fun _ => ?_
  refine seq (S := fun _ => iprop(St m K c 26 28 26 0 0 ∗ crd c (.xs 0) NX ∗ pos0 c (.xs 0) ∗ crd c (.xs 1) NX ∗ pos0 c (.xs 1) ∗ Rq m c s g R)) (by
    rw [k0_part43_eq_skeleton]
    refine step_recv m K c 26 26 26 0 0 (by decide) (by decide) (by decide) (by decide) (sm_rv c 26 (off4 c 26)) (by rfl) ?_
    refine step_recv m K c 27 26 26 0 0 (by decide) (by decide) (by decide) (by decide) (sm_rv c 27 (off4 c 27)) (by rfl) ?_
    exact fin (BI.Entails.refl _)) fun _ => ?_
  refine seq (S := fun _ => iprop(St m K c 28 28 26 0 0 ∗ crd c (.xs 0) NX ∗ pos0 c (.xs 0) ∗ crd c (.xs 1) NX ∗ pos0 c (.xs 1) ∗ Rq m c s g R)) (by
    rw [k0_part44_eq_skeleton]
    refine step_send m K c 26 28 26 0 0 (by decide) (by decide) (Fin.ext (devR c)) (off5 c 24) (sm_sr 13) (sm_rv c 24 (off4 c 24)) ?_
    refine step_send m K c 27 28 26 0 0 (by decide) (by decide) (Fin.ext (devL c)) (off5 c 25) (sm_sl 13) (sm_rv c 25 (off4 c 25)) ?_
    exact fin (BI.Entails.refl _)) fun _ => ?_
  refine seq (S := fun _ => iprop(St m K c 28 28 28 0 0 ∗ crd c (.xs 0) NX ∗ pos0 c (.xs 0) ∗ crd c (.xs 1) NX ∗ pos0 c (.xs 1) ∗ Rq m c s g R)) (by
    rw [k0_part45_eq_skeleton]
    refine step_store m K c 26 28 28 0 0 (by decide) (by omega) (off5 c 26) (off6 c 26) (sm_st c 26 (off4 c 26)) ?_
    refine step_store m K c 27 28 28 0 0 (by decide) (by omega) (off5 c 27) (off6 c 27) (sm_st c 27 (off4 c 27)) ?_
    exact fin (BI.Entails.refl _)) fun _ => ?_
  refine seq (S := fun _ => iprop(St m K c 28 30 28 0 0 ∗ crd c (.xs 0) NX ∗ pos0 c (.xs 0) ∗ crd c (.xs 1) NX ∗ pos0 c (.xs 1) ∗ Rq m c s g R)) (by
    rw [k0_part46_eq_skeleton]
    refine step_recv m K c 28 28 28 0 0 (by decide) (by decide) (by decide) (by decide) (sm_rv c 28 (off4 c 28)) (by rfl) ?_
    refine step_recv m K c 29 28 28 0 0 (by decide) (by decide) (by decide) (by decide) (sm_rv c 29 (off4 c 29)) (by rfl) ?_
    exact fin (BI.Entails.refl _)) fun _ => ?_
  refine seq (S := fun _ => iprop(St m K c 30 30 28 0 0 ∗ crd c (.xs 0) NX ∗ pos0 c (.xs 0) ∗ crd c (.xs 1) NX ∗ pos0 c (.xs 1) ∗ Rq m c s g R)) (by
    rw [k0_part47_eq_skeleton]
    refine step_send m K c 28 30 28 0 0 (by decide) (by decide) (Fin.ext (devR c)) (off5 c 26) (sm_sr 14) (sm_rv c 26 (off4 c 26)) ?_
    refine step_send m K c 29 30 28 0 0 (by decide) (by decide) (Fin.ext (devL c)) (off5 c 29) (sm_sl 14) (sm_rv c 29 (off4 c 29)) ?_
    exact fin (BI.Entails.refl _)) fun _ => ?_
  refine seq (S := fun _ => iprop(St m K c 30 30 30 0 0 ∗ crd c (.xs 0) NX ∗ pos0 c (.xs 0) ∗ crd c (.xs 1) NX ∗ pos0 c (.xs 1) ∗ Rq m c s g R)) (by
    rw [k0_part48_eq_skeleton]
    refine step_store m K c 28 30 30 0 0 (by decide) (by omega) (off5 c 28) (off6 c 28) (sm_st c 28 (off4 c 28)) ?_
    refine step_store m K c 29 30 30 0 0 (by decide) (by omega) (off5 c 29) (off6 c 29) (sm_st c 29 (off4 c 29)) ?_
    exact fin (BI.Entails.refl _)) fun _ => ?_
  refine seq (S := fun _ => iprop(St m K c 30 32 30 0 0 ∗ crd c (.xs 0) NX ∗ pos0 c (.xs 0) ∗ crd c (.xs 1) NX ∗ pos0 c (.xs 1) ∗ Rq m c s g R)) (by
    rw [k0_part49_eq_skeleton]
    refine step_recv m K c 30 30 30 0 0 (by decide) (by decide) (by decide) (by decide) (sm_rv c 30 (off4 c 30)) (by rfl) ?_
    refine step_recv m K c 31 30 30 0 0 (by decide) (by decide) (by decide) (by decide) (sm_rv c 31 (off4 c 31)) (by rfl) ?_
    exact fin (BI.Entails.refl _)) fun _ => ?_
  refine seq (S := fun _ => iprop(St m K c 30 32 32 0 0 ∗ pos1 c (.xs 0) ∗ pay m c (.xs 0) 0 ∗ crd c (.xs 1) NX ∗ pos0 c (.xs 1) ∗ Rq m c s g R)) (by
    rw [k0_part50_eq_skeleton]
    refine step_store m K c 30 30 32 0 0 (by decide) (by omega) (off5 c 30) (off6 c 30) (sm_st c 30 (off4 c 30)) ?_
    refine step_store m K c 31 30 32 0 0 (by decide) (by omega) (off5 c 31) (off6 c 31) (sm_st c 31 (off4 c 31)) ?_
    refine step_wait_other m K c (.xs 0) rfl (Nat.le_succ 1) 30 32 32 0 0 (congrArg SemLoc.dma (sem_xs 0 _)) (by rfl) ?_
    exact fin (BI.Entails.refl _)) fun _ => ?_
  refine seq (S := fun _ => iprop(St m K c 30 32 32 2 0 ∗ pos1 c (.xs 1) ∗ pay m c (.xs 1) 0 ∗ XsD m c 0 ∗ Rq m c s g R)) (by
    rw [k0_part51_eq_skeleton]
    refine re (P' := iprop(St m K c 30 32 32 0 0 ∗ crd c (.xs 1) NX ∗ pos0 c (.xs 1) ∗ XsD m c 0 ∗ Rq m c s g R)) (by
      unfold XsD; iintro ⟨A, B, C, D, E, G⟩; iframe) ?_
    refine step_wait_other m K c (.xs 1) rfl (Nat.le_succ 1) 30 32 32 0 0 (congrArg SemLoc.dma (sem_xs 1 _)) (by rfl) ?_
    refine step_wait_send m K c 0 30 32 32 0 (by decide) (by decide) (sm_sr 0) (by rfl) ?_
    refine step_wait_send m K c 1 30 32 32 0 (by decide) (by decide) (sm_sl 0) (by rfl) ?_
    exact fin (BI.Entails.refl _)) fun _ => ?_
  refine seq (S := fun _ => iprop(St m K c 30 32 32 5 0 ∗ pos1 c (.xs 1) ∗ pay m c (.xs 1) 0 ∗ XsD m c 0 ∗ Rq m c s g R)) (by
    rw [k0_part52_eq_skeleton]
    refine step_wait_send m K c 2 30 32 32 0 (by decide) (by decide) (sm_sr 1) (by rfl) ?_
    refine step_wait_send m K c 3 30 32 32 0 (by decide) (by decide) (sm_sl 1) (by rfl) ?_
    refine step_wait_send m K c 4 30 32 32 0 (by decide) (by decide) (sm_sr 2) (by rfl) ?_
    exact fin (BI.Entails.refl _)) fun _ => ?_
  refine seq (S := fun _ => iprop(St m K c 30 32 32 8 0 ∗ pos1 c (.xs 1) ∗ pay m c (.xs 1) 0 ∗ XsD m c 0 ∗ Rq m c s g R)) (by
    rw [k0_part53_eq_skeleton]
    refine step_wait_send m K c 5 30 32 32 0 (by decide) (by decide) (sm_sl 2) (by rfl) ?_
    refine step_wait_send m K c 6 30 32 32 0 (by decide) (by decide) (sm_sr 3) (by rfl) ?_
    refine step_wait_send m K c 7 30 32 32 0 (by decide) (by decide) (sm_sl 3) (by rfl) ?_
    exact fin (BI.Entails.refl _)) fun _ => ?_
  refine seq (S := fun _ => iprop(St m K c 30 32 32 11 0 ∗ pos1 c (.xs 1) ∗ pay m c (.xs 1) 0 ∗ XsD m c 0 ∗ Rq m c s g R)) (by
    rw [k0_part54_eq_skeleton]
    refine step_wait_send m K c 8 30 32 32 0 (by decide) (by decide) (sm_sr 4) (by rfl) ?_
    refine step_wait_send m K c 9 30 32 32 0 (by decide) (by decide) (sm_sl 4) (by rfl) ?_
    refine step_wait_send m K c 10 30 32 32 0 (by decide) (by decide) (sm_sr 5) (by rfl) ?_
    exact fin (BI.Entails.refl _)) fun _ => ?_
  refine seq (S := fun _ => iprop(St m K c 30 32 32 14 0 ∗ pos1 c (.xs 1) ∗ pay m c (.xs 1) 0 ∗ XsD m c 0 ∗ Rq m c s g R)) (by
    rw [k0_part55_eq_skeleton]
    refine step_wait_send m K c 11 30 32 32 0 (by decide) (by decide) (sm_sl 5) (by rfl) ?_
    refine step_wait_send m K c 12 30 32 32 0 (by decide) (by decide) (sm_sr 6) (by rfl) ?_
    refine step_wait_send m K c 13 30 32 32 0 (by decide) (by decide) (sm_sl 6) (by rfl) ?_
    exact fin (BI.Entails.refl _)) fun _ => ?_
  refine seq (S := fun _ => iprop(St m K c 30 32 32 16 0 ∗ pos1 c (.xs 1) ∗ pay m c (.xs 1) 0 ∗ XsD m c 0 ∗ Rq m c s g R)) (by
    rw [k0_part56_eq_skeleton]
    refine step_wait_send m K c 14 30 32 32 0 (by decide) (by decide) (sm_sr 7) (by rfl) ?_
    refine step_wait_send m K c 15 30 32 32 0 (by decide) (by decide) (sm_sl 7) (by rfl) ?_
    exact fin (BI.Entails.refl _)) fun _ => ?_
  refine seq (S := fun _ => iprop(St m K c 30 32 32 19 0 ∗ pos1 c (.xs 1) ∗ pay m c (.xs 1) 0 ∗ XsD m c 0 ∗ Rq m c s g R)) (by
    rw [k0_part57_eq_skeleton]
    refine step_wait_send m K c 16 30 32 32 0 (by decide) (by decide) (sm_sr 8) (by rfl) ?_
    refine step_wait_send m K c 17 30 32 32 0 (by decide) (by decide) (sm_sl 8) (by rfl) ?_
    refine step_wait_send m K c 18 30 32 32 0 (by decide) (by decide) (sm_sr 9) (by rfl) ?_
    exact fin (BI.Entails.refl _)) fun _ => ?_
  refine seq (S := fun _ => iprop(St m K c 30 32 32 22 0 ∗ pos1 c (.xs 1) ∗ pay m c (.xs 1) 0 ∗ XsD m c 0 ∗ Rq m c s g R)) (by
    rw [k0_part58_eq_skeleton]
    refine step_wait_send m K c 19 30 32 32 0 (by decide) (by decide) (sm_sl 9) (by rfl) ?_
    refine step_wait_send m K c 20 30 32 32 0 (by decide) (by decide) (sm_sr 10) (by rfl) ?_
    refine step_wait_send m K c 21 30 32 32 0 (by decide) (by decide) (sm_sl 10) (by rfl) ?_
    exact fin (BI.Entails.refl _)) fun _ => ?_
  refine seq (S := fun _ => iprop(St m K c 30 32 32 25 0 ∗ pos1 c (.xs 1) ∗ pay m c (.xs 1) 0 ∗ XsD m c 0 ∗ Rq m c s g R)) (by
    rw [k0_part59_eq_skeleton]
    refine step_wait_send m K c 22 30 32 32 0 (by decide) (by decide) (sm_sr 11) (by rfl) ?_
    refine step_wait_send m K c 23 30 32 32 0 (by decide) (by decide) (sm_sl 11) (by rfl) ?_
    refine step_wait_send m K c 24 30 32 32 0 (by decide) (by decide) (sm_sr 12) (by rfl) ?_
    exact fin (BI.Entails.refl _)) fun _ => ?_
  refine seq (S := fun _ => iprop(St m K c 30 32 32 28 0 ∗ pos1 c (.xs 1) ∗ pay m c (.xs 1) 0 ∗ XsD m c 0 ∗ Rq m c s g R)) (by
    rw [k0_part60_eq_skeleton]
    refine step_wait_send m K c 25 30 32 32 0 (by decide) (by decide) (sm_sl 12) (by rfl) ?_
    refine step_wait_send m K c 26 30 32 32 0 (by decide) (by decide) (sm_sr 13) (by rfl) ?_
    refine step_wait_send m K c 27 30 32 32 0 (by decide) (by decide) (sm_sl 13) (by rfl) ?_
    exact fin (BI.Entails.refl _)) fun _ => ?_
  refine fin ?_
  iintro ⟨A, B, C, D, E⟩
  isplitr
  · ipureintro
    exact ⟨_, _, _, _, _, rfl⟩
  unfold XsD
  iframe

end Cert.Proof
-- ==== Proof.Tail.lean ====
/- The last waits and the barrier after the exchange: a whole run of the kernel's body on one device. -/
module

public import proofs.«01_k».proof.Proof.Chain

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- What the barrier after the exchange takes. -/
def FinT (c : Dev nD) : sProp 𝕄 :=
  iprop(crd c .fin 3 ∗ pos0 c .fin ∗ tok (partner c) .fin 0 ∗ tok (right c) .fin 2 ∗ tok (left c) .fin 1)

/-- What a device ends with. -/
def Done (c : Dev nD) (s : Fin 1) (g : Buf (Elt F) ((spec0_0.stage s).view.loc (c : Thread nD τ))) : sProp 𝕄 :=
  iprop(Core m K c 38 ∗ pos1 c .fin ∗ pos1 c .bar ∗ bigSep Finset.univ (Mst (F := F) c 30 30) ∗ bigSep Finset.univ (Sst m c 30 32 32 30 32)
    ∗ XsD m c 0 ∗ XsD m c 1 ∗ XD m c 0 ∗ XD m c 1 ∗ pv c keepM fullShare (K5 m c) ∗ gamP c s g ∗ pv c sendM fullShare (K6 m c)
    ∗ In0 m c ∗ In1 m c)

theorem fin_pay (c : Dev nD) (d : Fin 3) : pay m c .fin d = iprop(emp) := rfl

theorem body_wp (c : Dev nD) (t : Fin grid0.N) (s : Fin 1) (g : Buf (Elt F) ((spec0_0.stage s).view.loc (c : Thread nD τ)))
    (hg : ((spec0_0.stage s).access gamR).read (Elt F) g = GM m c) :
    Start m K c s g (FinT c) ⊢ WP c (At t s (cc0_body (F := F))) fun _ => Done m K c s g := by
  rw [cc0_body_eq_skeleton]
  refine seq_pure (part68 m K c t s g hg) ?_
  rintro _ ⟨v2, v5, v8, v10, v, rfl⟩
  refine seq (S := fun _ => iprop(St m K c 30 32 32 30 2 ∗ XsD m c 0 ∗ XsD m c 1 ∗ Rq m c s g (FinT c))) (by
    rw [k0_part61_eq_skeleton]
    refine step_wait_send m K c 28 30 32 32 0 (by decide) (by decide) (sm_sr 14) (by rfl) ?_
    refine step_wait_send m K c 29 30 32 32 0 (by decide) (by decide) (sm_sl 14) (by rfl) ?_
    refine step_wait_abs m K c 0 30 32 32 30 (Nat.le_refl _) (by rfl) ?_
    refine step_wait_abs m K c 1 30 32 32 30 (Nat.le_refl _) (by rfl) ?_
    exact fin (BI.Entails.refl _)) fun _ => ?_
  refine seq (S := fun _ => iprop(St m K c 30 32 32 30 7 ∗ XsD m c 0 ∗ XsD m c 1 ∗ Rq m c s g (FinT c))) (by
    rw [k0_part62_eq_skeleton]
    refine step_wait_abs m K c 2 30 32 32 30 (Nat.le_refl _) (by rfl) ?_
    refine step_wait_abs m K c 3 30 32 32 30 (Nat.le_refl _) (by rfl) ?_
    refine step_wait_abs m K c 4 30 32 32 30 (Nat.le_refl _) (by rfl) ?_
    refine step_wait_abs m K c 5 30 32 32 30 (Nat.le_refl _) (by rfl) ?_
    refine step_wait_abs m K c 6 30 32 32 30 (Nat.le_refl _) (by rfl) ?_
    exact fin (BI.Entails.refl _)) fun _ => ?_
  refine seq (S := fun _ => iprop(St m K c 30 32 32 30 12 ∗ XsD m c 0 ∗ XsD m c 1 ∗ Rq m c s g (FinT c))) (by
    rw [k0_part63_eq_skeleton]
    refine step_wait_abs m K c 7 30 32 32 30 (Nat.le_refl _) (by rfl) ?_
    refine step_wait_abs m K c 8 30 32 32 30 (Nat.le_refl _) (by rfl) ?_
    refine step_wait_abs m K c 9 30 32 32 30 (Nat.le_refl _) (by rfl) ?_
    refine step_wait_abs m K c 10 30 32 32 30 (Nat.le_refl _) (by rfl) ?_
    refine step_wait_abs m K c 11 30 32 32 30 (Nat.le_refl _) (by rfl) ?_
    exact fin (BI.Entails.refl _)) fun _ => ?_
  refine seq (S := fun _ => iprop(St m K c 30 32 32 30 17 ∗ XsD m c 0 ∗ XsD m c 1 ∗ Rq m c s g (FinT c))) (by
    rw [k0_part64_eq_skeleton]
    refine step_wait_abs m K c 12 30 32 32 30 (Nat.le_refl _) (by rfl) ?_
    refine step_wait_abs m K c 13 30 32 32 30 (Nat.le_refl _) (by rfl) ?_
    refine step_wait_abs m K c 14 30 32 32 30 (Nat.le_refl _) (by rfl) ?_
    refine step_wait_abs m K c 15 30 32 32 30 (Nat.le_refl _) (by rfl) ?_
    refine step_wait_abs m K c 16 30 32 32 30 (Nat.le_refl _) (by rfl) ?_
    exact fin (BI.Entails.refl _)) fun _ => ?_
  refine seq (S := fun _ => iprop(St m K c 30 32 32 30 22 ∗ XsD m c 0 ∗ XsD m c 1 ∗ Rq m c s g (FinT c))) (by
    rw [k0_part65_eq_skeleton]
    refine step_wait_abs m K c 17 30 32 32 30 (Nat.le_refl _) (by rfl) ?_
    refine step_wait_abs m K c 18 30 32 32 30 (Nat.le_refl _) (by rfl) ?_
    refine step_wait_abs m K c 19 30 32 32 30 (Nat.le_refl _) (by rfl) ?_
    refine step_wait_abs m K c 20 30 32 32 30 (Nat.le_refl _) (by rfl) ?_
    refine step_wait_abs m K c 21 30 32 32 30 (Nat.le_refl _) (by rfl) ?_
    exact fin (BI.Entails.refl _)) fun _ => ?_
  refine seq (S := fun _ => iprop(St m K c 30 32 32 30 27 ∗ XsD m c 0 ∗ XsD m c 1 ∗ Rq m c s g (FinT c))) (by
    rw [k0_part66_eq_skeleton]
    refine step_wait_abs m K c 22 30 32 32 30 (Nat.le_refl _) (by rfl) ?_
    refine step_wait_abs m K c 23 30 32 32 30 (Nat.le_refl _) (by rfl) ?_
    refine step_wait_abs m K c 24 30 32 32 30 (Nat.le_refl _) (by rfl) ?_
    refine step_wait_abs m K c 25 30 32 32 30 (Nat.le_refl _) (by rfl) ?_
    refine step_wait_abs m K c 26 30 32 32 30 (Nat.le_refl _) (by rfl) ?_
    exact fin (BI.Entails.refl _)) fun _ => ?_
  refine seq (S := fun _ => iprop(St m K c 30 32 32 30 32 ∗ XsD m c 0 ∗ XsD m c 1 ∗ Rq m c s g (FinT c))) (by
    rw [k0_part67_eq_skeleton]
    refine step_wait_abs m K c 27 30 32 32 30 (Nat.le_refl _) (by rfl) ?_
    refine step_wait_abs m K c 28 30 32 32 30 (Nat.le_refl _) (by rfl) ?_
    refine step_wait_abs m K c 29 30 32 32 30 (Nat.le_refl _) (by rfl) ?_
    refine step_wait_abs m K c 30 30 32 32 30 (Nat.le_refl _) (by rfl) ?_
    refine step_wait_abs m K c 31 30 32 32 30 (Nat.le_refl _) (by rfl) ?_
    exact fin (BI.Entails.refl _)) fun _ => ?_
  refine re (P' := iprop(Core m K c 35 ∗ Sg m c 35 ∗ Sg m c 36 ∗ Sg m c 37 ∗ crd c .fin 3 ∗ pos0 c .fin ∗ pos1 c .bar
      ∗ bigSep Finset.univ (Mst (F := F) c 30 30) ∗ bigSep Finset.univ (Sst m c 30 32 32 30 32)
      ∗ XsD m c 0 ∗ XsD m c 1 ∗ XD m c 0 ∗ XD m c 1 ∗ pv c keepM fullShare (K5 m c) ∗ gamP c s g ∗ pv c sendM fullShare (K6 m c)
      ∗ In0 m c ∗ In1 m c)) (by
    rw [show Sg m c 35 = iprop(tok (partner c) .fin 0 ∗ emp ∗ rch (partner c) .fin) from rfl,
      show Sg m c 36 = iprop(tok (right c) .fin 2 ∗ emp ∗ rch (right c) .fin) from rfl,
      show Sg m c 37 = iprop(tok (left c) .fin 1 ∗ emp ∗ rch (left c) .fin) from rfl]
    unfold St Rq FinR FinT Core
    iintro ⟨⟨A, B, C, D⟩, E, G, H, I, J, X, T, Y, N0, N1, ⟨PB, FP, FR, FL⟩, ⟨CF, PF, T0, T1, T2⟩⟩
    iframe) ?_
  refine step_sig m K c 35 (.inr rfl) (Fin.ext (devP c)) rfl ?_
  refine step_sig m K c 36 (.inr rfl) (Fin.ext (devR c)) rfl ?_
  refine step_sig m K c 37 (.inr rfl) (Fin.ext (devL c)) rfl ?_
  refine step_three m K c .fin (.inr rfl) 38 (fun i hi => absurd i.isLt (by omega)) rfl ?_
  refine fin ?_
  unfold Done
  simp only [fin_pay]
  iintro ⟨A, B, -, -, -, C⟩
  iframe

end Cert.Proof
-- ==== Proof.Cells.lean ====
/- A device's own semaphores, opened when its region begins and closed when it ends. -/
module

public import proofs.«01_k».proof.Proof.Tail

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- The semaphores of the region: all but the barrier's. -/
abbrev Own : Type := Unit ⊕ Fin 2 ⊕ Fin 2 ⊕ Fin 2 ⊕ Fin 30 ⊕ Fin 32 ⊕ Fin 32
def ownCel : Own → Cel
  | .inl _ => .fin
  | .inr (.inl s) => .inn s
  | .inr (.inr (.inl s)) => .xs s
  | .inr (.inr (.inr (.inl s))) => .xr s
  | .inr (.inr (.inr (.inr (.inl n)))) => .sd n
  | .inr (.inr (.inr (.inr (.inr (.inl j))))) => .rv j
  | .inr (.inr (.inr (.inr (.inr (.inr j))))) => .st j
def celOwn : Cel → Own
  | .bar => .inl ()
  | .fin => .inl ()
  | .inn s => .inr (.inl s)
  | .xs s => .inr (.inr (.inl s))
  | .xr s => .inr (.inr (.inr (.inl s)))
  | .sd n => .inr (.inr (.inr (.inr (.inl n))))
  | .rv j => .inr (.inr (.inr (.inr (.inr (.inl j)))))
  | .st j => .inr (.inr (.inr (.inr (.inr (.inr j)))))
theorem celOwn_ownCel (k : Own) : celOwn (ownCel k) = k := by
  rcases k with _ | _ | _ | _ | _ | _ | _ <;> rfl
theorem ownCel_celOwn (k : Cel) (h : k ≠ .bar) : ownCel (celOwn k) = k := by
  cases k <;> first | rfl | exact absurd rfl h
instance : DecidableEq Own := fun a b =>
  decidable_of_iff (ownCel a = ownCel b) ⟨fun h => by rw [← celOwn_ownCel a, h, celOwn_ownCel], congrArg ownCel⟩
theorem ownCel_ne (k : Own) : ownCel k ≠ .bar := by
  rcases k with _ | _ | _ | _ | _ | _ | _ <;> exact fun h => by cases h
def osem (k : Own) : SemLoc sig := semOf (ownCel k)
theorem osem_inj : Function.Injective osem := fun k k' h => by
  have := congrArg celOwn (semOf_inj h); rwa [celOwn_ownCel, celOwn_ownCel] at this

theorem osem_facts : Pipeline.OwnSemFacts spec0 osem where
  isScoped k := by revert k; decide +kernel
  inj := osem_inj
  disj k w s := by revert k w s; decide +kernel

theorem own_split (Φ : Cel → sProp 𝕄) : bigSep Finset.univ (fun k : Own => Φ (ownCel k))
    = iprop(Φ .fin ∗ bigSep Finset.univ (fun s => Φ (.inn s)) ∗ bigSep Finset.univ (fun s => Φ (.xs s)) ∗ bigSep Finset.univ (fun s => Φ (.xr s))
      ∗ bigSep Finset.univ (fun n => Φ (.sd n)) ∗ bigSep Finset.univ (fun j => Φ (.rv j)) ∗ bigSep Finset.univ (fun j => Φ (.st j))) := by
  rw [bigSep_univ_sum, bigSep_univ_sum, bigSep_univ_sum, bigSep_univ_sum, bigSep_univ_sum, bigSep_univ_sum]
  rw [bigSep_univ_eq_bigSepL [()] (by decide) (by decide)]
  rfl

/-- Every semaphore of the region, opened. -/
theorem open_all (c : Dev nD) :
    iprop(Invs m K ∗ bigSep Finset.univ (fun k : Own => openTok ER (cel c (ownCel k))) ∗ Pipeline.ownSems0 osem c)
      ⊢ (|={Set.univ}=> bigSep Finset.univ fun k : Own => iprop(pos0 c (ownCel k) ∗ rch c (ownCel k)) : sProp 𝕄) := by
  unfold Pipeline.ownSems0
  rw [← bigSep_sep' Finset.univ (fun k : Own => (openTok ER (cel c (ownCel k)) : sProp 𝕄)) (fun k : Own => semVal ((c.tc : Thread nD τ), osem k) 0)]
  refine BI.Entails.trans ?_ (bigSep_fupd Finset.univ _)
  refine bigSep_with_persistent fun k _ => ?_
  refine (BI.Laws.sep_mono (Invs_cel m K c (ownCel k)) (BI.Entails.refl _)).trans ?_
  exact Rounds.cell_open ER (sched m) (g := cel c (ownCel k)) (Set.mem_univ _)

/-- How far a semaphore of the region has come at the end. -/
def endRound (c : Dev nD) : Cel → ℕ
  | .rv j => if 2 ≤ (rel c j).val then 0 + 1 else 0
  | _ => 0 + 1

theorem close_all (c : Dev nD) :
    iprop(Invs m K ∗ bigSep Finset.univ (fun k : Own => atPos ER (cel c (ownCel k)) (endRound c (ownCel k)) ∅ 0))
      ⊢ (|={Set.univ}=> Pipeline.ownSems0 osem c : sProp 𝕄) := by
  unfold Pipeline.ownSems0
  refine BI.Entails.trans ?_ (bigSep_fupd Finset.univ _)
  refine bigSep_with_persistent fun k _ => ?_
  refine (BI.Laws.sep_mono (Invs_cel m K c (ownCel k)) (BI.Entails.refl _)).trans ?_
  refine Rounds.cell_close ER (sched m) (g := cel c (ownCel k)) (Set.mem_univ _) id ?_
  rcases k with _ | _ | _ | _ | _ | j | _
  case inr.inr.inr.inr.inr.inl =>
    show ∀ r, (if 2 ≤ (rel c j).val then 0 + 1 else 0) ≤ r → (sched (F := F) m).duties (cel c (.rv j)) r = ∅
    split
    · exact duties_later m _
    · exact duties_idle m c j (by omega)
  all_goals exact duties_later m _

theorem close_bar (c : Dev nD) : iprop(Invs m K ∗ pos1 c .bar) ⊢ (|={Set.univ}=> semVal (cel c .bar) 0 : sProp 𝕄) :=
  (BI.Laws.sep_mono (Invs_cel m K c .bar) (BI.Entails.refl _)).trans
    (Rounds.cell_close ER (sched m) (g := cel c .bar) (Set.mem_univ _) id (duties_later m _))

/-! ## The cells as families -/

def barEmb : Dev nD ↪ GSem nD τ sig := ⟨fun c => cel c .bar, fun _ _ h => congrArg (fun g : GSem nD τ sig => g.1.1) h⟩
def ownEmb : Dev nD × Own ↪ GSem nD τ sig := ⟨fun x => cel x.1 (ownCel x.2), fun _ _ h =>
  Prod.ext (congrArg (fun g : GSem nD τ sig => g.1.1) h) (osem_inj (congrArg Prod.snd h))⟩

theorem semOf_celOf (sm : SemLoc sig) (k : Cel) (h : celOf sm = some k) : semOf k = sm := by
  have : ∀ k ∈ celOf sm, semOf k = sm := by clear h; revert sm; decide +kernel
  exact this k h

theorem cellsOpen_eq : cellsOpen = Finset.univ.map barEmb := by
  ext g
  constructor
  · intro h
    obtain ⟨-, h1, h2⟩ := Finset.mem_filter.mp h
    obtain ⟨⟨c, p⟩, sm⟩ := g
    obtain rfl : p = .tc := h1
    exact Finset.mem_map.mpr ⟨c, Finset.mem_univ _, Prod.ext rfl (semOf_celOf sm .bar h2)⟩
  · intro h
    obtain ⟨c, -, rfl⟩ := Finset.mem_map.mp h
    exact mem_open c
theorem cellsShut_eq : cellsShut = Finset.univ.map ownEmb := by
  ext g
  constructor
  · intro h
    obtain ⟨-, h1, h2, h3⟩ := Finset.mem_filter.mp h
    obtain ⟨⟨c, p⟩, sm⟩ := g
    obtain rfl : p = .tc := h1
    obtain ⟨k, hk⟩ := Option.isSome_iff_exists.mp h2
    have hne : k ≠ .bar := fun e => h3 (e ▸ hk)
    refine Finset.mem_map.mpr ⟨(c, celOwn k), Finset.mem_univ _, Prod.ext rfl ?_⟩
    show semOf (ownCel (celOwn k)) = sm
    rw [ownCel_celOwn k hne]; exact semOf_celOf sm k hk
  · intro h
    obtain ⟨x, -, rfl⟩ := Finset.mem_map.mp h
    exact mem_shut x.1 _ (ownCel_ne x.2)
theorem cells_disjoint : Disjoint cellsOpen cellsShut := by
  rw [Finset.disjoint_left]
  intro g h h'
  exact (Finset.mem_filter.mp h').2.2.2 (Finset.mem_filter.mp h).2.2

theorem open_sep (Φ : GSem nD τ sig → sProp 𝕄) : bigSep cellsOpen Φ = bigSep Finset.univ fun c : Dev nD => Φ (cel c .bar) := by
  rw [cellsOpen_eq, bigSep_map]; rfl
theorem shut_sep (Φ : GSem nD τ sig → sProp 𝕄) :
    bigSep cellsShut Φ = bigSep Finset.univ fun c : Dev nD => bigSep Finset.univ fun k : Own => Φ (cel c (ownCel k)) := by
  rw [cellsShut_eq, bigSep_map, bigSep_univ_prod]; rfl

end Cert.Proof
-- ==== Proof.Tokens.lean ====
/- What the launch deals each device: the tokens it pays with, and the credit its waits use. -/
module

public import proofs.«01_k».proof.Proof.Cells

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## Who pays what -/

/-- The device, and the place in its list, that owes a given payment. -/
def owedInv (x : Dev nD × Cel × Fin 3) : Dev nD × Fin 38 :=
  match x with
  | (c, .bar, d) => if d = 0 then (partner c, 0) else if d = 1 then (right c, 2) else (left c, 1)
  | (c, .fin, d) => if d = 0 then (partner c, 35) else if d = 1 then (right c, 37) else (left c, 36)
  | (c, .xr s, _) => (partner c, ⟨3 + s.val, by omega⟩)
  | (c, .rv j, _) =>
    if h : (rel c j).val - 2 < 30 then (fr c ⟨(rel c j).val - 2, h⟩, ⟨5 + ((rel c j).val - 2), by omega⟩) else (c, 0)
  | (c, _, _) => (c, 0)

theorem owedInv_owed (c : Dev nD) (i : Fin 38) : owedInv (owed c i) = (c, i) := by revert c i; decide +kernel

/-- The cells other devices pay into. -/
def paid : Cel → Bool
  | .bar => true
  | .fin => true
  | .xr _ => true
  | .rv _ => true
  | _ => false
theorem paid_owed (c : Dev nD) (i : Fin 38) : paid (owed c i).2.1 = true := by revert c i; decide +kernel
theorem owed_dts (c : Dev nD) (i : Fin 38) : (owed c i).2.2 ∈ dts (owed c i).1 (owed c i).2.1 := by revert c i; decide +kernel

theorem owed_owedInv (c : Dev nD) (k : Cel) (d : Fin 3) (hk : paid k = true) (hd : d ∈ dts c k) :
    owed (owedInv (c, k, d)).1 (owedInv (c, k, d)).2 = (c, k, d) := by
  cases k with
  | bar => clear hk hd; revert c d; decide +kernel
  | fin => clear hk hd; revert c d; decide +kernel
  | xr s => clear hk; revert c s d; decide +kernel
  | rv j => clear hk; revert c j d; decide +kernel
  | inn s => cases hk
  | xs s => cases hk
  | sd s => cases hk
  | st s => cases hk

/-! ## The tokens -/

/-- The payments a device makes into its own cells, -/
abbrev Self : Type := Fin 2 ⊕ Fin 2 ⊕ Fin 30 ⊕ Fin 32
/-- and those it makes into others'. -/
abbrev Others : Type := Fin 5 ⊕ Fin 30 ⊕ Fin 3

def selfCel : Self → Cel
  | .inl s => .inn s
  | .inr (.inl s) => .xs s
  | .inr (.inr (.inl n)) => .sd n
  | .inr (.inr (.inr j)) => .st j
def othersIx : Others → Fin 38
  | .inl i => ⟨i.val, by omega⟩
  | .inr (.inl n) => ⟨5 + n.val, by omega⟩
  | .inr (.inr i) => ⟨35 + i.val, by omega⟩
theorem selfCel_inj : Function.Injective selfCel := fun a b h => by
  rcases a with _ | _ | _ | _ <;> rcases b with _ | _ | _ | _ <;> cases h <;> rfl
theorem othersIx_inj : Function.Injective othersIx := fun a b h => by
  have := congrArg Fin.val h
  rcases a with a | a | a <;> rcases b with b | b | b <;> simp only [othersIx] at this <;>
    first | (obtain rfl : a = b := Fin.ext (by omega); rfl) | (exfalso; omega)
theorem self_unpaid (k : Self) : paid (selfCel k) = false := by rcases k with _ | _ | _ | _ <;> rfl

def tkKey (x : Dev nD × (Self ⊕ Others)) : Dev nD × Cel × Fin 3 :=
  match x.2 with
  | .inl k => (x.1, selfCel k, 0)
  | .inr k => owed x.1 (othersIx k)

theorem tkKey_inj : Function.Injective tkKey := by
  rintro ⟨c, k | k⟩ ⟨c', k' | k'⟩ h
  · have h1 : c = c' := congrArg Prod.fst h
    have h2 : selfCel k = selfCel k' := congrArg (fun x => x.2.1) h
    rw [h1, selfCel_inj h2]
  · have : paid (selfCel k) = paid (owed c' (othersIx k')).2.1 := congrArg (fun x : Dev nD × Cel × Fin 3 => paid x.2.1) h
    rw [self_unpaid, paid_owed] at this; cases this
  · have : paid (owed c (othersIx k)).2.1 = paid (selfCel k') := congrArg (fun x : Dev nD × Cel × Fin 3 => paid x.2.1) h
    rw [self_unpaid, paid_owed] at this; cases this
  · have := congrArg owedInv (show owed c (othersIx k) = owed c' (othersIx k') from h)
    rw [owedInv_owed, owedInv_owed] at this
    obtain ⟨e1, e2⟩ := Prod.mk.inj this
    rw [e1, othersIx_inj e2]

theorem cel_inj {c c' : Dev nD} {k k' : Cel} (h : cel c k = cel c' k') : c = c' ∧ k = k' :=
  ⟨congrArg (fun g : GSem nD τ sig => g.1.1) h, semOf_inj (congrArg Prod.snd h)⟩

def tkEmb : Dev nD × (Self ⊕ Others) ↪ GSem nD τ sig × ℕ × Fin 3 :=
  ⟨fun x => (cel (tkKey x).1 (tkKey x).2.1, 0, (tkKey x).2.2), fun x y h => by
    have h1 := cel_inj (congrArg Prod.fst h)
    exact tkKey_inj (Prod.ext h1.1 (Prod.ext h1.2 (congrArg (fun z => z.2.2) h)))⟩

def toks : Finset (GSem nD τ sig × ℕ × Fin 3) := Finset.univ.map tkEmb

/-- A device's tokens. -/
def Toks (c : Dev nD) : sProp 𝕄 :=
  iprop(bigSep Finset.univ (fun k : Self => tok c (selfCel k) 0)
    ∗ bigSep Finset.univ (fun k : Others => tok (owed c (othersIx k)).1 (owed c (othersIx k)).2.1 (owed c (othersIx k)).2.2))

theorem toks_sep : bigSep toks (fun x => dutyTok ER x.1 x.2.1 x.2.2) = (bigSep Finset.univ (Toks (F := F)) : sProp 𝕄) := by
  unfold toks
  rw [bigSep_map, bigSep_univ_prod]
  refine bigSep_congr fun c _ => ?_
  exact bigSep_univ_sum _

theorem Toks_elim (c : Dev nD) : Toks (F := F) c = iprop(
    (bigSep Finset.univ (fun s => tok c (.inn s) 0) ∗ bigSep Finset.univ (fun s => tok c (.xs s) 0)
      ∗ bigSep Finset.univ (fun n => tok c (.sd n) 0) ∗ bigSep Finset.univ (fun j => tok c (.st j) 0))
    ∗ bigSep Finset.univ (fun i : Fin 5 => tok (owed c ⟨i.val, by omega⟩).1 (owed c ⟨i.val, by omega⟩).2.1 (owed c ⟨i.val, by omega⟩).2.2)
    ∗ bigSep Finset.univ (fun n : Fin 30 => tok (nb c n) (.rv (ab c (src n))) 0)
    ∗ bigSep Finset.univ (fun i : Fin 3 => tok (owed c ⟨35 + i.val, by omega⟩).1 (owed c ⟨35 + i.val, by omega⟩).2.1 (owed c ⟨35 + i.val, by omega⟩).2.2)) := by
  unfold Toks
  rw [bigSep_univ_sum, bigSep_univ_sum, bigSep_univ_sum, bigSep_univ_sum, bigSep_univ_sum]
  rw [show (fun n : Fin 30 => (tok (nb c n) (.rv (ab c (src n))) 0 : sProp 𝕄))
    = fun n => tok (owed c ⟨5 + n.val, by omega⟩).1 (owed c ⟨5 + n.val, by omega⟩).2.1 (owed c ⟨5 + n.val, by omega⟩).2.2 from
      funext fun n => by rw [owed_msg]]
  rfl

/-! ## The credit -/

theorem due_apply (c d : Dev nD) (i : Fin 38) (k : Cel) :
    due d i (cel c k) () = if (owed d i).1 = c ∧ (owed d i).2.1 = k then amt k else 0 := by
  unfold due tallyAt tallyOn
  by_cases h : (owed d i).1 = c ∧ (owed d i).2.1 = k
  · rw [if_pos h, h.1, h.2, Pi.single_eq_same, Finsupp.single_eq_same]
  · rw [if_neg h, Pi.single_eq_of_ne (fun e => h ⟨(cel_inj e).1.symm, (cel_inj e).2.symm⟩)]; rfl

theorem credit_total (c : Dev nD) (k : Cel) (hk : paid k = true) : ∑ d : Dev nD, O d 0 (cel c k) () = (dts c k).card * amt k := by
  have h1 : ∀ d : Dev nD, O d 0 (cel c k) () = ∑ i : Fin 38, if (owed d i).1 = c ∧ (owed d i).2.1 = k then amt k else 0 := fun d => by
    unfold O
    rw [Finset.filter_true_of_mem (fun _ _ => Nat.zero_le _), Finset.sum_apply, Finsupp.finset_sum_apply]
    exact Finset.sum_congr rfl fun i _ => due_apply c d i k
  rw [Finset.sum_congr rfl fun d _ => h1 d, ← Fintype.sum_prod_type', ← Finset.sum_filter, Finset.sum_const, smul_eq_mul]
  congr 1
  refine Eq.symm (Finset.card_bij (fun d _ => owedInv (c, k, d)) (fun d hd => ?_) (fun d hd d' hd' h => ?_) (fun x hx => ?_))
  · have := owed_owedInv c k d hk hd
    exact Finset.mem_filter.mpr ⟨Finset.mem_univ _, congrArg Prod.fst this, congrArg (fun x => x.2.1) this⟩
  · have h1 := owed_owedInv c k d hk hd
    have h2 := owed_owedInv c k d' hk hd'
    rw [h, h2] at h1
    exact (congrArg (fun x => x.2.2) h1).symm
  · obtain ⟨-, e1, e2⟩ := Finset.mem_filter.mp hx
    refine ⟨(owed x.1 x.2).2.2, by have := owed_dts x.1 x.2; rwa [e1, e2] at this, ?_⟩
    show owedInv (c, k, (owed x.1 x.2).2.2) = x
    rw [← e1, ← e2]; exact owedInv_owed x.1 x.2

theorem crd_of (c : Dev nD) (k : Cel) (hk : paid k = true) (n : ℕ) (hn : (dts c k).card * amt k = n) :
    (cred (tallyOn ((c.tc : Thread nD τ), semOf k) (launchCredit (Pipeline.owing fun d => O d 0) 0 ((c.tc : Thread nD τ), semOf k))) : sProp 𝕄)
      = crd c k n := by
  show (cred (tallyOn (cel c k) (launchCredit (Pipeline.owing fun d => O d 0) 0 (cel c k))) : sProp 𝕄) = cred (tallyOn (cel c k) (Finsupp.single () n))
  congr 2
  refine Finsupp.ext fun i => ?_
  obtain rfl : i = () := rfl
  rw [Pipeline.launchCredit_owing, credit_total c k hk, hn, Finsupp.single_eq_same]

abbrev Waited : Type := Unit ⊕ Unit ⊕ Fin 2 ⊕ Fin 30
def waitedCel (c : Dev nD) : Waited → Cel
  | .inl _ => .bar
  | .inr (.inl _) => .fin
  | .inr (.inr (.inl s)) => .xr s
  | .inr (.inr (.inr n)) => .rv (ab c (dst n))
theorem dst_inj {n n' : Fin 30} (h : dst n = dst n') : n = n' := by
  have : n.val + 2 = n'.val + 2 := congrArg Fin.val h
  exact Fin.ext (by omega)
def waitedEmb (c : Dev nD) : Waited ↪ SemLoc sig := ⟨fun k => semOf (waitedCel c k), fun a b h => by
  have h := semOf_inj h
  rcases a with _ | _ | _ | a <;> rcases b with _ | _ | _ | b <;> simp only [waitedCel] at h <;> try cases h
  · rfl
  · rfl
  · rfl
  · rw [dst_inj (ab_inj c (Cel.rv.inj h))]⟩

theorem crds (c : Dev nD) : (Pipeline.launchCred (fun d => O d 0) c : sProp 𝕄)
    ⊢ iprop(crd c .bar 3 ∗ crd c .fin 3 ∗ bigSep Finset.univ (fun s : Fin 2 => crd c (.xr s) (amt (.xr s)))
      ∗ bigSep Finset.univ (fun n : Fin 30 => crd c (.rv (ab c (dst n))) NR)) := by
  unfold Pipeline.launchCred
  refine (bigSep_subset (Finset.subset_univ (Finset.univ.map (waitedEmb c)))).trans ?_
  rw [bigSep_map, bigSep_univ_sum, bigSep_univ_sum, bigSep_univ_sum]
  rw [bigSep_univ_eq_bigSepL [()] (by decide) (by decide), bigSep_univ_eq_bigSepL [()] (by decide) (by decide)]
  refine BI.Laws.sep_mono (Entails.of_eq (crd_of c .bar rfl 3 rfl)) (BI.Laws.sep_mono (Entails.of_eq (crd_of c .fin rfl 3 rfl)) (BI.Laws.sep_mono ?_ ?_))
  · exact bigSep_mono fun s _ => Entails.of_eq (crd_of c (.xr s) rfl _ (by show 1 * amt (.xr s) = amt (.xr s); rw [one_mul]))
  · exact bigSep_mono fun n _ => Entails.of_eq (crd_of c (.rv (ab c (dst n))) rfl _ (by
      rw [dts_rv c (dst n) (by show 2 ≤ n.val + 2; omega)]; show 1 * NR = NR; rw [one_mul]))

end Cert.Proof
-- ==== Proof.Split.lean ====
/- Buffers cut into the pieces the protocol passes around, and joined again. -/
module

public import proofs.«01_k».proof.Proof.Tail
public import Idealize.ShloMosaic.Lib.Ring

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## Which elements the pieces are -/

def slotSet (j : Fin 32) : Finset S32x128x4096.Idx := (slotM j).view.set
def rowsSet (j : Fin 32) : Finset S4096x4096.Idx := (rowsM j).view.set
theorem mem_slot (j : Fin 32) (i : S32x128x4096.Idx) : i ∈ slotSet j ↔ i 0 = j := by
  rw [show slotSet j = (Rect.unit (s := S32x128x4096) ![j.val, 0, 0] S1x128x4096.size (inb_ring j)).set from
    (View.set_reshape _ _).trans (View.set_slice_whole _ _)]
  rw [Rect.mem_set_unit]
  have h1 : (i 1).val < 128 := (i 1).isLt
  have h2 : (i 2).val < 4096 := (i 2).isLt
  constructor
  · intro h
    have := h 0
    exact Fin.ext (Nat.le_antisymm (Nat.lt_succ_iff.mp this.2) this.1)
  · rintro rfl a
    match a with
    | ⟨0, _⟩ => exact ⟨Nat.le_refl _, Nat.lt_succ_self _⟩
    | ⟨1, _⟩ => exact ⟨Nat.zero_le _, by show (i 1).val < 0 + 128; omega⟩
    | ⟨2, _⟩ => exact ⟨Nat.zero_le _, by show (i 2).val < 0 + 4096; omega⟩

theorem mem_rows (j : Fin 32) (i : S4096x4096.Idx) : i ∈ rowsSet j ↔ (i 0).val / 128 = j.val := by
  rw [show rowsSet j = (Rect.unit (s := S4096x4096) ![128 * j.val, 0] S128x4096.size (inb_out j)).set from View.set_slice_whole _ _]
  rw [Rect.mem_set_unit]
  have h1 : (i 1).val < 4096 := (i 1).isLt
  constructor
  · intro h
    have h0 : 128 * j.val ≤ (i 0).val ∧ (i 0).val < 128 * j.val + 128 := h 0
    omega
  · intro h a
    match a with
    | ⟨0, _⟩ => show 128 * j.val ≤ (i 0).val ∧ (i 0).val < 128 * j.val + 128; omega
    | ⟨1, _⟩ => exact ⟨Nat.zero_le _, by show (i 1).val < 0 + 4096; omega⟩

theorem mem_half (s : Fin 2) (i : S2x128x4096.Idx) :
    i ∈ (Rect.unit (s := S2x128x4096) ![s.val, 0, 0] S1x128x4096.size (inb_two s)).set ↔ i 0 = s := by
  rw [Rect.mem_set_unit]
  have h1 : (i 1).val < 128 := (i 1).isLt
  have h2 : (i 2).val < 4096 := (i 2).isLt
  constructor
  · intro h
    have := h 0
    exact Fin.ext (Nat.le_antisymm (Nat.lt_succ_iff.mp this.2) this.1)
  · rintro rfl a
    match a with
    | ⟨0, _⟩ => exact ⟨Nat.le_refl _, Nat.lt_succ_self _⟩
    | ⟨1, _⟩ => exact ⟨Nat.zero_le _, by show (i 1).val < 0 + 128; omega⟩
    | ⟨2, _⟩ => exact ⟨Nat.zero_le _, by show (i 2).val < 0 + 4096; omega⟩

def xsSet (s : Fin 2) : Finset S2x128x4096.Idx := (xsH s).view.set
def xrSet (s : Fin 2) : Finset S2x128x4096.Idx := (xrH s).view.set
theorem mem_xs (s : Fin 2) (i : S2x128x4096.Idx) : i ∈ xsSet s ↔ i 0 = s := by
  rw [show xsSet s = _ from (View.set_reshape _ _).trans (View.set_slice_whole _ _)]; exact mem_half s i
theorem mem_xr (s : Fin 2) (i : S2x128x4096.Idx) : i ∈ xrSet s ↔ i 0 = s := by
  rw [show xrSet s = _ from (View.set_reshape _ _).trans (View.set_slice_whole _ _)]; exact mem_half s i

/-! ## Whole buffers and their pieces -/

/-- A buffer whose elements are told apart by a key is held piece by piece, one piece for each key. -/
theorem pieces {ℓ : Loc nD τ sig} {n : ℕ} (I : Fin n → Finset (Idx ℓ)) (key : Idx ℓ → Fin n) (h : ∀ j i, i ∈ I j ↔ key i = j)
    (f : Buf (Elt F) ℓ) : (ℓ ↦{fullShare} f : sProp 𝕄) = bigSep Finset.univ fun j => ℓ ↦[I j]{fullShare} f :=
  Ring.pointsTo_blocks I
    (fun b b' hb => Finset.disjoint_left.mpr fun i hi hi' => hb (((h b i).mp hi).symm.trans ((h b' i).mp hi')))
    (Finset.eq_univ_of_forall fun i => Finset.mem_biUnion.mpr ⟨key i, Finset.mem_univ _, (h (key i) i).mpr rfl⟩) f

theorem ring_pieces (c : Dev nD) (f : Buf (Elt F) ((c : Thread nD τ).loc cc0_scratch4)) :
    (((c : Thread nD τ).loc cc0_scratch4) ↦{fullShare} f : sProp 𝕄) = bigSep Finset.univ fun j => pv c (slotM j) fullShare f :=
  pieces (ℓ := (c : Thread nD τ).loc cc0_scratch4) (fun j => slotSet j) (fun i : S32x128x4096.Idx => (i 0 : Fin 32)) mem_slot f

theorem out_pieces (c : Dev nD) (f : Buf (Elt F) ((c : Thread nD τ).loc main_v50)) :
    (((c : Thread nD τ).loc main_v50) ↦{fullShare} f : sProp 𝕄) = bigSep Finset.univ fun j => pv c (rowsM j) fullShare f :=
  pieces (ℓ := (c : Thread nD τ).loc main_v50) (fun j => rowsSet j)
    (fun i : S4096x4096.Idx => (⟨(i 0).val / 128, by have h : (i 0).val < 4096 := (i 0).isLt; omega⟩ : Fin 32))
    (fun j i => (mem_rows j i).trans ⟨fun h => Fin.ext h, fun h => congrArg Fin.val h⟩) f

theorem xs_pieces (c : Dev nD) (f : Buf (Elt F) ((c : Thread nD τ).loc cc0_scratch2)) :
    (((c : Thread nD τ).loc cc0_scratch2) ↦{fullShare} f : sProp 𝕄) = bigSep Finset.univ fun s => pv c (xsH s) fullShare f :=
  pieces (ℓ := (c : Thread nD τ).loc cc0_scratch2) (fun j => xsSet j) (fun i : S2x128x4096.Idx => (i 0 : Fin 2)) mem_xs f

theorem xr_pieces (c : Dev nD) (f : Buf (Elt F) ((c : Thread nD τ).loc cc0_scratch3)) :
    (((c : Thread nD τ).loc cc0_scratch3) ↦{fullShare} f : sProp 𝕄) = bigSep Finset.univ fun s => pv c (xrH s) fullShare f :=
  pieces (ℓ := (c : Thread nD τ).loc cc0_scratch3) (fun j => xrSet j) (fun i : S2x128x4096.Idx => (i 0 : Fin 2)) mem_xr f

def inSet (x : Fin 2) (p : Fin 16) : Finset S2x4096x4096.Idx := (inM x p).view.set
theorem in_disjoint (x y : Fin 2) (p q : Fin 16) (hxy : x ≠ y) : Disjoint (inSet x p) (inSet y q) := by
  have hs : ∀ x p, inSet x p = (Rect.unit (s := S2x4096x4096) ![x.val, 256 * p.val, 0] S1x256x4096.size (inb_in x p)).set :=
    fun x p => (View.set_reshape _ _).trans (View.set_slice_whole _ _)
  have h0 : ∀ x p (i : S2x4096x4096.Idx), i ∈ inSet x p → i 0 = x := fun x p i hi => by
    rw [hs, Rect.mem_set_unit] at hi
    have := hi 0
    exact Fin.ext (Nat.le_antisymm (Nat.lt_succ_iff.mp this.2) this.1)
  exact Finset.disjoint_left.mpr fun i hi hi' => hxy ((h0 _ _ i hi).symm.trans (h0 _ _ i hi'))

/-- The operand's rows a device reads, out of the whole operand. -/
theorem in_pieces (c : Dev nD) (x y : Fin 2) (p : Fin 16) (hxy : x ≠ y) (f : Buf (Elt F) ((c : Thread nD τ).loc main_v1)) :
    (((c : Thread nD τ).loc main_v1) ↦{fullShare} f : sProp 𝕄)
      ⊢ iprop(pv c (inM x p) fullShare f ∗ pv c (inM y p) fullShare f) := by
  refine (pointsTo_split_subset (ℓ := (c : Thread nD τ).loc main_v1) (Finset.subset_univ (inSet x p ∪ inSet y p))).1.trans ?_
  refine BI.Laws.sep_elim_left.trans ?_
  exact (pointsTo_union (ℓ := (c : Thread nD τ).loc main_v1) (in_disjoint x y p p hxy)).1

end Cert.Proof
-- ==== Proof.Enter.lean ====
/- What the region is given, put into the shape the device program starts from. -/
module

public import proofs.«01_k».proof.Proof.Tokens
public import proofs.«01_k».proof.Proof.Split

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## The slots, counted from the device's own -/

def e32 : Fin 2 ⊕ Fin 30 ≃ Fin 32 := finSumFinEquiv
theorem split32 (Φ : Fin 32 → sProp 𝕄) : bigSep Finset.univ Φ
    = iprop(bigSep Finset.univ (fun s : Fin 2 => Φ (s.castLE (by decide))) ∗ bigSep Finset.univ (fun n : Fin 30 => Φ (dst n))) := by
  rw [bigSep_univ_equiv e32, bigSep_univ_sum]
  rw [show (fun n : Fin 30 => Φ (dst n)) = fun n => Φ (e32 (.inr n)) from
    funext fun n => congrArg Φ (Fin.ext (by show n.val + 2 = 2 + n.val; omega))]
  rfl
theorem by_ab (c : Dev nD) (Φ : Fin 32 → sProp 𝕄) : bigSep Finset.univ Φ = bigSep Finset.univ fun r => Φ (ab c r) :=
  bigSep_univ_equiv (abEquiv c) Φ

theorem split_odd (Φ : Fin 30 → sProp 𝕄) : bigSep Finset.univ Φ
    = iprop(bigSep (Finset.univ.filter fun n => odd n = false) Φ ∗ bigSep (Finset.univ.filter fun n => odd n = true) Φ) := by
  rw [show (Finset.univ : Finset (Fin 30)) = (Finset.univ.filter fun n => odd n = false) ∪ (Finset.univ.filter fun n => odd n = true) from by decide +kernel]
  exact bigSep_union (by decide +kernel)

/-- A slot of the device's own, and that its cell is open: what it lets the sender of message `n` have. -/
def ownSlot (c : Dev nD) (n : Fin 30) : sProp 𝕄 := iprop(pvE c (slotM (ab c (dst n))) ∗ rch c (.rv (ab c (dst n))))
theorem peer_own (c : Dev nD) (n : Fin 30) : peerSlot (F := F) (fr c n) n = ownSlot c n := by
  unfold peerSlot ownSlot
  rw [← ab_src, nb_fr]
theorem fr_even (c : Dev nD) (n : Fin 30) (h : odd n = false) : fr c n = left c := by
  revert c n; decide +kernel
theorem fr_odd (c : Dev nD) (n : Fin 30) (h : odd n = true) : fr c n = right c := by
  revert c n; decide +kernel
theorem own_dirs (c : Dev nD) : bigSep Finset.univ (ownSlot (F := F) c) = iprop(dirSlots (left c) false ∗ dirSlots (right c) true) := by
  rw [split_odd]
  unfold dirSlots
  rw [bigSep_congr (Ψ := peerSlot (left c)) (s := Finset.univ.filter fun n => odd n = false) fun n hn => by
      rw [← peer_own, fr_even c n (Finset.mem_filter.mp hn).2],
    bigSep_congr (Ψ := peerSlot (right c)) (s := Finset.univ.filter fun n => odd n = true) fun n hn => by
      rw [← peer_own, fr_odd c n (Finset.mem_filter.mp hn).2]]

theorem fin_two (Φ : Fin 2 → sProp 𝕄) : bigSep Finset.univ Φ = iprop(Φ 0 ∗ Φ 1) := bigSep_fin_two _
theorem pvE_all {B : Type} [Fintype B] {sp : Space} {s : Shape} {e : EltTy} (c : Dev nD) (M : B → Memref sig .tc sp s e)
    (f : (b : B) → Buf (Elt F) ((M b).view.loc (c : Thread nD τ))) :
    bigSep Finset.univ (fun b => pv c (M b) fullShare (f b)) ⊢ (bigSep Finset.univ fun b => pvE c (M b) : sProp 𝕄) :=
  bigSep_mono fun b _ => by
    show pv c (M b) fullShare (f b) ⊢ (pvE c (M b) : sProp 𝕄)
    unfold pvE; iintro H; iexists (f b); iexact H

theorem Sst_start (c : Dev nD) (r : Fin 32) : iprop(Vst c 0 r ∗ outIdle c r) ⊢ Sst m c 0 0 0 0 0 r := by
  have hb : ∀ b, Bst m c 0 0 0 r b = iprop(emp) := fun b => by unfold Bst; exact if_neg fun h => absurd h.1 (Nat.not_lt_zero _)
  have ha : Ast m c 0 0 0 r = outIdle c r := by
    unfold Ast; rw [if_neg (Nat.not_lt_zero _), if_neg (Nat.not_lt_zero _)]
  unfold Sst
  rw [hb, hb, ha]
  iintro ⟨A, B⟩
  iframe
  isplitr <;> iempintro

theorem Vst_start (c : Dev nD) :
    iprop(bigSep Finset.univ (fun r => pos0 c (.rv (ab c r))) ∗ bigSep Finset.univ (fun s : Fin 2 => pvE c (slotM (ab c (s.castLE (by decide)))))
      ∗ bigSep Finset.univ (fun n : Fin 30 => crd c (.rv (ab c (dst n))) NR)) ⊢ (bigSep Finset.univ (Vst c 0) : sProp 𝕄) := by
  rw [split32, split32 (Vst c 0)]
  have h1 : iprop(bigSep Finset.univ (fun s : Fin 2 => pos0 c (.rv (ab c (s.castLE (by decide))))) ∗ bigSep Finset.univ (fun s : Fin 2 => pvE c (slotM (ab c (s.castLE (by decide))))))
      ⊢ (bigSep Finset.univ (fun s : Fin 2 => Vst c 0 (s.castLE (by decide))) : sProp 𝕄) := by
    rw [← bigSep_sep']
    refine bigSep_mono fun s _ => ?_
    unfold Vst
    rw [if_pos (show (s.castLE (by decide : 2 ≤ 32)).val < 2 from s.isLt), if_neg (Nat.not_lt_zero _)]
    exact BI.Entails.refl _
  have h2 : iprop(bigSep Finset.univ (fun n : Fin 30 => crd c (.rv (ab c (dst n))) NR) ∗ bigSep Finset.univ (fun n : Fin 30 => pos0 c (.rv (ab c (dst n)))))
      ⊢ (bigSep Finset.univ (fun n : Fin 30 => Vst c 0 (dst n)) : sProp 𝕄) := by
    rw [← bigSep_sep']
    refine bigSep_mono fun n _ => ?_
    unfold Vst
    rw [if_neg (show ¬ (dst n).val < 2 from by show ¬ n.val + 2 < 2; omega), if_neg (Nat.not_lt_zero _)]
    exact BI.Entails.refl _
  iintro ⟨⟨A, B⟩, C, D⟩
  isplitl [A C]
  · iapply h1; iframe
  · iapply h2; iframe

theorem out_start (c : Dev nD) :
    iprop(bigSep Finset.univ (fun j => tok c (.st j) 0) ∗ bigSep Finset.univ (fun j => iprop(pos0 c (.st j) ∗ rch c (.st j)))
      ∗ bigSep Finset.univ (fun j => pvE c (rowsM j))) ⊢ (bigSep Finset.univ (outIdle c) : sProp 𝕄) := by
  rw [← bigSep_sep', ← bigSep_sep', by_ab c]
  refine bigSep_mono fun r _ => ?_
  unfold outIdle
  show _ ⊢ (_ : sProp 𝕄)
  iintro ⟨A, ⟨B, C⟩, D⟩
  iframe

theorem msg_start (c : Dev nD) :
    iprop(bigSep Finset.univ (fun n => tok c (.sd n) 0) ∗ bigSep Finset.univ (fun n => iprop(pos0 c (.sd n) ∗ rch c (.sd n)))
      ∗ bigSep Finset.univ (fun n : Fin 30 => tok (nb c n) (.rv (ab c (src n))) 0)) ⊢ (bigSep Finset.univ (msgOwn c) : sProp 𝕄) := by
  rw [← bigSep_sep', ← bigSep_sep']
  refine bigSep_mono fun n _ => ?_
  unfold msgOwn
  show _ ⊢ (_ : sProp 𝕄)
  iintro ⟨A, ⟨B, C⟩, D⟩
  iframe

theorem slots_start (c : Dev nD) (f : Buf (Elt F) ((c : Thread nD τ).loc cc0_scratch4)) :
    iprop((((c : Thread nD τ).loc cc0_scratch4) ↦{fullShare} f) ∗ bigSep Finset.univ (fun j => iprop(pos0 c (.rv j) ∗ rch c (.rv j))))
      ⊢ (iprop(bigSep Finset.univ (fun r => pos0 c (.rv (ab c r))) ∗ bigSep Finset.univ (fun s : Fin 2 => pvE c (slotM (ab c (s.castLE (by decide)))))
        ∗ dirSlots (left c) false ∗ dirSlots (right c) true) : sProp 𝕄) := by
  rw [← own_dirs, ring_pieces, bigSep_sep']
  refine (BI.Laws.sep_mono (pvE_all c slotM fun _ => f) (BI.Entails.refl _)).trans ?_
  rw [by_ab c (fun j => pvE c (slotM j)), by_ab c (fun j => pos0 c (.rv j)), by_ab c (fun j => rch c (.rv j)),
    split32 (fun r => pvE c (slotM (ab c r))), split32 (fun r => rch c (.rv (ab c r)))]
  rw [show ownSlot (F := F) c = fun n => iprop(pvE c (slotM (ab c (dst n))) ∗ rch c (.rv (ab c (dst n)))) from rfl, bigSep_sep']
  iintro ⟨⟨A, B⟩, C, ⟨D, E⟩⟩
  iframe

theorem pv_whole (b : Ref sig .tc) (c : Dev nD) (q : PosShare TreeShare) (f : Buf (Elt F) ((c : Thread nD τ).loc b)) :
    pv c (Memref.whole b) q f = (((c : Thread nD τ).loc b) ↦{q} f : sProp 𝕄) := by
  show (_ ↦[(View.whole b).set]{q} f) = _
  rw [View.set_whole]
theorem pvE_whole (b : Ref sig .tc) (c : Dev nD) (f : Buf (Elt F) ((c : Thread nD τ).loc b)) :
    (((c : Thread nD τ).loc b) ↦{fullShare} f : sProp 𝕄) ⊢ pvE c (Memref.whole b) := by
  unfold pvE; rw [← pv_whole]; iintro H; iexists f; iexact H

/-! ## The whole start -/

/-- What the launch and the host part leave a device for its region, with the region's own cells already opened. -/
def Given (c : Dev nD) : sProp 𝕄 :=
  iprop(Invs m K ∗ (pos0 c .bar ∗ rch (partner c) .bar ∗ rch (right c) .bar ∗ rch (left c) .bar) ∗ Toks c
    ∗ (crd c .bar 3 ∗ crd c .fin 3 ∗ bigSep Finset.univ (fun s : Fin 2 => crd c (.xr s) (amt (.xr s))) ∗ bigSep Finset.univ (fun n : Fin 30 => crd c (.rv (ab c (dst n))) NR))
    ∗ bigSep Finset.univ (fun k : Own => iprop(pos0 c (ownCel k) ∗ rch c (ownCel k)))
    ∗ (((c : Thread nD τ).loc main_v1) ↦{fullShare} PV m c) ∗ (∃ f, ((c : Thread nD τ).loc main_v50) ↦{fullShare} f))

/-- The scratch buffers at whatever they hold. -/
def Scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))

theorem grp_ne (c : Dev nD) : grp c ≠ 1 - grp c := by revert c; decide +kernel

theorem pay0 (c : Dev nD) : iprop(tok (partner c) .bar 0 ∗ (pvE c (xrH 0) ∗ rch c (.xr 0)) ∗ (pvE c (xrH 1) ∗ rch c (.xr 1)) ∗ rch (partner c) .bar ∗ rch c .fin) ⊢ Sg m c 0 := by
  show _ ⊢ iprop(tok (partner c) .bar 0 ∗ iprop(peerX (partner c) 0 ∗ peerX (partner c) 1 ∗ rch (partner (partner c)) .fin) ∗ rch (partner c) .bar)
  unfold peerX
  rw [partner_partner]
  iintro ⟨A, B, C, D, E⟩
  iframe
theorem pay1 (c : Dev nD) : iprop(tok (right c) .bar 2 ∗ dirSlots (right c) true ∗ rch (right c) .bar ∗ rch c .fin) ⊢ Sg m c 1 := by
  show _ ⊢ iprop(tok (right c) .bar 2 ∗ iprop(dirSlots (right c) true ∗ rch (left (right c)) .fin) ∗ rch (right c) .bar)
  rw [left_right]
  iintro ⟨A, B, C, D⟩
  iframe
theorem pay2 (c : Dev nD) : iprop(tok (left c) .bar 1 ∗ dirSlots (left c) false ∗ rch (left c) .bar ∗ rch c .fin) ⊢ Sg m c 2 := by
  show _ ⊢ iprop(tok (left c) .bar 1 ∗ iprop(dirSlots (left c) false ∗ rch (right (left c)) .fin) ∗ rch (left c) .bar)
  rw [right_left]
  iintro ⟨A, B, C, D⟩
  iframe

set_option maxHeartbeats 1000000 in
theorem enter (c : Dev nD) (s : Fin 1) (g : Buf (Elt F) ((spec0_0.stage s).view.loc (c : Thread nD τ))) :
    iprop(Given m K c ∗ Scr c ∗ (∃ W, owes (c : Thread nD τ) (O c 0) W) ∗ Tab c ∗ gamP c s g) ⊢ Start m K c s g (FinT c) := by
  unfold Given Scr
  rw [own_split (fun k => iprop(pos0 (F := F) c k ∗ rch c k)), Toks_elim]
  rw [bigSep_fin_two (fun s : Fin 2 => tok c (.inn s) 0), bigSep_fin_two (fun s : Fin 2 => tok c (.xs s) 0),
    bigSep_fin_two (fun s : Fin 2 => iprop(pos0 (F := F) c (.inn s) ∗ rch c (.inn s))), bigSep_fin_two (fun s : Fin 2 => iprop(pos0 (F := F) c (.xs s) ∗ rch c (.xs s))),
    bigSep_fin_two (fun s : Fin 2 => iprop(pos0 (F := F) c (.xr s) ∗ rch c (.xr s))), bigSep_fin_two (fun s : Fin 2 => crd c (.xr s) (amt (.xr s)))]
  rw [bigSep_univ_eq_bigSepL [0, 1, 2, 3, 4] (by decide) (by decide) (Φ := fun i : Fin 5 => tok (F := F) (owed c ⟨i.val, by omega⟩).1 (owed c ⟨i.val, by omega⟩).2.1 (owed c ⟨i.val, by omega⟩).2.2),
    bigSep_univ_eq_bigSepL [0, 1, 2] (by decide) (by decide) (Φ := fun i : Fin 3 => tok (F := F) (owed c ⟨35 + i.val, by omega⟩).1 (owed c ⟨35 + i.val, by omega⟩).2.1 (owed c ⟨35 + i.val, by omega⟩).2.2)]
  show iprop((Invs m K ∗ (pos0 c .bar ∗ rch (partner c) .bar ∗ rch (right c) .bar ∗ rch (left c) .bar)
      ∗ (((tok c (.inn 0) 0 ∗ tok c (.inn 1) 0) ∗ (tok c (.xs 0) 0 ∗ tok c (.xs 1) 0) ∗ bigSep Finset.univ (fun n => tok c (.sd n) 0) ∗ bigSep Finset.univ (fun j => tok c (.st j) 0))
        ∗ (tok (partner c) .bar 0 ∗ tok (right c) .bar 2 ∗ tok (left c) .bar 1 ∗ tok (partner c) (.xr 0) 0 ∗ tok (partner c) (.xr 1) 0)
        ∗ bigSep Finset.univ (fun n : Fin 30 => tok (nb c n) (.rv (ab c (src n))) 0)
        ∗ (tok (partner c) .fin 0 ∗ tok (right c) .fin 2 ∗ tok (left c) .fin 1))
      ∗ (crd c .bar 3 ∗ crd c .fin 3 ∗ (crd c (.xr 0) (amt (.xr 0)) ∗ crd c (.xr 1) (amt (.xr 1))) ∗ bigSep Finset.univ (fun n : Fin 30 => crd c (.rv (ab c (dst n))) NR))
      ∗ ((pos0 c .fin ∗ rch c .fin) ∗ ((pos0 c (.inn 0) ∗ rch c (.inn 0)) ∗ (pos0 c (.inn 1) ∗ rch c (.inn 1)))
        ∗ ((pos0 c (.xs 0) ∗ rch c (.xs 0)) ∗ (pos0 c (.xs 1) ∗ rch c (.xs 1))) ∗ ((pos0 c (.xr 0) ∗ rch c (.xr 0)) ∗ (pos0 c (.xr 1) ∗ rch c (.xr 1)))
        ∗ bigSep Finset.univ (fun n => iprop(pos0 c (.sd n) ∗ rch c (.sd n))) ∗ bigSep Finset.univ (fun j => iprop(pos0 c (.rv j) ∗ rch c (.rv j)))
        ∗ bigSep Finset.univ (fun j => iprop(pos0 c (.st j) ∗ rch c (.st j))))
      ∗ (((c : Thread nD τ).loc main_v1) ↦{fullShare} PV m c) ∗ (∃ f, ((c : Thread nD τ).loc main_v50) ↦{fullShare} f))
    ∗ ((∃ f, ((c : Thread nD τ).loc cc0_scratch0) ↦{fullShare} f) ∗ (∃ f, ((c : Thread nD τ).loc cc0_scratch1) ↦{fullShare} f)
      ∗ (∃ f, ((c : Thread nD τ).loc cc0_scratch2) ↦{fullShare} f) ∗ (∃ f, ((c : Thread nD τ).loc cc0_scratch3) ↦{fullShare} f)
      ∗ (∃ f, ((c : Thread nD τ).loc cc0_scratch4) ↦{fullShare} f))
    ∗ (∃ W, owes (c : Thread nD τ) (O c 0) W) ∗ Tab c ∗ gamP c s g) ⊢ _
  unfold Start
  iintro ⟨⟨HI, ⟨Pb, Rp, Rr, Rl⟩, ⟨⟨⟨Ti0, Ti1⟩, ⟨Ts0, Ts1⟩, Tsd, Tst⟩, ⟨Tb0, Tb2, Tb1, Tx0, Tx1⟩, Tm, Tf0, Tf2, Tf1⟩,
    ⟨Cb, Cf, ⟨Cx0, Cx1⟩, Cr⟩, ⟨⟨Pf, #Rf⟩, ⟨⟨Pi0, Ri0⟩, Pi1, Ri1⟩, ⟨⟨Ps0, Rs0⟩, Ps1, Rs1⟩, ⟨⟨Px0, Rx0⟩, Px1, Rx1⟩, Psd, Prv, Pst⟩, Hin, ⟨%fo, Hout⟩⟩,
    ⟨⟨%f0, H0⟩, ⟨%f1, H1⟩, ⟨%f2, H2⟩, ⟨%f3, H3⟩, ⟨%f4, H4⟩⟩, HO, HT, HG⟩
  ihave Hin' := (in_pieces c (grp c) (1 - grp c) (pos c) (grp_ne c) (PV m c)) $$ Hin
  icases Hin' with ⟨Hi0, Hi1⟩
  ihave Hk := (pvE_whole cc0_scratch0 c f0) $$ H0
  ihave Hs := (pvE_whole cc0_scratch1 c f1) $$ H1
  ihave Hxs := ((Entails.of_eq (xs_pieces c f2)).trans ((pvE_all c xsH fun _ => f2).trans (Entails.of_eq (fin_two _)))) $$ H2
  icases Hxs with ⟨Hxs0, Hxs1⟩
  ihave Hxr := ((Entails.of_eq (xr_pieces c f3)).trans ((pvE_all c xrH fun _ => f3).trans (Entails.of_eq (fin_two _)))) $$ H3
  icases Hxr with ⟨Hxr0, Hxr1⟩
  ihave Hrows := ((Entails.of_eq (out_pieces c fo)).trans (pvE_all c rowsM fun _ => fo)) $$ Hout
  ihave Hslots := (slots_start c f4) $$ [H4 Prv]
  · iframe
  icases Hslots with ⟨Hrv, Hs2, HdL, HdR⟩
  ihave HV := (Vst_start c) $$ [Hrv Hs2 Cr]
  · iframe
  ihave HA := (out_start c) $$ [Tst Pst Hrows]
  · iframe
  ihave HS := (show iprop(bigSep Finset.univ (Vst c 0) ∗ bigSep Finset.univ (outIdle c)) ⊢ bigSep Finset.univ (Sst m c 0 0 0 0 0) by
    rw [← bigSep_sep']; exact bigSep_mono fun r _ => Sst_start m c r) $$ [HV HA]
  · iframe
  ihave HM := (msg_start c) $$ [Tsd Psd Tm]
  · iframe
  isplitl [HI HO HT]
  · unfold Core; iframe
  isplitl [Tb0 Rp Hxr0 Hxr1 Rx0 Rx1]
  · iapply (pay0 m c); iframe; iexact Rf
  isplitl [Tb2 Rr HdR]
  · iapply (pay1 m c); iframe; iexact Rf
  isplitl [Tb1 Rl HdL]
  · iapply (pay2 m c); iframe; iexact Rf
  isplitl [Cb Pb]; · iframe
  isplitl [Ti0 Ri0 Hi0 Hk Ti1 Ri1 Hi1 Hs Pi1]
  · unfold InI; iframe
  unfold XT XW FinT
  iframe

end Cert.Proof
-- ==== Proof.Leave.lean ====
/- What the device program ends with, put back into whole buffers and closed semaphores. -/
module

public import proofs.«01_k».proof.Proof.Enter

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- What is left of a slot's state at the end. -/
def Left (c : Dev nD) (j : Fin 32) : sProp 𝕄 :=
  iprop(atPos ER (cel c (.rv j)) (endRound c (.rv j)) ∅ 0 ∗ pos1 c (.st j) ∗ pv c (rowsM j) fullShare (OUT m c) ∗ pv c (slotM j) fullShare (RB m c))

theorem endRound_rv (c : Dev nD) (j : Fin 32) : endRound c (.rv j) = if 2 ≤ (rel c j).val then 0 + 1 else 0 := rfl
theorem Vst_end (c : Dev nD) (r : Fin 32) : Vst (F := F) c 32 r ⊢ atPos ER (cel c (.rv (ab c r))) (endRound c (.rv (ab c r))) ∅ 0 := by
  unfold Vst
  rw [endRound_rv, rel_ab, if_pos r.isLt]
  by_cases h : r.val < 2
  · rw [if_pos h, if_neg (by omega : ¬ 2 ≤ r.val)]; exact sep_elim_left
  · rw [if_neg h, if_pos (by omega : 2 ≤ r.val), if_pos r.isLt]

theorem Sst_end (c : Dev nD) (r : Fin 32) : Sst m c 30 32 32 30 32 r ⊢ Left m c (ab c r) := by
  have hl : ∀ b, ¬ Lent 30 30 r b := fun b => by rintro ⟨n, -, -, h, h'⟩; omega
  have hb : ∀ b, Bst m c 30 32 30 r b = pv c (slotM (ab c r)) (qB b) (RB m c) := fun b => by
    unfold Bst; rw [if_pos ⟨r.isLt, hl b⟩]; rfl
  have ha : Ast m c 32 32 32 r = outDone m c r := by
    unfold Ast; rw [if_pos r.isLt, if_pos (ab c r).isLt]
  unfold Sst Left
  rw [hb, hb, ha, slot_split]
  unfold outDone
  iintro ⟨A, ⟨B, C, D⟩, E, G⟩
  isplitl [A]
  · iapply (Vst_end c r); iexact A
  iframe

theorem all_left (c : Dev nD) : bigSep Finset.univ (Sst m c 30 32 32 30 32)
    ⊢ iprop(bigSep Finset.univ (fun j => atPos ER (cel c (.rv j)) (endRound c (.rv j)) ∅ 0) ∗ bigSep Finset.univ (fun j => pos1 c (.st j))
      ∗ (((c : Thread nD τ).loc main_v50) ↦{fullShare} OUT m c) ∗ (((c : Thread nD τ).loc cc0_scratch4) ↦{fullShare} RB m c)) := by
  rw [out_pieces, ring_pieces, ← bigSep_sep', ← bigSep_sep', ← bigSep_sep', by_ab c (fun j => iprop(atPos ER (cel c (.rv j)) (endRound c (.rv j)) ∅ 0 ∗ _))]
  exact bigSep_mono fun r _ => Sst_end m c r

theorem xs_join (c : Dev nD) : iprop(pv c (xsH 0) fullShare (XS m c) ∗ pv c (xsH 1) fullShare (XS m c))
    ⊢ (((c : Thread nD τ).loc cc0_scratch2) ↦{fullShare} XS m c : sProp 𝕄) := by
  rw [xs_pieces]; exact Entails.of_eq (fin_two fun s => pv c (xsH s) fullShare (XS m c)).symm
theorem xr_join (c : Dev nD) (f : S2x128x4096.Idx → Elt F .bf16) : iprop(pv c (xrH 0) fullShare f ∗ pv c (xrH 1) fullShare f)
    ⊢ (((c : Thread nD τ).loc cc0_scratch3) ↦{fullShare} f : sProp 𝕄) := by
  rw [xr_pieces]; exact Entails.of_eq (fin_two fun s => pv c (xrH s) fullShare f).symm

theorem end_pos (c : Dev nD) : iprop(pos1 c .fin ∗ (pos1 c (.inn 0) ∗ pos1 c (.inn 1)) ∗ (pos1 c (.xs 0) ∗ pos1 c (.xs 1)) ∗ (pos1 c (.xr 0) ∗ pos1 c (.xr 1))
    ∗ bigSep Finset.univ (fun n => pos1 c (.sd n)) ∗ bigSep Finset.univ (fun j => atPos ER (cel c (.rv j)) (endRound c (.rv j)) ∅ 0)
    ∗ bigSep Finset.univ (fun j => pos1 c (.st j)))
    ⊢ (bigSep Finset.univ (fun k : Own => atPos ER (cel c (ownCel k)) (endRound c (ownCel k)) ∅ 0) : sProp 𝕄) := by
  rw [own_split (fun k => (atPos ER (cel c k) (endRound c k) ∅ 0 : sProp 𝕄)), fin_two, fin_two, fin_two]
  exact BI.Entails.refl _

/-- What a device's region is left with. -/
def Kept (c : Dev nD) : sProp 𝕄 := iprop(Invs m K ∗ pos1 c .bar ∗ (((c : Thread nD τ).loc main_v50) ↦{fullShare} OUT m c))

theorem XsD_eq (c : Dev nD) (s : Fin 2) : XsD m c s = iprop(pos1 c (.xs s) ∗ pv c (xsH s) fullShare (XS m c)) := rfl

set_option maxHeartbeats 1000000 in
theorem leave (c : Dev nD) (s : Fin 1) (g : Buf (Elt F) ((spec0_0.stage s).view.loc (c : Thread nD τ))) :
    Done m K c s g ⊢ (|={Set.univ}=> iprop(Kept m K c ∗ Pipeline.ownSems0 osem c ∗ Scr c ∗ (∃ W, owes (c : Thread nD τ) 0 W) ∗ gamP c s g) : sProp 𝕄) := by
  have hM : bigSep Finset.univ (Mst (F := F) c 30 30) = bigSep Finset.univ (fun n => pos1 c (.sd n)) :=
    bigSep_congr fun n _ => by unfold Mst; exact if_pos n.isLt
  unfold Done
  rw [hM, show Core m K c 38 = iprop(Invs m K ∗ (∃ W, owes (c : Thread nD τ) 0 W) ∗ Tab c) by unfold Core; rw [O_end]]
  rw [XsD_eq, XsD_eq]
  unfold XD In0 In1
  iintro ⟨⟨#HI, HO, -⟩, Pf, Pb, Psd, HS, ⟨Ps0, Hs0⟩, ⟨Ps1, Hs1⟩, ⟨Px0, Hx0⟩, ⟨Px1, Hx1⟩, Hk, HG, Hn, ⟨Pi0, -⟩, ⟨Pi1, -⟩⟩
  ihave HS' := (all_left m c) $$ HS
  icases HS' with ⟨Prv, Pst, Hout, Hring⟩
  ihave Hxs := (xs_join m c) $$ [Hs0 Hs1]
  · iframe
  ihave Hxr := (xr_join c (XS m (partner c))) $$ [Hx0 Hx1]
  · iframe
  ihave HP := (end_pos c) $$ [Pf Pi0 Pi1 Ps0 Ps1 Px0 Px1 Psd Prv Pst]
  · iframe
  imod (close_all m K c) $$ [HP] with Hsem
  · isplitr; · iexact HI
    iexact HP
  ihave Hk := (Entails.of_eq (pv_whole cc0_scratch0 c fullShare (K5 m c))) $$ Hk
  ihave Hn := (Entails.of_eq (pv_whole cc0_scratch1 c fullShare (K6 m c))) $$ Hn
  imodintro
  isplitl [Pb Hout]
  · unfold Kept; isplitr; · iexact HI
    iframe
  isplitl [Hsem]; · iexact Hsem
  isplitl [Hk Hn Hxs Hxr Hring]
  · unfold Scr
    isplitl [Hk]; · iexists (K5 m c); iexact Hk
    isplitl [Hn]; · iexists (K6 m c); iexact Hn
    isplitl [Hxs]; · iexists (XS m c); iexact Hxs
    isplitl [Hxr]; · iexists (XS m (partner c)); iexact Hxr
    iexists (RB m c); iexact Hring
  iframe

end Cert.Proof
-- ==== Proof.Host.lean ====
/- The host's table of words. -/
module

public import proofs.«01_k».proof.Proof.Pre
public import Idealize.ShloMosaic.Lib.StableHlo.RunRead
public import Idealize.ShloMosaic.Lib.Pipeline.Value

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- Six single words laid one after another: word `x` of the row is the word of piece `x`. -/
theorem concat6 (a b c d e f : S1.Idx → BitVec 32) (h) (i : S6.Idx) :
    concatenate S6 0 [⟨S1, a⟩, ⟨S1, b⟩, ⟨S1, c⟩, ⟨S1, d⟩, ⟨S1, e⟩, ⟨S1, f⟩] h i
      = (![a, b, c, d, e, f] (i 0 : Fin 6)) (Shape.Idx.first (by decide : 0 < S1.numel)) := by
  have hb : ∀ b : Fin S1.rank, b.cast (rfl : S1.rank = S6.rank) ≠ 0 →
      ((Shape.Idx.first (by decide : 0 < S1.numel) : S1.Idx) b).val = (i (b.cast rfl)).val := fun b hb => absurd (Subsingleton.elim (α := Fin 1) _ _) hb
  rcases hi : (i 0 : Fin 6) with ⟨n, h6⟩
  have hv : (i 0).val = n := congrArg Fin.val hi
  have h6 : n < 6 := h6
  obtain rfl | rfl | rfl | rfl | rfl | rfl : n = 0 ∨ n = 1 ∨ n = 2 ∨ n = 3 ∨ n = 4 ∨ n = 5 := by omega
  · exact concatenate_apply_piece 0 _ h i 0 (show 0 < 6 by omega) S1 a rfl rfl 0 rfl _ hb hv.symm
  · exact concatenate_apply_piece 0 _ h i 1 (show 1 < 6 by omega) S1 b rfl rfl 1 rfl _ hb hv.symm
  · exact concatenate_apply_piece 0 _ h i 2 (show 2 < 6 by omega) S1 c rfl rfl 2 rfl _ hb hv.symm
  · exact concatenate_apply_piece 0 _ h i 3 (show 3 < 6 by omega) S1 d rfl rfl 3 rfl _ hb hv.symm
  · exact concatenate_apply_piece 0 _ h i 4 (show 4 < 6 by omega) S1 e rfl rfl 4 rfl _ hb hv.symm
  · exact concatenate_apply_piece 0 _ h i 5 (show 5 < 6 by omega) S1 f rfl rfl 5 rfl _ hb hv.symm

/-- What the host holds in `r` before its operation `n`. -/
abbrev at_ (c : Dev nD) (n : ℕ) (r : Ref sig .tc) := StableHlo.upto (hostOps0 c) (V0 m c) n (Proc.tc.devRef r)

set_option maxHeartbeats 4000000 in
theorem row_word (c : Dev nD) : ((at_ m c 35 main_v17 : S_.Idx → BitVec 32) (Shape.Idx.first h_S_)).toInt = ((c.val / 4 % 4 : ℕ) : ℤ) := by
  unfold at_
  after_reads_simp
  fin_cases c <;> rfl

set_option maxHeartbeats 4000000 in
theorem col_word (c : Dev nD) : ((at_ m c 35 main_v20 : S_.Idx → BitVec 32) (Shape.Idx.first h_S_)).toInt = ((c.val % 4 : ℕ) : ℤ) := by
  unfold at_
  after_reads_simp
  fin_cases c <;> rfl

theorem pos_idx (c : Dev nD) (h : ∀ k : Fin 2, (Proc.tc.devRef (τ := τ) (![main_v17, main_v20] k)).ty.Contents (Elt F) = (S_.Idx → BitVec 32)) :
    (fun k : Fin 2 => ((cast (h k) (StableHlo.upto (hostOps0 c) (V0 m c) 35 (Proc.tc.devRef (![main_v17, main_v20] k)))) (Shape.Idx.first h_S_)).toInt)
      = ![((c.val / 4 % 4 : ℕ) : ℤ), ((c.val % 4 : ℕ) : ℤ)] := funext fun k => by
  fin_cases k
  · exact row_word m c
  · exact col_word m c

theorem pos_lit (c : Dev nD) : shapeCast S_ (Host.dynamicSlice S1x1 (fun i => lit0 (S4x4.rowMajor i)) ![((c.val / 4 % 4 : ℕ) : ℤ), ((c.val % 4 : ℕ) : ℤ)] sliceFits_S4x4_S1x1) shapeCasts_S1x1_S_ (Shape.Idx.first h_S_)
    = tabW c 1 := by
  revert c; decide +kernel

/-- A word read with no index is the same at the one index there is. -/
theorem only (f : S_.Idx → BitVec 32) (i : S_.Idx) : f i = f (Shape.Idx.first h_S_) := congrArg f (funext fun k => k.elim0)

theorem pos_term (c : Dev nD) (h : ∀ k : Fin 2, (Proc.tc.devRef (τ := τ) (![main_v17, main_v20] k)).ty.Contents (Elt F) = (S_.Idx → BitVec 32)) :
    (fun i : S_.Idx => shapeCast S_ (Host.dynamicSlice S1x1 (fun i => lit0 (S4x4.rowMajor i))
      (fun k : Fin 2 => ((cast (h k) (StableHlo.upto (hostOps0 c) (V0 m c) 35 (Proc.tc.devRef (![main_v17, main_v20] k)))) (Shape.Idx.first h_S_)).toInt)
      sliceFits_S4x4_S1x1) shapeCasts_S1x1_S_ i) = fun _ => tabW c 1 := by
  rw [pos_idx]
  funext i
  exact (only _ i).trans (pos_lit c)

/-- The wrap of a position: a word from 0 to 15 stays. -/
theorem wrap (c : Dev nD) : (select (cmpi .slt (fun _ : S_.Idx => tabW c 1) (constantI S_ 32 0#32)) (addi (fun _ => tabW c 1) (constantI S_ 32 16#32)) (fun _ => tabW c 1) : S_.Idx → BitVec 32)
    = fun _ => tabW c 1 := by
  funext i; fin_cases c <;> rfl

theorem wrap_term {T : S_.Idx → BitVec 32} (c : Dev nD) (hT : T = fun _ => tabW c 1) :
    (select (cmpi .slt T (constantI S_ 32 0#32)) (addi T (constantI S_ 32 16#32)) T : S_.Idx → BitVec 32) = fun _ => tabW c 1 := by
  rw [hT]; exact wrap c

set_option maxHeartbeats 4000000 in
theorem word0 (c : Dev nD) : (at_ m c 42 main_v25 : S_.Idx → BitVec 32) = fun _ => tabW c 1 := by
  unfold at_
  after_reads_simp
  exact wrap_term c (pos_term m c _)

set_option maxHeartbeats 4000000 in
theorem word1 (c : Dev nD) : (at_ m c 49 main_v30 : S_.Idx → BitVec 32) = fun _ => tabW c 1 := by
  unfold at_
  after_reads_simp
  exact wrap_term c (pos_term m c _)

set_option maxHeartbeats 4000000 in
theorem word2 (c : Dev nD) : (at_ m c 56 main_v35 : S_.Idx → BitVec 32) = fun _ => tabW c 1 := by
  unfold at_
  after_reads_simp
  exact wrap_term c (pos_term m c _)

set_option maxHeartbeats 4000000 in
theorem word3 (c : Dev nD) : (at_ m c 63 main_v40 : S_.Idx → BitVec 32) = fun _ => tabW c 1 := by
  unfold at_
  after_reads_simp
  exact wrap_term c (pos_term m c _)

theorem one_idx (c : Dev nD) (r : Ref sig .tc) (n : ℕ) (h : ∀ k : Fin 1, (Proc.tc.devRef (τ := τ) (![r] k)).ty.Contents (Elt F) = (S_.Idx → BitVec 32))
    (hr : (cast (h 0) (at_ m c n r) : S_.Idx → BitVec 32) = fun _ => tabW c 1) :
    (fun k : Fin 1 => ((cast (h k) (StableHlo.upto (hostOps0 c) (V0 m c) n (Proc.tc.devRef (![r] k)))) (Shape.Idx.first h_S_)).toInt)
      = ![(tabW c 1).toInt] := funext fun k => by
  fin_cases k
  exact congrArg (fun f : S_.Idx → BitVec 32 => (f (Shape.Idx.first h_S_)).toInt) hr

/-- The word a 16 word list holds at the position. -/
theorem one_term (c : Dev nD) (lit : Fin 16 → BitVec 32) (x : Fin 6)
    (hl : ∀ c : Dev nD, shapeCast S_ (Host.dynamicSlice S1 (fun i => lit (S16.rowMajor i)) ![(tabW c 1).toInt] sliceFits_S16_S1) shapeCasts_S1_S_ (Shape.Idx.first h_S_) = tabW c x)
    (r : Ref sig .tc) (n : ℕ) (h : ∀ k : Fin 1, (Proc.tc.devRef (τ := τ) (![r] k)).ty.Contents (Elt F) = (S_.Idx → BitVec 32))
    (hr : (cast (h 0) (at_ m c n r) : S_.Idx → BitVec 32) = fun _ => tabW c 1) :
    (broadcastInDim S1 ![] bcast_S_S1 (fun i : S_.Idx => shapeCast S_ (Host.dynamicSlice S1 (fun i => lit (S16.rowMajor i))
      (fun k : Fin 1 => ((cast (h k) (StableHlo.upto (hostOps0 c) (V0 m c) n (Proc.tc.devRef (![r] k)))) (Shape.Idx.first h_S_)).toInt)
      sliceFits_S16_S1) shapeCasts_S1_S_ i) : S1.Idx → BitVec 32) = fun _ => tabW c x := by
  rw [one_idx m c r n h hr]
  funext i
  exact (only (fun i : S_.Idx => shapeCast S_ (Host.dynamicSlice S1 (fun i => lit (S16.rowMajor i)) ![(tabW c 1).toInt] sliceFits_S16_S1) shapeCasts_S1_S_ i) _).trans (hl c)

theorem lit1_word : ∀ c : Dev nD, shapeCast S_ (Host.dynamicSlice S1 (fun i => lit1 (S16.rowMajor i)) ![(tabW c 1).toInt] sliceFits_S16_S1) shapeCasts_S1_S_ (Shape.Idx.first h_S_) = tabW c 2 := by
  decide +kernel
theorem lit2_word : ∀ c : Dev nD, shapeCast S_ (Host.dynamicSlice S1 (fun i => lit2 (S16.rowMajor i)) ![(tabW c 1).toInt] sliceFits_S16_S1) shapeCasts_S1_S_ (Shape.Idx.first h_S_) = tabW c 3 := by
  decide +kernel
theorem lit3_word : ∀ c : Dev nD, shapeCast S_ (Host.dynamicSlice S1 (fun i => lit3 (S16.rowMajor i)) ![(tabW c 1).toInt] sliceFits_S16_S1) shapeCasts_S1_S_ (Shape.Idx.first h_S_) = tabW c 4 := by
  decide +kernel
theorem lit4_word : ∀ c : Dev nD, shapeCast S_ (Host.dynamicSlice S1 (fun i => lit4 (S16.rowMajor i)) ![(tabW c 1).toInt] sliceFits_S16_S1) shapeCasts_S1_S_ (Shape.Idx.first h_S_) = tabW c 5 := by
  decide +kernel

theorem grp_word : ∀ c : Dev nD, (Host.remui (Host.divui (constantI S_ 32 (Dev.word c)) (constantI S_ 32 16#32)) (constantI S_ 32 2#32) : S_.Idx → BitVec 32) (Shape.Idx.first h_S_) = tabW c 0 := by
  decide +kernel

theorem grp_term (c : Dev nD) : (broadcastInDim S1 ![] bcast_S_S1
          (id (Host.remui (Host.divui (constantI S_ 32 (Dev.word c)) (constantI S_ 32 16#32)) (constantI S_ 32 2#32))) : S1.Idx → BitVec 32) = fun _ => tabW c 0 := by
  funext i
  exact (only (Host.remui (Host.divui (constantI S_ 32 (Dev.word c)) (constantI S_ 32 16#32)) (constantI S_ 32 2#32)) _).trans (grp_word c)

theorem six {a b c d e f : S1.Idx → BitVec 32} (t : Fin 6 → BitVec 32) (j : S1.Idx) (ha : a = fun _ => t 0) (hb : b = fun _ => t 1) (hc : c = fun _ => t 2)
    (hd : d = fun _ => t 3) (he : e = fun _ => t 4) (hf : f = fun _ => t 5) (x : Fin 6) : (![a, b, c, d, e, f] x) j = t x := by
  subst ha hb hc hd he hf
  fin_cases x <;> rfl

set_option maxHeartbeats 4000000 in
theorem table_word (c : Dev nD) (x : S6.Idx) : (V1 m c main_v49 : main_v49.ty.Contents (Elt F)) x = tabW c (x 0) := by
  unfold V1
  after_reads_simp
  change concatenate S6 0
      [⟨S1, StableHlo.upto (hostOps0 c) (V0 m c) 71 (Proc.tc.devRef main_v43)⟩,
       ⟨S1, StableHlo.upto (hostOps0 c) (V0 m c) 71 (Proc.tc.devRef main_v44)⟩,
       ⟨S1, StableHlo.upto (hostOps0 c) (V0 m c) 71 (Proc.tc.devRef main_v45)⟩,
       ⟨S1, StableHlo.upto (hostOps0 c) (V0 m c) 71 (Proc.tc.devRef main_v46)⟩,
       ⟨S1, StableHlo.upto (hostOps0 c) (V0 m c) 71 (Proc.tc.devRef main_v47)⟩,
       ⟨S1, StableHlo.upto (hostOps0 c) (V0 m c) 71 (Proc.tc.devRef main_v48)⟩] _ _ = _
  rw [concat6]
  after_reads_simp
  refine six (tabW c) _ (grp_term c) ?_ (one_term m c lit1 2 lit1_word main_v25 42 _ (word0 m c)) (one_term m c lit2 3 lit2_word main_v30 49 _ (word1 m c))
    (one_term m c lit3 4 lit3_word main_v35 56 _ (word2 m c)) (one_term m c lit4 5 lit4_word main_v40 63 _ (word3 m c)) (x 0)
  exact congrArg (fun T => (broadcastInDim S1 ![] bcast_S_S1 T : S1.Idx → BitVec 32)) (pos_term m c _)

theorem table_value (c : Dev nD) : (V1 m c main_v49 : main_v49.ty.Contents (Elt F)) = tabF c := funext fun x => table_word m c x

set_option maxHeartbeats 4000000 in
/-- The device's own rows: the launch's block read in two halves. -/
theorem rows_value (c : Dev nD) : (V1 m c main_v1 : S2x4096x4096.Idx → Elt F .f32)
    = fun i => shapeCast S2x4096x4096 (m (c, Proc.devRef .tc main_arg0) : S1x8192x4096.Idx → Elt F .f32) shapeCasts_S1x8192x4096_S2x4096x4096 i := by
  unfold V1
  after_reads_simp
  rfl

set_option maxHeartbeats 4000000 in
/-- The scale row. -/
theorem scale_value (c : Dev nD) : (V1 m c main_v2 : S1x4096.Idx → Elt F .f32)
    = fun i => shapeCast S1x4096 (m (c, Proc.devRef .tc main_arg1) : S4096.Idx → Elt F .f32) shapeCasts_S4096_S1x4096 i := by
  unfold V1
  after_reads_simp
  rfl

end Cert.Proof
-- ==== Proof.Region.lean ====
/- The kernel region: what a device brings to it, and what it takes out. -/
module

public import proofs.«01_k».proof.Proof.Leave
public import proofs.«01_k».proof.Proof.Host

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- The prefetched table each device runs with. -/
def adm (c : Dev nD) (p : Fin 1) : (pcfgs (F := F) p).Adm :=
  ⟨fun | 0 => (tabF c : S6.Idx → Elt F .i32) | ⟨_ + 1, h⟩ => absurd h (Nat.not_lt.2 (Nat.le_add_left _ _)), trivial⟩

/-- The invariant around the one grid point: at first what the device was given, at last what it keeps. -/
def Phi (c : Dev nD) (first : Bool) : sProp 𝕄 :=
  match first with
  | true => iprop((∃ K, Given m K c) ∗ Tab c ∗ Scr c)
  | false => iprop((∃ K, Kept m K c) ∗ Pipeline.ownSems0 osem c ∗ Scr c)

/-- What the device owes before and after the point. -/
def owedAt (c : Dev nD) (first : Bool) : CellTallies nD τ sig Unit := match first with | true => O c 0 | false => 0

/-- The region's record on device `c`. -/
def dat (p : Fin 1) (c : Dev nD) : Pipeline.Dat τ (Elt F) Unit ℕ UU ℕ (Pipeline.pinD (pcfgs (F := F)) adm c p) c where
  A := fun | 0 => (V1 m c main_v2 : S1x4096.Idx → Elt F .f32) | ⟨_ + 1, h⟩ => absurd h (Nat.not_lt.2 (Nat.le_add_left _ _))
  after := fun | 0 => fun _ => (GM m c : S1x4096.Idx → Elt F .f32) | ⟨_ + 1, h⟩ => absurd h (Nat.not_lt.2 (Nat.le_add_left _ _))
  Φ t := Phi m c (decide (t.val = 0))
  q _ := fullShare
  owed t := owedAt c (decide (t.val = 0))

abbrev pdats := dat (F := F) m

theorem owesAt_in (c : Dev nD) (t : Fin ((Pipeline.pinD (pcfgs (F := F)) adm c 0).N + 1)) :
    iprop(∃ W, owes (c : Thread nD τ) (owedAt c (decide (t.val = 0))) W) ⊢ ((dat m 0 c).owesAt () t : sProp 𝕄) := by
  unfold Pipeline.Dat.owesAt Pipeline.owesWithin Pipeline.Dat.bound
  iintro ⟨%W, HO⟩
  iexists W
  isplitr
  · ipureintro; exact fun _ _ => Or.inl trivial
  iexact HO

theorem owesAt_first (c : Dev nD) : iprop(∃ W, owes (c : Thread nD τ) (O c 0) W) ⊢ ((dat m 0 c).owesAt () 0 : sProp 𝕄) := owesAt_in m c 0

theorem owesAt_last (c : Dev nD) (t : Fin ((Pipeline.pinD (pcfgs (F := F)) adm c 0).N + 1)) (h : t.val ≠ 0) :
    iprop(∃ W, owes (c : Thread nD τ) 0 W) ⊢ ((dat m 0 c).owesAt () t : sProp 𝕄) := by
  have e : owedAt c (decide (t.val = 0)) = 0 := by rw [decide_eq_false h]; rfl
  have := owesAt_in m c t
  rw [e] at this
  exact this

theorem owesAt_out (c : Dev nD) (t : Fin ((Pipeline.pinD (pcfgs (F := F)) adm c 0).N + 1)) :
    ((dat m 0 c).owesAt () t : sProp 𝕄) ⊢ iprop(∃ W, owes (c : Thread nD τ) (owedAt c (decide (t.val = 0))) W) := by
  unfold Pipeline.Dat.owesAt Pipeline.owesWithin
  iintro ⟨%W, -, HO⟩
  iexists W
  iexact HO

/-- The staged scale row is the scale row. -/
theorem staged (c : Dev nD) (t : Fin (Pipeline.pinD (pcfgs (F := F)) adm c 0).N) (d) :
    (dat m 0 c).before 0 t d = (GM m c : S1x4096.Idx → Elt F .f32) := by
  obtain rfl : t = t0_0 := fin_N0 t
  have hf : ((Pipeline.pinD (pcfgs (F := F)) adm c 0).win 0).fetch t0_0 = true := rfl
  unfold Pipeline.Dat.before
  rw [if_pos hf]
  show (dat m 0 c).blockOf 0 t0_0 = _
  funext x
  refine congrArg (GM m c) (funext fun a => Fin.ext ?_)
  match a with
  | ⟨0, _⟩ => exact (Nat.zero_add _).trans (Nat.one_mul _)
  | ⟨1, _⟩ => exact (Nat.zero_add _).trans (Nat.one_mul _)

theorem read_gam (c : Dev nD) (s : Fin 1) (g : Buf (Elt F) ((spec0_0.stage s).view.loc (c : Thread nD τ)))
    (hg : (spec0_0.stage s).view.read (Elt F) g = GM m c) : ((spec0_0.stage s).access gamR).read (Elt F) g = GM m c := by
  funext x
  have : ((spec0_0.stage s).access gamR).read (Elt F) g x = (spec0_0.stage s).view.read (Elt F) g (gamR.emb x) := rfl
  rw [this, hg]
  refine congrArg (GM m c) (funext fun a => Fin.ext ?_)
  match a with
  | ⟨0, _⟩ => exact (Nat.zero_add _).trans (Nat.one_mul _)
  | ⟨1, _⟩ => exact (Nat.zero_add _).trans (Nat.one_mul _)

theorem leaves (K : GSem nD τ sig → ℕ) (c : Dev nD) (s : Fin 1) (g : Buf (Elt F) ((spec0_0.stage s).view.loc (c : Thread nD τ)))
    (hg : (spec0_0.stage s).view.read (Elt F) g = GM m c) :
    Done m K c s g ⊢ (|={Set.univ}=> iprop(Phi m c false ∗ (dat m 0 c).owesAt () t0_0.succ ∗ owns (c : Thread nD τ) (spec0_0.stage s) fullShare (GM m c)) : sProp 𝕄) := by
  iintro H
  imod (leave m K c s g) $$ H with ⟨HK, Hos, HS, HO, Hg⟩
  imodintro
  isplitl [HK Hos HS]
  · unfold Phi
    isplitl [HK]
    · iexists K; iexact HK
    isplitl [Hos]; · iexact Hos
    iexact HS
  isplitl [HO]
  · iapply (owesAt_last m c t0_0.succ (Nat.succ_ne_zero _)) $$ HO
  unfold owns
  iexists g
  isplitr
  · ipureintro; exact hg
  iexact Hg

theorem runs (K : GSem nD τ sig → ℕ) (c : Dev nD) (s : Fin 1) (g : Buf (Elt F) ((spec0_0.stage s).view.loc (c : Thread nD τ)))
    (hg : (spec0_0.stage s).view.read (Elt F) g = GM m c) :
    iprop(Given m K c ∗ Scr c ∗ (∃ W, owes (c : Thread nD τ) (O c 0) W) ∗ Tab c ∗ gamP c s g)
      ⊢ WP c (At t0_0 s (cc0_body (F := F))) fun _ =>
        iprop(Phi m c false ∗ (dat m 0 c).owesAt () t0_0.succ ∗ owns (c : Thread nD τ) (spec0_0.stage s) fullShare (GM m c)) :=
  (enter m K c s g).trans ((body_wp m K c t0_0 s g (read_gam m c s g hg)).trans ((wp_mono frame _ _ fun _ => leaves m K c s g hg).trans (wp_fupd frame _ _ _ _)))

/-- The point: the device enters, runs the kernel, and leaves. -/
theorem point (c : Dev nD) (s : Fin 1) :
    iprop(Phi m c true ∗ (dat m 0 c).owesAt () t0_0.castSucc ∗ (∃ d, owns (c : Thread nD τ) (spec0_0.stage s) fullShare ((dat m 0 c).before 0 t0_0 d)))
      ⊢ WP c (At t0_0 s (cc0_body (F := F))) fun _ =>
        iprop(Phi m c false ∗ (dat m 0 c).owesAt () t0_0.succ ∗ owns (c : Thread nD τ) (spec0_0.stage s) fullShare (GM m c)) := by
  simp only [staged]
  unfold Phi owns
  iintro ⟨⟨⟨%K, HG⟩, HT, HS⟩, HO, ⟨%d, ⟨%g, %hg, Hw⟩⟩⟩
  ihave HO := (owesAt_out m c _) $$ HO
  iapply (runs m K c s g hg)
  isplitl [HG]; · iexact HG
  isplitl [HS]; · iexact HS
  isplitl [HO]; · iexact HO
  isplitl [HT]; · iexact HT
  iexact Hw

theorem body (c : Dev nD) : Pipeline.BodyObligation (dat m 0 c) (defs₀ (F := F)) 𝒱₀ () Set.univ := fun t => by
  obtain rfl : t = t0_0 := fin_N0 t
  rw [show (Finset.univ : Finset (Fin (Pipeline.pinD (pcfgs (F := F)) adm c 0).W)) = (Finset.univ : Finset (Fin 1)) from rfl]
  rw [bigSep_W0, bigSep_W0]
  exact point m c ((Pipeline.pinD (pcfgs (F := F)) adm c 0).slots t0_0 0)

/-- What the protocol gives a device at the launch, before its own cells are opened. -/
def Bundle (c : Dev nD) : sProp 𝕄 :=
  iprop(∃ K, Invs m K ∗ (pos0 c .bar ∗ rch (partner c) .bar ∗ rch (right c) .bar ∗ rch (left c) .bar) ∗ Toks c
    ∗ (crd c .bar 3 ∗ crd c .fin 3 ∗ bigSep Finset.univ (fun s : Fin 2 => crd c (.xr s) (amt (.xr s))) ∗ bigSep Finset.univ (fun n : Fin 30 => crd c (.rv (ab c (dst n))) NR))
    ∗ bigSep Finset.univ (fun k : Own => openTok ER (cel c (ownCel k)))
    ∗ ∃ W, owes (c : Thread nD τ) (O c 0) W)

/-- What a device holds at the end, its `owes` apart: the arguments, the result and the barrier at zero. -/
def Tn (c : Dev nD) : sProp 𝕄 :=
  iprop((((c : Thread nD τ).loc main_arg0) ↦{fullShare} V0 m c main_arg0) ∗ (((c : Thread nD τ).loc main_arg1) ↦{fullShare} V0 m c main_arg1)
    ∗ (((c : Thread nD τ).loc main_v50) ↦{fullShare} OUT m c) ∗ semVal (cel c .bar) 0)

abbrev sixRefs : Finset (Ref sig .tc) := {main_v2, main_v49, main_v1, main_v50, main_arg0, main_arg1}

theorem six_sub : sixRefs.map ⟨Proc.devRef (sig := sig) (.tc : Proc τ), Proc.devRef_injective _⟩ ⊆ Pipeline.ucRefs τ sig := fun b hb => by
  obtain ⟨r, hr, rfl⟩ := Finset.mem_map.mp hb
  exact Finset.mem_filter.mpr ⟨StableHlo.devRef_mem_tcRefs r, by revert r; decide⟩

/-- The six buffers the region and the end are about, out of all the unscoped ones. -/
theorem held_six (c : Dev nD) (V : Valuation τ sig (Elt F)) :
    (StableHlo.held (c : Thread nD τ) (Pipeline.ucRefs τ sig) V : sProp 𝕄)
      ⊢ iprop((((c : Thread nD τ).loc main_v2) ↦{fullShare} V main_v2) ∗ (((c : Thread nD τ).loc main_v49) ↦{fullShare} V main_v49)
        ∗ (((c : Thread nD τ).loc main_v1) ↦{fullShare} V main_v1) ∗ (((c : Thread nD τ).loc main_v50) ↦{fullShare} V main_v50)
        ∗ (((c : Thread nD τ).loc main_arg0) ↦{fullShare} V main_arg0) ∗ (((c : Thread nD τ).loc main_arg1) ↦{fullShare} V main_arg1)) := by
  unfold StableHlo.held
  refine (bigSep_subset six_sub).trans ?_
  rw [bigSep_map, bigSep_insert (by decide), bigSep_insert (by decide), bigSep_insert (by decide), bigSep_insert (by decide), bigSep_insert (by decide), bigSep_singleton]
  exact BI.Entails.refl _

theorem arrays_one (c : Dev nD) (G : (w : Fin (Pipeline.pinD (pcfgs (F := F)) adm c 0).W) → Buf (Elt F) (((Pipeline.pinD (pcfgs (F := F)) adm c 0).win w).arr.view.loc (c.tc : Thread nD τ))) :
    ((dat m 0 c).arrays G : sProp 𝕄) = (((c : Thread nD τ).loc main_v2) ↦{fullShare} G 0) := by
  rw [Pipeline.PerCore.arrays_eq (Pipeline.pinD (pcfgs (F := F)) adm) (dat m) 0 c arr_whole0 (fun w => by unfold Pipeline.Dat.share; split <;> rfl) G]
  exact bigSep_W0 _

theorem table_one (c : Dev nD) :
    (Pipeline.prefHeld (pcfgs (F := F) 0).pre c (fun _ => fullShare) (adm c 0).1 : sProp 𝕄) = (((c : Thread nD τ).loc main_v49) ↦{fullShare} (tabF c : S6.Idx → Elt F .i32)) := by
  unfold Pipeline.prefHeld
  exact bigSep_W0 _

theorem tab_whole (c : Dev nD) : (Tab c : sProp 𝕄) = (((c : Thread nD τ).loc main_v49) ↦{fullShare} (tabF c : S6.Idx → Elt F .i32)) := by
  unfold Tab
  exact pv_whole main_v49 c fullShare (tabF c)

theorem fetch_level (c : Dev nD) (sm : SemLoc sig) (h : celOf sm = none) (b : Bool) : (levAts L lv : sProp 𝕄) ⊢ MayWait (c : Thread nD τ) sm () (owedAt c b) := by
  have e : lv ((c : Thread nD τ), sm) () = 0 := by unfold lv; rw [h]; rfl
  cases b with
  | true => exact mayWait c sm 0 fun i _ => by rw [e, lv_owed]; split_ifs <;> omega
  | false =>
    exact MayOwe.of_cut (L := L) (lev := lv) 0 (fun p hp => by rw [Finset.mem_singleton.mp hp, L_tc]; exact Finset.mem_singleton_self _)
      (fun g u hg => absurd hg (Nat.lt_irrefl 0)) (fun p hp => by rw [Finset.mem_singleton.mp hp, e]) (fun g u hg => absurd hg (Nat.lt_irrefl 0))

theorem stage_cel (w : Fin 1) (s : Fin (spec0 w).nbuf) : celOf (.dma ((spec0 w).sem s)) = none := by
  revert s; revert w; decide

theorem table_held (c : Dev nD) :
    (((c : Thread nD τ).loc main_v49) ↦{fullShare} V1 m c main_v49 : sProp 𝕄) = (((c : Thread nD τ).loc main_v49) ↦{fullShare} (tabF c : S6.Idx → Elt F .i32)) :=
  congrArg (fun f => (((c : Thread nD τ).loc main_v49) ↦{fullShare} f : sProp 𝕄)) (table_value m c)
theorem arg0_held (c : Dev nD) :
    (((c : Thread nD τ).loc main_arg0) ↦{fullShare} V1 m c main_arg0 : sProp 𝕄) = (((c : Thread nD τ).loc main_arg0) ↦{fullShare} V0 m c main_arg0) :=
  congrArg (fun f => (((c : Thread nD τ).loc main_arg0) ↦{fullShare} f : sProp 𝕄)) (V1_of m c main_arg0 (by decide))
theorem arg1_held (c : Dev nD) :
    (((c : Thread nD τ).loc main_arg1) ↦{fullShare} V1 m c main_arg1 : sProp 𝕄) = (((c : Thread nD τ).loc main_arg1) ↦{fullShare} V0 m c main_arg1) :=
  congrArg (fun f => (((c : Thread nD τ).loc main_arg1) ↦{fullShare} f : sProp 𝕄)) (V1_of m c main_arg1 (by decide))

/-- The region. -/
def reg : Pipeline.PerCore.RegionSeg (pcfgs (F := F)) adm (dat m) () (defs₀ (F := F)) 𝒱₀ L lv 0 where
  win := winFacts0.to₀
  block_pos := block_pos0
  stage_whole := stage_whole0
  K := Own
  osem := osem
  ho := osem_facts
  hbody c := (body m c).loose
  hwaits c := Pipeline.PerCore.cellsWaits_intro (Pipeline.pinD (pcfgs (F := F)) adm) (dat m) () 0 c fun w s t => by
    exact fetch_level c _ (stage_cel w s) _
  pre c := iprop(StableHlo.held (c : Thread nD τ) (Pipeline.ucRefs τ sig) (V1 m c) ∗ Bundle m c)
  post c := iprop(Tn m c ∗ ∃ W, owes (c : Thread nD τ) 0 W)
  X c := iprop(∃ K, Given m K c)
  Y c := iprop(∃ K, Kept m K c)
  Z c := iprop((((c : Thread nD τ).loc main_arg0) ↦{fullShare} V0 m c main_arg0) ∗ (((c : Thread nD τ).loc main_arg1) ↦{fullShare} V0 m c main_arg1))
  hentry c := by
    rw [arrays_one, table_one]
    unfold Bundle
    iintro ⟨⟨Hh, ⟨%K, #HI, Hb, HT, Hc, Hop, HO⟩⟩, Hos, -⟩
    ihave H6 := (held_six c (V1 m c)) $$ Hh
    icases H6 with ⟨H2, H49, H1, H50, Ha0, Ha1⟩
    imod (open_all m K c) $$ [Hop Hos] with Hown
    · isplitr; · iexact HI
      isplitl [Hop]; · iexact Hop
      iexact Hos
    imodintro
    isplitl [H2]; · iexact H2
    isplitl [H49]
    · iapply (Entails.of_eq (table_held m c)) $$ H49
    isplitl [HO]
    · iapply (owesAt_first m c) $$ HO
    isplitl [Hb HT Hc Hown H1 H50]
    · iexists K
      unfold Given
      isplitr; · iexact HI
      isplitl [Hb]; · iexact Hb
      isplitl [HT]; · iexact HT
      isplitl [Hc]; · iexact Hc
      isplitl [Hown]; · iexact Hown
      isplitl [H1]; · iexact H1
      iexists _; iexact H50
    isplitl [Ha0]
    · iapply (Entails.of_eq (arg0_held m c)) $$ Ha0
    · iapply (Entails.of_eq (arg1_held m c)) $$ Ha1
  hin c := by
    rw [table_one, scopedRest0_eq]
    show _ ⊢ Phi m c true
    unfold Phi Scr
    rw [tab_whole]
  hout c := by
    rw [scopedRest0_eq]
    show Phi m c false ⊢ _
    unfold Phi Scr
    exact .rfl
  hexit c := by
    unfold Kept Tn
    iintro ⟨-, HO, ⟨%K, #HI, Hb, H50⟩, Ha0, Ha1⟩
    imod (close_bar m K c) $$ [Hb] with Hs
    · isplitr; · iexact HI
      iexact Hb
    ihave HO := (owesAt_out m c _) $$ HO
    imodintro
    isplitr [HO]
    · isplitl [Ha0]; · iexact Ha0
      isplitl [Ha1]; · iexact Ha1
      isplitl [H50]; · iexact H50
      iexact Hs
    iexact HO

end Cert.Proof
-- ==== Proof.Run.lean ====
/- The whole run on the 32 devices. -/
module

public import proofs.«01_k».proof.Proof.Region

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

variable (ρ : Dev nD → PrngReg)

/-- Distinct pipelines' staging cells are distinct. -/
theorem cells_inj : Function.Injective (Pipeline.PerCore.cellOf (nD := nD) (τ := τ) (Pipeline.pinD (pcfgs (F := F)) adm)) :=
  Pipeline.PerCore.cellOf_injective _ (fun c p => Pipeline.specSemsDistinct_of_nodup _ (match p with | 0 => semsDistinct 0))
    (fun _ p p' h => absurd (Subsingleton.elim p p') h)

/-- The launch element: the pipeline's own part, and the protocol's. -/
def begin₀ (F : FTy → Type) [FloatOps F] : UU :=
  (initOf (Pipeline.PerCore.cells (Pipeline.pinD (pcfgs (F := F)) adm) cells_inj) (Pipeline.PerCore.launchToks (Pipeline.pinD (pcfgs (F := F)) adm) cells_inj),
    launchOf cellsOpen cellsShut toks)

/-- A resource dealt to device 0 alone. -/
def lone (X : sProp 𝕄) (c : Dev nD) : sProp 𝕄 := if c = 0 then X else iprop(emp)

theorem lone_all (X : sProp 𝕄) : bigSep Finset.univ (lone X) = X := by
  rw [bigSep_univ_at (lone X) (0 : Dev nD), bigSep_congr (Φ := lone X) (Ψ := fun _ => (BI.emp : sProp 𝕄)) fun c hc => by
    unfold lone; rw [if_neg (Finset.ne_of_mem_erase hc)]; rfl, BI.bigSep_emp_const]
  unfold lone; rw [if_pos rfl]
  exact BI.equiv_iff.mp sep_emp

/-- What a device has at the very start. -/
abbrev T0 (c : Dev nD) : sProp 𝕄 := iprop(StableHlo.held (c : Thread nD τ) (Pipeline.ucRefs τ sig) (V0 m c) ∗ Bundle m c)

/-- What every device may read. -/
def Recs (K : GSem nD τ sig → ℕ) : sProp 𝕄 := iprop(Invs m K ∗ bigSep Finset.univ fun c : Dev nD => rch c .bar)
instance Recs_persistent (K : GSem nD τ sig → ℕ) : BI.Persistent (Recs m K) := by unfold Recs; infer_instance

/-- A device's own share of the launch. -/
def Mine (c : Dev nD) : sProp 𝕄 :=
  iprop(StableHlo.held (c : Thread nD τ) (Pipeline.ucRefs τ sig) (V0 m c) ∗ Pipeline.launchCred (fun d => O d 0) c ∗ owes (c : Thread nD τ) (O c 0) ∅)

theorem Recs_bar (K : GSem nD τ sig → ℕ) (c : Dev nD) : Recs m K ⊢ rch c .bar := by
  unfold Recs
  exact sep_elim_right.trans (bigSep_elim (Finset.mem_univ c))

theorem T0_intro (K : GSem nD τ sig → ℕ) (c : Dev nD) :
    iprop(Recs m K ∗ (Mine m c ∗ (pos0 c .bar ∗ (bigSep Finset.univ (fun k : Own => openTok ER (cel c (ownCel k))) ∗ Toks c)))) ⊢ T0 m c := by
  unfold Mine T0 Bundle
  iintro ⟨#HR, ⟨Hh, Hc, HO⟩, Hp, Ho, Ht⟩
  ihave #Hx := (Recs_bar m K (partner c)) $$ HR
  ihave #Hr := (Recs_bar m K (right c)) $$ HR
  ihave #Hl := (Recs_bar m K (left c)) $$ HR
  unfold Recs
  icases HR with ⟨#HI, -⟩
  isplitl [Hh]; · iexact Hh
  iexists K
  isplitr; · iexact HI
  isplitl [Hp]
  · isplitl [Hp]; · iexact Hp
    isplitr; · iexact Hx
    isplitr; · iexact Hr
    iexact Hl
  isplitl [Ht]; · iexact Ht
  isplitl [Hc]
  · iapply (crds c) $$ Hc
  isplitl [Ho]; · iexact Ho
  iexists ∅; iexact HO

theorem unscoped_bar (c : Dev nD) : (unscopedSems0 c : sProp 𝕄) = semVal (cel c .bar) 0 := by
  rw [unscopedSems0, show Finset.univ.filter (fun sm : SemLoc sig => ¬ sm.isScoped .tc) = {semOf .bar} from by decide, bigSep_singleton]

theorem dealt (c : Dev nD) : iprop(unscopedBufs c (fun b => m ((c : Thread nD τ).loc b)) ∗ unscopedSems0 c
      ∗ owes (c : Thread nD τ) (O c 0) ∅ ∗ Pipeline.launchCred (fun d => O d 0) c ∗ prngReg c (ρ c) ∗ lone (BI.own (ER (launchOf cellsOpen cellsShut toks))) c)
    ⊢ (iprop(Mine m c ∗ (semVal (cel c .bar) 0 ∗ lone (BI.own (ER (launchOf cellsOpen cellsShut toks))) c)) : sProp 𝕄) := by
  rw [show (unscopedBufs c (fun b => m ((c : Thread nD τ).loc b)) : sProp 𝕄) = StableHlo.held (c : Thread nD τ) (Pipeline.ucRefs τ sig) (V0 m c) from
    Pipeline.unscopedBufs_held c (V0 m c), unscoped_bar]
  unfold Mine
  iintro ⟨Hh, Hs, HO, Hc, -, HG⟩
  isplitl [Hh HO Hc]
  · isplitl [Hh]; · iexact Hh
    isplitl [Hc]; · iexact Hc
    iexact HO
  isplitl [Hs]; · iexact Hs
  iexact HG

theorem dealt_all : (bigSep Finset.univ fun c : Dev nD => iprop(unscopedBufs c (fun b => m ((c : Thread nD τ).loc b)) ∗ unscopedSems0 c
      ∗ owes (c : Thread nD τ) (O c 0) ∅ ∗ Pipeline.launchCred (fun d => O d 0) c ∗ prngReg c (ρ c) ∗ lone (BI.own (ER (launchOf cellsOpen cellsShut toks))) c))
    ⊢ (iprop(bigSep Finset.univ (fun c => Mine m c) ∗ bigSep cellsOpen (fun g => semVal g 0) ∗ BI.own (ER (launchOf cellsOpen cellsShut toks))) : sProp 𝕄) := by
  refine (bigSep_mono fun c _ => dealt m ρ c).trans ?_
  rw [bigSep_sep', bigSep_sep', lone_all, open_sep]
  exact BI.Entails.refl _

theorem gathered (K : GSem nD τ sig → ℕ) :
    iprop(Recs m K ∗ bigSep Finset.univ (fun c => Mine m c) ∗ bigSep cellsOpen (fun g => atPos ER g 0 ∅ 0) ∗ bigSep cellsShut (fun g => openTok ER g)
      ∗ bigSep toks (fun x => dutyTok ER x.1 x.2.1 x.2.2)) ⊢ (bigSep Finset.univ (T0 m) : sProp 𝕄) := by
  rw [open_sep, shut_sep, toks_sep, ← bigSep_sep', ← bigSep_sep', ← bigSep_sep']
  exact bigSep_with_persistent fun c _ => T0_intro m K c

theorem start_all :
    iprop((bigSep Finset.univ fun c : Dev nD => iprop(unscopedBufs c (fun b => m ((c : Thread nD τ).loc b)) ∗ unscopedSems0 c
      ∗ owes (c : Thread nD τ) (O c 0) ∅ ∗ Pipeline.launchCred (fun d => O d 0) c ∗ prngReg c (ρ c) ∗ lone (BI.own (ER (launchOf cellsOpen cellsShut toks))) c)) ∗ levAts L lv)
    ⊢ (|={Set.univ}=> bigSep Finset.univ (T0 m) : sProp 𝕄) := by
  iintro ⟨H, #HL⟩
  ihave H := (dealt_all m ρ) $$ H
  icases H with ⟨HM, Hv, Hu⟩
  imod (Rounds.fund_launch ER (sched m) cells_disjoint (fun g _ h => h) toks) $$ [Hv Hu] with ⟨%K, -, #Hinv, #Hr, Hat, Hopen, Htok⟩
  · isplitl [Hv]; · iexact Hv
    iexact Hu
  imodintro
  iapply (gathered m K)
  isplitr
  · unfold Recs Invs
    isplitr
    · isplitr; · iexact Hinv
      iexact HL
    iapply (Entails.of_eq (open_sep fun g => reached ER g 0)) $$ Hr
  isplitl [HM]; · iexact HM
  isplitl [Hat]; · iexact Hat
  isplitl [Hopen]; · iexact Hopen
  iexact Htok

/-- A device's two steps: the host's lines, the kernel. -/
def segs (c : Dev nD) : List (Pipeline.PerCore.Seg (pcfgs (F := F)) adm (dat m) () (defs₀ (F := F)) 𝒱₀ L lv) :=
  [.host (seg0 m 𝒱₀ L lv (fun _ => Bundle m) c), .region (reg m)]

theorem unscoped_is_bar : ∀ sm : SemLoc sig, sm.isScoped .tc = false → sm = semOf .bar := by decide

set_option backward.isDefEq.respectTransparency.types false in
/-- From any memory with all counters at zero, every fair run ends, with the arguments as they were, the result at `OUT`, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v50) = OUT m c) ∧ r.2.sem = fun _ => 0) :=
  Pipeline.PerCore.θ_run_regions_kit_sems (pcfgs (F := F)) adm (dat m) () cells_inj EP (defs₀ (F := F)) 𝒱₀ L lv m ρ main (segs m)
    (fun c Q => by
      rewrite [main_chain c, Pipeline.PerCore.Seg.run_eq_chain, show (segs m c).map Pipeline.PerCore.Seg.prog
        = [StableHlo.seq (hostOps0 c), Prog.lift (.customCall (Pipeline.entry 0) ())] from rfl]
      dsimp (config := {failIfUnchanged := false}) only; exact BI.Entails.refl _)
    (fun c => by simp only [segs, Pipeline.PerCore.Seg.pipes_host, Pipeline.PerCore.Seg.pipes_region, Pipeline.PerCore.Seg.pipes_nil]; decide)
    (O₀ := fun c => O c 0) (hL := L_of_ne) (G := lone (BI.own (ER (launchOf cellsOpen cellsShut toks)))) (u₀ := begin₀ F)
    (hu₀ := by
      unfold begin₀
      iintro Hu
      ihave H := (ownU_pair _ _) $$ Hu
      icases H with ⟨HP, HX⟩
      imodintro
      isplitl [HP]; · iexact HP
      rw [lone_all]; iexact HX)
    (T₀ := T0 m) (Tₙ := Tn m)
    (hch := fun c => ⟨BI.Entails.refl _, BI.Entails.refl _, BI.Entails.refl _⟩)
    (hinit := start_all m ρ)
    (QY := fun c s => s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v50) = OUT m c ∧ s.sem (cel c .bar) = 0)
    (hfin := fun c s' => by
      unfold Tn
      iintro ⟨⟨H0, H1, H50, Hb⟩, HSI⟩
      icombine HSI H0 gives %h0
      icombine HSI H1 gives %h1
      icombine HSI H50 gives %h50
      icombine HSI Hb gives %hb
      imodintro
      isplitr
      · ipureintro
        exact ⟨Buf.eq_of_forall_mem_univ h0, Buf.eq_of_forall_mem_univ h1, Buf.eq_of_forall_mem_univ h50, by simpa using hb⟩
      iexact HSI)
    (hQ := fun s h hs => ⟨fun c => ⟨(h c).1, (h c).2.1, (h c).2.2.1⟩,
      sem_eq_zero hs fun c sm hsm => by
        obtain rfl := unscoped_is_bar sm hsm
        exact (h c).2.2.2⟩)

end Cert.Proof
-- ==== Proof.Frames.lean ====
/- The frames over the reals: every fair run ends with the arguments as they were and every counter at zero. -/
module

public import proofs.«01_k».proof.Defs
public import proofs.«01_k».proof.Proof.Gen.Kernel
public import proofs.«01_k».proof.Proof.Gen.ReferenceIdeal
public import proofs.«01_k».proof.Proof.Gen.ReferenceIdeal.Run

public import proofs.«01_k».proof.Proof.Run
public import Idealize.ShloMosaic.Lib.Quiescent

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-- The kernel with real numbers. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference, which runs on the host alone and has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.FrameBits.lean ====
/- The frame with machine floats, from the run over any floats. -/
module

public import proofs.«01_k».proof.Defs
public import proofs.«01_k».proof.Proof.Gen.Kernel
public import proofs.«01_k».proof.Proof.Gen.ReferenceIdeal
public import proofs.«01_k».proof.Proof.Gen.ReferenceIdeal.Run

public import proofs.«01_k».proof.Proof.Run

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

set_option maxHeartbeats 40000000 in
set_option backward.isDefEq.respectTransparency false in
/-- The two texts have the same body. -/
theorem same_body : @Cert.Kernel.cc0_body Bits _ _ = @Cert.KernelIdeal.cc0_body Bits _ _ := by exact rfl

set_option maxHeartbeats 40000000 in
set_option backward.isDefEq.respectTransparency false in
/-- The two texts have the same function at every label. -/
theorem same_bodies : Cert.Kernel.defs₀ (F := Bits) = Cert.KernelIdeal.defs₀ (F := Bits) := by
  funext p ℓ a
  match p with
  | .tc =>
    match ℓ, a with
    | ⟨0, _⟩, (t, s) => exact rfl
    | ⟨_ + 1, h⟩, _ => exact absurd h (Nat.not_lt.2 (Nat.le_add_left _ _))
  | .scScalar _ => exact rfl
  | .scVector _ _ => exact rfl

set_option maxHeartbeats 40000000 in
set_option backward.isDefEq.respectTransparency false in
/-- The two texts have the same table of bodies. -/
theorem same_defs : Cert.Kernel.defs (F := Bits) = Cert.KernelIdeal.defs (F := Bits) :=
  congrArg (Pipeline.defs (Cert.KernelIdeal.pcfgs (F := Bits))) same_bodies

set_option maxHeartbeats 40000000 in
set_option backward.isDefEq.respectTransparency false in
/-- The two texts have the same host program. -/
theorem same_main : Cert.Kernel.main (F := Bits) = Cert.KernelIdeal.main (F := Bits) := by exact rfl

set_option maxHeartbeats 40000000 in
set_option backward.isDefEq.respectTransparency false in
/-- The kernel with machine floats: its text is the text of the kernel over the reals. -/
theorem frame_kernel : Cert.quiescent_Kernel := fun m ρ _ => by
  rw [same_defs, same_main]
  refine (θ_run Cert.KernelIdeal.defs _ _).mono (fun _ h => ?_) (run_main (F := Bits) m ρ)
  exact ⟨fun c => ⟨(h.1 c).1, (h.1 c).2.1⟩, h.2⟩

end Cert.Proof
-- ==== Proof.Norm.lean ====
/- The arithmetic of one row, over the reals: dividing by a square root is multiplying by its reciprocal. -/
module

public import proofs.«01_k».proof.Proof.Gen.KernelIdeal.Skeleton
public import proofs.«01_k».proof.Proof.Gen.ReferenceIdeal
public import Idealize.ShloMosaic.Lib.Pointwise

@[expose] public section

set_option maxRecDepth 65536

noncomputable section

namespace Cert.Proof

open Idealize.ShloMosaic Idealize.ShloMosaic.TcCoe Idealize.SL.Sem

/-- The word of the epsilon, and that of the row length, as numbers. -/
abbrev epsR : EReal := Ideal.ofBits FTy.f32 0x358637BD#32
abbrev lenR : EReal := Ideal.ofBits FTy.f32 0x45800000#32

theorem eps_eq : epsR = ((8796093 * (1 / 8796093022208) : ℝ) : EReal) := by
  simp [epsR, Ideal.ofBits, Ideal.ieee, -EReal.coe_mul]
  norm_num
theorem eps_pos : 0 < epsR := by
  rw [eps_eq, EReal.coe_pos]
  norm_num

theorem len_eq : lenR = ((4096 : ℝ) : EReal) := by
  simp [lenR, Ideal.ofBits, Ideal.ieee, -EReal.coe_mul]
  norm_num

theorem square_nonneg (y : EReal) : 0 ≤ y * y := by
  rcases le_total 0 y with h | h
  · exact mul_nonneg h h
  · rw [← neg_mul_neg]
    exact mul_nonneg (EReal.neg_nonneg.mpr h) (EReal.neg_nonneg.mpr h)

/-- The mean of the squares, with epsilon, is positive. -/
theorem mean_pos (y : Fin 4096 → EReal) : 0 < Ideal.div (∑ x, y x * y x) lenR + epsR := by
  rw [len_eq, Ideal.div_coe (by norm_num)]
  refine lt_of_lt_of_le eps_pos (le_add_of_nonneg_left (mul_nonneg (Finset.sum_nonneg fun x _ => square_nonneg (y x)) ?_))
  exact_mod_cast (by norm_num : (0 : ℝ) ≤ 1 / 4096)

theorem div_sqrt (y t : EReal) (h : 0 < t) : Ideal.div y (Ideal.sqrt t) = y * Ideal.rsqrt t := by
  induction t with
  | bot => exact absurd h (by simp)
  | top => simp [Ideal.div]
  | coe r =>
    have hr : 0 < r := by exact_mod_cast h
    have hs : Real.sqrt r ≠ 0 := (Real.sqrt_pos.mpr hr).ne'
    rw [Ideal.sqrt_coe, Ideal.rsqrt_coe, if_neg (not_lt.mpr hr.le), if_neg (not_lt.mpr hr.le), if_neg hr.ne', Ideal.div_coe hs, one_div]

/-- A row, normalised and scaled. -/
def normed (y : Fin 4096 → EReal) (g : EReal) (l : Fin 4096) : EReal :=
  y l * Ideal.rsqrt (Ideal.div (∑ x, y x * y x) lenR + epsR) * g

section
open Cert.KernelIdeal Cert.KernelIdeal.Gen

/-- A row of the block a device computes. -/
theorem block_row (a : FVec Ideal S128x4096 .f32) (b : FVec Ideal S1x128x4096 .bf16) (g : FVec Ideal S1x4096 .f32) (r : Fin 128) (l : Fin 4096) :
    k0_pay5 (F := Ideal) a b g (ix3 0 r l) = normed (fun x => a (ix2 r x) + b (ix3 0 r x)) (g (ix2 0 l)) l := by
  pointwise [k0_pay5, normed]

/-- A row of what a device sends. -/
theorem send_row (a : FVec Ideal S128x4096 .f32) (r : Fin 128) (l : Fin 4096) :
    k0_pay1 (F := Ideal) a (ix3 0 r l) = a (ix2 r l) := by
  pointwise [k0_pay1]

/-- The kernel's two reshapes of its operands. -/
theorem operand_row (a : FVec Ideal S1x8192x4096 .f32) (x : Fin 2) (r l : Fin 4096) :
    shapeCast S2x4096x4096 a shapeCasts_S1x8192x4096_S2x4096x4096 (ix3 x r l) = a (ix3 0 ⟨x.val * 4096 + r.val, by omega⟩ l) := by
  pointwise
theorem scale_row (a : FVec Ideal S4096 .f32) (l : Fin 4096) : shapeCast S1x4096 a shapeCasts_S4096_S1x4096 (ix2 0 l) = a (ix1 l) := by
  pointwise
end

section
open Cert.ReferenceIdeal Cert.ReferenceIdeal.Gen

/-- The reference's result as a term of its arguments. -/
def REF (X : FVec Ideal S2x8192x4096 .f32) (G : FVec Ideal S4096 .f32) : FVec Ideal S8192x4096 .bf16 :=
  truncf .bf16 (mulf (Host.divf (Host.reduceAdd X (constant S_ .f32 0x00000000#32) reducesTo_S2x8192x4096_S8192x4096_d0 h_S_) (broadcastInDim S8192x4096 ![0, 1] bcast_S8192x1_S8192x4096_0_1 (Host.sqrt (addf (Host.divf (broadcastInDim S8192x1 ![0] bcast_S8192_S8192x1_0 (Host.reduceAdd (mulf (Host.reduceAdd X (constant S_ .f32 0x00000000#32) reducesTo_S2x8192x4096_S8192x4096_d0 h_S_) (Host.reduceAdd X (constant S_ .f32 0x00000000#32) reducesTo_S2x8192x4096_S8192x4096_d0 h_S_)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 G))) bitsLt_bf16_f32

/-- A row of the reference's result. -/
theorem ref_row (X : FVec Ideal S2x8192x4096 .f32) (G : FVec Ideal S4096 .f32) (R : Fin 8192) (l : Fin 4096) :
    REF X G (ix2 R l) = normed (fun x => ∑ k : Fin 2, X (ix3 k R x)) (G (ix1 l)) l := by
  pointwise [REF, normed]
  rw [div_sqrt _ _ (mean_pos fun x => ∑ k : Fin 2, X (ix3 k R x))]
end

end Cert.Proof
-- ==== Proof.Value.lean ====
/- The result array over the reals, row by row. -/
module

public import proofs.«01_k».proof.Proof.Host
public import proofs.«01_k».proof.Proof.Norm

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ UU ℕ

variable (m : (ℓ : Loc nD τ sig) → Buf (Elt Ideal) ℓ) (K : GSem nD τ sig → ℕ)

open Idealize.ShloMosaic (ix1 ix2)

/-- The library's three-coordinate index is this proof's. -/
theorem ix_same {n0 n1 n2 : Nat} (a : Fin n0) (b : Fin n1) (c : Fin n2) :
    (ix3 (d := ![n0, n1, n2]) a b c : (⟨3, ![n0, n1, n2]⟩ : Shape).Idx) = Idealize.ShloMosaic.ix3 a b c :=
  Shape.idx3_ext rfl rfl rfl

theorem half5_row (s : Fin 2) (f : S256x4096.Idx → EReal) (r : Fin 128) (l : Fin 4096) :
    half5 (F := Ideal) s f (ix2 r l) = f (ix2 ⟨128 * s.val + r.val, by omega⟩ l) := by
  show f ((Rect.unit (s := S256x4096) ![128 * s.val, 0] S128x4096.size (inb_half s)).emb (ix2 r l)) = _
  congr 1
  funext a
  match a with
  | 0 => exact Fin.ext (show 128 * s.val + 1 * r.val = 128 * s.val + r.val by omega)
  | 1 => exact Fin.ext (show 0 + 1 * l.val = l.val by omega)

theorem halfR_row (s : Fin 2) (f : S2x128x4096.Idx → EReal) (r : Fin 128) (l : Fin 4096) :
    halfR (F := Ideal) s f (Idealize.ShloMosaic.ix3 0 r l) = f (Idealize.ShloMosaic.ix3 s r l) := by
  show f ((Rect.unit (s := S2x128x4096) ![s.val, 0, 0] S1x128x4096.size (inb_two s)).emb (Idealize.ShloMosaic.ix3 0 r l)) = _
  congr 1
  refine Shape.idx3_ext ?_ ?_ ?_
  · show s.val + 1 * 0 = s.val; omega
  · show 0 + 1 * r.val = r.val; omega
  · show 0 + 1 * l.val = l.val; omega

/-- 256 rows of the operand's half `x`. -/
theorem in_row (x : Fin 2) (p : Fin 16) (f : S2x4096x4096.Idx → EReal) (r : Fin 256) (l : Fin 4096) :
    (inM x p).view.read (Elt Ideal) f (ix2 r l) = f (Idealize.ShloMosaic.ix3 x ⟨256 * p.val + r.val, by omega⟩ l) := by
  show f ((Rect.unit (s := S2x4096x4096) ![x.val, 256 * p.val, 0] S1x256x4096.size (inb_in x p)).emb
        (Shape.reshapeEquiv (squeezes_S1x256x4096_S256x4096).numel_eq (ix2 r l))) = _
  rw [show Shape.reshapeEquiv (s := S1x256x4096) (s' := S256x4096) (squeezes_S1x256x4096_S256x4096).numel_eq (ix2 r l)
      = Fin.cons (α := fun a => Fin (S1x256x4096.size a)) ⟨0, Nat.one_pos⟩ (ix2 r l) from Shape.reshapeEquiv_cons_one _ (ix2 r l)]
  congr 1
  refine Shape.idx3_ext ?_ ?_ ?_
  · show x.val + 1 * 0 = x.val; omega
  · show 256 * p.val + 1 * r.val = 256 * p.val + r.val; omega
  · show 0 + 1 * l.val = l.val; omega

/-- What a device's partner sent it. -/
theorem XS_row (c : Dev nD) (s : Fin 2) (r : Fin 128) (l : Fin 4096) :
    XS m c (Idealize.ShloMosaic.ix3 s r l) = PV m c (Idealize.ShloMosaic.ix3 (1 - grp c) ⟨256 * (pos c).val + (128 * s.val + r.val), by omega⟩ l) := by
  show k0_pay1 (F := Ideal) (half5 s (K6 m c)) (ix3 (d := ![1, 128, 4096]) (0 : Fin 1) r l) = _
  rw [ix_same, send_row, half5_row]
  exact in_row _ _ _ _ _

/-- A row of the block device `c` computes, over the operands as the host code leaves them. -/
theorem BLK_row (c : Dev nD) (s : Fin 2) (r : Fin 128) (l : Fin 4096) :
    BLK m c s (Idealize.ShloMosaic.ix3 0 r l) = normed (fun x =>
      PV m c (Idealize.ShloMosaic.ix3 (grp c) ⟨256 * (pos c).val + (128 * s.val + r.val), by omega⟩ x)
        + PV m (partner c) (Idealize.ShloMosaic.ix3 (grp c) ⟨256 * (pos c).val + (128 * s.val + r.val), by omega⟩ x)) (GM m c (ix2 0 l)) l := by
  unfold BLK
  rw [block_row]
  refine congrArg (fun y => normed y (GM m c (ix2 0 l)) l) (funext fun x => ?_)
  rw [half5_row, halfR_row, XS_row]
  refine congrArg₂ (· + ·) (in_row _ _ _ _ _) ?_
  have hg : 1 - grp (partner c) = grp c := by revert c; decide +kernel
  rw [hg]
  exact congrArg (fun q => PV m (partner c) (Idealize.ShloMosaic.ix3 (grp c) q x))
    (Fin.ext (show 256 * (pos (partner c)).val + (128 * s.val + r.val) = 256 * (pos c).val + (128 * s.val + r.val) by rw [pos_partner]))

/-- Who computes row `R` of the group `x`'s half, and where in its own rows that is. -/
theorem owner_row (x : Fin 2) (R : Fin 4096) : 256 * (pos (ownerOf x ⟨R.val / 128, by omega⟩)).val
      + (128 * (subOf ⟨R.val / 128, by omega⟩).val + R.val % 128) = R.val := by
  unfold ownerOf subOf
  rw [pos_devAt]
  show 256 * (R.val / 128 / 2) + (128 * (R.val / 128 % 2) + R.val % 128) = R.val
  omega

/-- A row of the result. -/
theorem OUT_row (c : Dev nD) (R l : Fin 4096) :
    ∃ d, grp d = grp c ∧ OUT m c (ix2 R l) = normed (fun x =>
      PV m d (Idealize.ShloMosaic.ix3 (grp c) R x) + PV m (partner d) (Idealize.ShloMosaic.ix3 (grp c) R x)) (GM m d (ix2 0 l)) l := by
  refine ⟨ownerOf (grp c) ⟨R.val / 128, by omega⟩, grp_devAt _ _, ?_⟩
  show BLK m (ownerOf (grp c) ⟨R.val / 128, by omega⟩) (subOf ⟨R.val / 128, by omega⟩)
    (ix3 (d := ![1, 128, 4096]) (0 : Fin 1) (⟨R.val % 128, by omega⟩ : Fin 128) l) = _
  rw [ix_same, BLK_row, show grp (ownerOf (grp c) ⟨R.val / 128, by omega⟩) = grp c from grp_devAt _ _]
  have hR : (⟨256 * (pos (ownerOf (grp c) ⟨R.val / 128, by omega⟩)).val
      + (128 * (subOf ⟨R.val / 128, by omega⟩).val + (⟨R.val % 128, by omega⟩ : Fin 128).val), by
        have := owner_row (grp c) R; simp only at this ⊢; omega⟩ : Fin 4096) = R := Fin.ext (owner_row (grp c) R)
  rw [hR]

end Cert.Proof
-- ==== Proof.Algebra.lean ====
/- The kernel's result is the reference's, block by block, over the reals. -/
module

public import proofs.«01_k».proof.Defs
public import proofs.«01_k».proof.Proof.Gen.Kernel
public import proofs.«01_k».proof.Proof.Gen.ReferenceIdeal
public import proofs.«01_k».proof.Proof.Gen.ReferenceIdeal.Run

public import proofs.«01_k».proof.Proof.Run
public import proofs.«01_k».proof.Proof.Value

@[expose] public section

set_option maxRecDepth 65536

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ UU ℕ

variable (m : (ℓ : Loc nD τ sig) → Buf (Elt Ideal) ℓ) (K : GSem nD τ sig → ℕ)

open Idealize.ShloMosaic (ix1 ix2)

/-- The part of the first argument that device `c` holds, of the result that it must hold. -/
abbrev argBlock (c : Dev nD) (X : Cert.ReferenceIdeal.S2x8192x4096.Idx → EReal) : S1x8192x4096.Idx → EReal :=
  Layout.blockN ⟨3, ![1, 8192, 4096]⟩ ⟨3, ![2, 8192, 4096]⟩ (Layout.meshBlock [2, 4, 4] ![[0], [], []] c) X
abbrev resBlock (c : Dev nD) (Y : Cert.ReferenceIdeal.S8192x4096.Idx → EReal) : S4096x4096.Idx → EReal :=
  Layout.blockN ⟨2, ![4096, 4096]⟩ ⟨2, ![8192, 4096]⟩ (Layout.meshBlock [2, 4, 4] ![[0], []] c) Y

theorem arg_at : ∀ c : Dev nD, ((Layout.meshBlock [2, 4, 4] ![[0], [], []] c : (b : Fin 3) → _) 0).val = (grp c).val
    ∧ ((Layout.meshBlock [2, 4, 4] ![[0], [], []] c : (b : Fin 3) → _) 1).val = 0
    ∧ ((Layout.meshBlock [2, 4, 4] ![[0], [], []] c : (b : Fin 3) → _) 2).val = 0 := by decide +kernel
theorem res_at : ∀ c : Dev nD, ((Layout.meshBlock [2, 4, 4] ![[0], []] c : (b : Fin 2) → _) 0).val = (grp c).val
    ∧ ((Layout.meshBlock [2, 4, 4] ![[0], []] c : (b : Fin 2) → _) 1).val = 0 := by decide +kernel

theorem argBlock_row (c : Dev nD) (X : Cert.ReferenceIdeal.S2x8192x4096.Idx → EReal) (R : Fin 8192) (l : Fin 4096) :
    argBlock c X (Idealize.ShloMosaic.ix3 0 R l) = X (Idealize.ShloMosaic.ix3 (grp c) R l) := by
  obtain ⟨h0, h1, h2⟩ := arg_at c
  refine congrArg X (Shape.idx3_ext ?_ ?_ ?_)
  · exact (congrArg (fun q => q * 1 + 0) h0).trans (Nat.mul_one (grp c).val)
  · exact (congrArg (fun q => q * 8192 + R.val) h1).trans (show 0 * 8192 + R.val = R.val by omega)
  · exact (congrArg (fun q => q * 4096 + l.val) h2).trans (show 0 * 4096 + l.val = l.val by omega)

theorem resBlock_row (c : Dev nD) (Y : Cert.ReferenceIdeal.S8192x4096.Idx → EReal) (R l : Fin 4096) :
    resBlock c Y (ix2 R l) = Y (ix2 ⟨(grp c).val * 4096 + R.val, by omega⟩ l) := by
  obtain ⟨h0, h1⟩ := res_at c
  refine congrArg Y (funext fun a => Fin.ext ?_)
  match a with
  | 0 => exact congrArg (fun q => q * 4096 + R.val) h0
  | 1 => exact (congrArg (fun q => q * 4096 + l.val) h1).trans (show 0 * 4096 + l.val = l.val by omega)

/-- The two halves of a sum over the groups, in either order. -/
theorem sum_groups (x : Fin 2) (f : Fin 2 → EReal) : f x + f (1 - x) = ∑ k, f k := by
  rw [Fin.sum_univ_two]
  match x with
  | 0 => rfl
  | 1 => exact add_comm _ _

variable (X : FVec Ideal Cert.ReferenceIdeal.S2x8192x4096 .f32) (G : FVec Ideal S4096 .f32)

theorem PV_row (hX : ∀ c : Dev nD, m ((c.tc : Thread nD τ).loc main_arg0) = argBlock c X) (c : Dev nD) (x : Fin 2) (R l : Fin 4096) :
    PV m c (Idealize.ShloMosaic.ix3 x R l) = X (Idealize.ShloMosaic.ix3 (grp c) ⟨x.val * 4096 + R.val, by omega⟩ l) := by
  refine (congrFun (rows_value m c) _).trans ?_
  refine (operand_row _ x R l).trans ?_
  refine (congrFun (hX c) _).trans ?_
  exact argBlock_row c X _ l

theorem GM_row (hG : ∀ c : Dev nD, m ((c.tc : Thread nD τ).loc main_arg1) = G) (c : Dev nD) (l : Fin 4096) :
    GM m c (ix2 0 l) = G (ix1 l) := by
  refine (congrFun (scale_value m c) _).trans ?_
  refine (scale_row _ l).trans ?_
  exact congrFun (hG c) _

theorem OUT_value_row (hX : ∀ c : Dev nD, m ((c.tc : Thread nD τ).loc main_arg0) = argBlock c X)
    (hG : ∀ c : Dev nD, m ((c.tc : Thread nD τ).loc main_arg1) = G) (c : Dev nD) (R l : Fin 4096) :
    OUT m c (ix2 R l) = resBlock c (REF X G) (ix2 R l) := by
  obtain ⟨d, hd, h⟩ := OUT_row m c R l
  rw [h, resBlock_row, ref_row, GM_row m G hG]
  refine congrArg (fun y => normed y (G (ix1 l)) l) (funext fun x => ?_)
  rw [PV_row m X hX, PV_row m X hX, ← sum_groups (grp c), hd, show grp (partner d) = 1 - grp d from grp_devAt _ _, hd]

/-- Each device ends with its block of the reference's result. -/
theorem OUT_value (hX : ∀ c : Dev nD, m ((c.tc : Thread nD τ).loc main_arg0) = argBlock c X)
    (hG : ∀ c : Dev nD, m ((c.tc : Thread nD τ).loc main_arg1) = G) (c : Dev nD) : OUT m c = resBlock c (REF X G) :=
  funext fun i => by
    have h := OUT_value_row m X G hX hG c (i 0) (i 1)
    rwa [← Idealize.ShloMosaic.eq_ix2 i] at h

/-- Over the reals, the 32 devices' results are the blocks of the reference's result. -/
theorem algebraic : Cert.algebraic_KernelIdeal_ReferenceIdeal := by
  intro m g m' g' _ h
  refine ⟨REF (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ r c => ⟨(r.1 c).2.2.trans ?_, (r.1 c).1, (r.1 c).2.1⟩) (run_main (F := Ideal) m g)
    exact OUT_value m _ _ (fun c => (h c).1) (fun c => (h c).2) c
  · exact (θ_run Cert.ReferenceIdeal.defs _ _).mono (fun _ r => r 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Frames
public import proofs.«01_k».proof.Proof.FrameBits
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_ideal, frame_reference, trivial, algebraic⟩

end Cert.Proof

end
